-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_below_infinity [hPre_below_infinity : Cert.Pre_below_infinity.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_below_infinity.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_below_infinity [hPre_below_infinity : Cert.Pre_below_infinity.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_below_infinity.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_below_infinity_kv [hPre_below_infinity_kv : Cert.Pre_below_infinity_kv.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_below_infinity_kv.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_below_infinity_kv [hPre_below_infinity_kv : Cert.Pre_below_infinity_kv.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_below_infinity_kv.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_below_infinity [hKernel5Ideal : Cert.Kernel5Ideal.Facts] [hPre_below_infinity : Cert.Pre_below_infinity.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_below_infinity m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_below_infinity [hReference5Ideal : Cert.Reference5Ideal.Facts] [hPre_below_infinity : Cert.Pre_below_infinity.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_below_infinity m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_below_infinity_kv [hKernel6Ideal : Cert.Kernel6Ideal.Facts] [hPre_below_infinity_kv : Cert.Pre_below_infinity_kv.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_below_infinity_kv m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_below_infinity_kv [hReference6Ideal : Cert.Reference6Ideal.Facts] [hPre_below_infinity_kv : Cert.Pre_below_infinity_kv.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_below_infinity_kv m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_decays [hKernelIdeal : Cert.KernelIdeal.Facts] [hReferenceIdeal : Cert.ReferenceIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_v59) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v52) = v1 c
          ∧ r.2.mem ((c.tc : Thread Cert.Reference3Ideal.nD Cert.Reference3Ideal.τ).loc Cert.Reference3Ideal.main_v54) = v2 c
          ∧ r.2.mem ((c.tc : Thread Cert.Reference3Ideal.nD Cert.Reference3Ideal.τ).loc Cert.Reference3Ideal.main_v56) = v3 c
          ∧ r.2.mem ((c.tc : Thread Cert.Reference3Ideal.nD Cert.Reference3Ideal.τ).loc Cert.Reference3Ideal.main_v40) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_below_infinity [hKernel5Ideal : Cert.Kernel5Ideal.Facts] [hReference5Ideal : Cert.Reference5Ideal.Facts] [hPre_below_infinity : Cert.Pre_below_infinity.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_below_infinity m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_below_infinity_kv [hKernel6Ideal : Cert.Kernel6Ideal.Facts] [hReference6Ideal : Cert.Reference6Ideal.Facts] [hPre_below_infinity_kv : Cert.Pre_below_infinity_kv.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_below_infinity_kv m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_decays : Cert.Pre_decays.Facts) (hPre_below_infinity : Cert.Pre_below_infinity.Facts) (hPre_below_infinity_kv : Cert.Pre_below_infinity_kv.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_below_infinity (hKernel5Ideal := hKernel5Ideal) (hPre_below_infinity := hPre_below_infinity)
    ∧ quiescent_Reference5Ideal (hReference5Ideal := hReference5Ideal)
    ∧ quiescent_Reference5Ideal_pre_below_infinity (hReference5Ideal := hReference5Ideal) (hPre_below_infinity := hPre_below_infinity)
    ∧ quiescent_Kernel6 (hKernel6 := hKernel6)
    ∧ quiescent_Kernel6Ideal (hKernel6Ideal := hKernel6Ideal)
    ∧ quiescent_Kernel6Ideal_pre_below_infinity_kv (hKernel6Ideal := hKernel6Ideal) (hPre_below_infinity_kv := hPre_below_infinity_kv)
    ∧ quiescent_Reference6Ideal (hReference6Ideal := hReference6Ideal)
    ∧ quiescent_Reference6Ideal_pre_below_infinity_kv (hReference6Ideal := hReference6Ideal) (hPre_below_infinity_kv := hPre_below_infinity_kv)
    ∧ preserves_Kernel_KernelIdeal
    ∧ algebraic_KernelIdeal_ReferenceIdeal_pre_decays (hKernelIdeal := hKernelIdeal) (hReferenceIdeal := hReferenceIdeal) (hPre_decays := hPre_decays)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_below_infinity (hKernel5Ideal := hKernel5Ideal) (hReference5Ideal := hReference5Ideal) (hPre_below_infinity := hPre_below_infinity)
    ∧ preserves_Kernel6_Kernel6Ideal
    ∧ algebraic_Kernel6Ideal_Reference6Ideal_pre_below_infinity_kv (hKernel6Ideal := hKernel6Ideal) (hReference6Ideal := hReference6Ideal) (hPre_below_infinity_kv := hPre_below_infinity_kv)
-- ==== Pre_below_infinity.lean ====
abbrev S8x1024 : Shape := ⟨2, ![8, 1024]⟩
abbrev S2x1024x3072 : Shape := ⟨3, ![2, 1024, 3072]⟩
abbrev S2x3072 : Shape := ⟨2, ![2, 3072]⟩
abbrev S_ : Shape := ⟨0, ![]⟩

class Facts : Prop where
  bcast_S_S8x1024 : S_.BroadcastsInDim S8x1024 (![] : Fin 0 → Fin S8x1024.rank)

variable [Facts]

def fn {F : FTy → Type} [FloatOps F] (main_arg0 : FVec F S8x1024 .f32) (main_arg1 : FVec F S2x1024x3072 .f32) (main_arg2 : FVec F S2x3072 .f32) : IVec S8x1024 1 :=
  let main_cst : FVec F S_ .f32 := constant S_ .f32 0x7F800000#32
  let main_v0 : FVec F S8x1024 .f32 := broadcastInDim S8x1024 ![] bcast_S_S8x1024 main_cst
  let main_v1 : IVec S8x1024 1 := cmpf .olt main_arg0 main_v0
  main_v1
-- ==== Pre_below_infinity_kv.lean ====
abbrev S8x1024 : Shape := ⟨2, ![8, 1024]⟩
abbrev S1024x2048 : Shape := ⟨2, ![1024, 2048]⟩
abbrev S2048 : Shape := ⟨1, ![2048]⟩
abbrev S_ : Shape := ⟨0, ![]⟩

class Facts : Prop where
  bcast_S_S8x1024 : S_.BroadcastsInDim S8x1024 (![] : Fin 0 → Fin S8x1024.rank)

variable [Facts]

def fn {F : FTy → Type} [FloatOps F] (main_arg0 : FVec F S8x1024 .f32) (main_arg1 : FVec F S1024x2048 .f32) (main_arg2 : FVec F S2048 .f32) : IVec S8x1024 1 :=
  let main_cst : FVec F S_ .f32 := constant S_ .f32 0x7F800000#32
  let main_v0 : FVec F S8x1024 .f32 := broadcastInDim S8x1024 ![] bcast_S_S8x1024 main_cst
  let main_v1 : IVec S8x1024 1 := cmpf .olt main_arg0 main_v0
  main_v1
-- ==== Pre_decays.lean ====
abbrev S16384x512 : Shape := ⟨2, ![16384, 512]⟩
abbrev S16384x1024 : Shape := ⟨2, ![16384, 1024]⟩
abbrev S256x512 : Shape := ⟨2, ![256, 512]⟩
abbrev S8x1x3072 : Shape := ⟨3, ![8, 1, 3072]⟩
abbrev S1x256 : Shape := ⟨2, ![1, 256]⟩
abbrev S1024x1024 : Shape := ⟨2, ![1024, 1024]⟩
abbrev S_ : Shape := ⟨0, ![]⟩

class Facts : Prop where
  bcast_S_S256x512 : S_.BroadcastsInDim S256x512 (![] : Fin 0 → Fin S256x512.rank)

variable [Facts]

def fn {F : FTy → Type} [FloatOps F] (main_arg0 : FVec F S16384x512 .bf16) (main_arg1 : FVec F S16384x512 .bf16) (main_arg2 : FVec F S16384x1024 .bf16) (main_arg3 : FVec F S256x512 .f32) (main_arg4 : FVec F S16384x1024 .bf16) (main_arg5 : FVec F S16384x1024 .f32) (main_arg6 : FVec F S8x1x3072 .f32) (main_arg7 : FVec F S1x256 .f32) (main_arg8 : FVec F S1024x1024 .f32) : IVec S256x512 1 :=
  let main_cst : FVec F S_ .f32 := constant S_ .f32 0x00000000#32
  let main_v0 : FVec F S256x512 .f32 := broadcastInDim S256x512 ![] bcast_S_S256x512 main_cst
  let main_v1 : IVec S256x512 1 := cmpf .oge main_arg3 main_v0
  let main_cst_0 : FVec F S_ .f32 := constant S_ .f32 0x7F800000#32
  let main_v2 : FVec F S256x512 .f32 := broadcastInDim S256x512 ![] bcast_S_S256x512 main_cst_0
  let main_v3 : IVec S256x512 1 := cmpf .olt main_arg3 main_v2
  let main_v4 : IVec S256x512 1 := andi main_v1 main_v3
  main_v4
-- ==== Kernel.lean ====
abbrev S16384x512 : Shape := ⟨2, ![16384, 512]⟩
abbrev S16384x1024 : Shape := ⟨2, ![16384, 1024]⟩
abbrev S256x512 : Shape := ⟨2, ![256, 512]⟩
abbrev S8x1x3072 : Shape := ⟨3, ![8, 1, 3072]⟩
abbrev S1x256 : Shape := ⟨2, ![1, 256]⟩
abbrev S1024x1024 : Shape := ⟨2, ![1024, 1024]⟩
abbrev S1024x512 : Shape := ⟨2, ![1024, 512]⟩
abbrev S16x512 : Shape := ⟨2, ![16, 512]⟩
abbrev S1x1x3072 : Shape := ⟨3, ![1, 1, 3072]⟩
abbrev S4x128x256 : Shape := ⟨3, ![4, 128, 256]⟩
abbrev S64x64 : Shape := ⟨2, ![64, 64]⟩
abbrev S64x128 : Shape := ⟨2, ![64, 128]⟩
abbrev S64x256 : Shape := ⟨2, ![64, 256]⟩
abbrev S16x128 : Shape := ⟨2, ![16, 128]⟩
abbrev S128x16 : Shape := ⟨2, ![128, 16]⟩
abbrev S1x128x256 : Shape := ⟨3, ![1, 128, 256]⟩
abbrev S128x256 : Shape := ⟨2, ![128, 256]⟩
abbrev S128x64 : Shape := ⟨2, ![128, 64]⟩
abbrev S64x192 : Shape := ⟨2, ![64, 192]⟩
abbrev S192x256 : Shape := ⟨2, ![192, 256]⟩
abbrev S128x1 : Shape := ⟨2, ![128, 1]⟩
abbrev S64 : Shape := ⟨1, ![64]⟩
abbrev S64x1 : Shape := ⟨2, ![64, 1]⟩
abbrev S64x1024 : Shape := ⟨2, ![64, 1024]⟩
abbrev S1x1x1024 : Shape := ⟨3, ![1, 1, 1024]⟩
abbrev S1x1024 : Shape := ⟨2, ![1, 1024]⟩

abbrev nBuf : Space → Nat
  | .hbm => 10
  | .vmem => 21
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .bf16⟩
  | .hbm, ⟨3, _⟩ => ⟨S256x512, .f32⟩
  | .hbm, ⟨4, _⟩ => ⟨S16384x1024, .bf16⟩
  | .hbm, ⟨5, _⟩ => ⟨S16384x1024, .f32⟩
  | .hbm, ⟨6, _⟩ => ⟨S8x1x3072, .f32⟩
  | .hbm, ⟨7, _⟩ => ⟨S1x256, .f32⟩
  | .hbm, ⟨8, _⟩ => ⟨S1024x1024, .f32⟩
  | .hbm, ⟨9, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S16x512, .f32⟩
  | .local _ .vmem, ⟨7, _⟩ => ⟨S16x512, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1x1x3072, .f32⟩
  | .local _ .vmem, ⟨13, _⟩ => ⟨S1x1x3072, .f32⟩
  | .local _ .vmem, ⟨14, _⟩ => ⟨S1x256, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S4x128x256, .f32⟩
  | .local _ .vmem, ⟨19, _⟩ => ⟨S1024x1024, .bf16⟩
  | .local _ .vmem, ⟨20, _⟩ => ⟨S1024x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x512 : Shape := ⟨2, ![16384, 512]⟩
abbrev S16384x1024 : Shape := ⟨2, ![16384, 1024]⟩
abbrev S256x512 : Shape := ⟨2, ![256, 512]⟩
abbrev S8x1x3072 : Shape := ⟨3, ![8, 1, 3072]⟩
abbrev S1x256 : Shape := ⟨2, ![1, 256]⟩
abbrev S1024x1024 : Shape := ⟨2, ![1024, 1024]⟩
abbrev S8x32x4x128 : Shape := ⟨4, ![8, 32, 4, 128]⟩
abbrev S8x4x32x128 : Shape := ⟨4, ![8, 4, 32, 128]⟩
abbrev S8x32x64x4x128 : Shape := ⟨5, ![8, 32, 64, 4, 128]⟩
abbrev S8x4x32x64x128 : Shape := ⟨5, ![8, 4, 32, 64, 128]⟩
abbrev S8x4x32x1x128 : Shape := ⟨5, ![8, 4, 32, 1, 128]⟩
abbrev S8x32x64x4x256 : Shape := ⟨5, ![8, 32, 64, 4, 256]⟩
abbrev S8x4x32x64x256 : Shape := ⟨5, ![8, 4, 32, 64, 256]⟩
abbrev S8x4x32x128x256 : Shape := ⟨5, ![8, 4, 32, 128, 256]⟩
abbrev S_ : Shape := ⟨0, ![]⟩
abbrev S8x4x128x256 : Shape := ⟨4, ![8, 4, 128, 256]⟩
abbrev S32x8x4x128 : Shape := ⟨4, ![32, 8, 4, 128]⟩
abbrev S32x8x4x128x256 : Shape := ⟨5, ![32, 8, 4, 128, 256]⟩
abbrev S1x8x4x128 : Shape := ⟨4, ![1, 8, 4, 128]⟩
abbrev S8x4x128 : Shape := ⟨3, ![8, 4, 128]⟩
abbrev S1x8x4x128x256 : Shape := ⟨5, ![1, 8, 4, 128, 256]⟩
abbrev S8x4x128x1 : Shape := ⟨4, ![8, 4, 128, 1]⟩
abbrev S64x64 : Shape := ⟨2, ![64, 64]⟩
abbrev S8x4x32x64x64 : Shape := ⟨5, ![8, 4, 32, 64, 64]⟩
abbrev S8x2048x4x256 : Shape := ⟨4, ![8, 2048, 4, 256]⟩
abbrev S8x2048x4 : Shape := ⟨3, ![8, 2048, 4]⟩
abbrev S8x2048x4x1 : Shape := ⟨4, ![8, 2048, 4, 1]⟩
abbrev S256 : Shape := ⟨1, ![256]⟩
abbrev S1x1x1x256 : Shape := ⟨4, ![1, 1, 1, 256]⟩
abbrev S8x2048x1024 : Shape := ⟨3, ![8, 2048, 1024]⟩
abbrev S8x1x1024 : Shape := ⟨3, ![8, 1, 1024]⟩

abbrev nBuf : Space → Nat
  | .hbm => 127
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .bf16⟩
  | .hbm, ⟨3, _⟩ => ⟨S256x512, .f32⟩
  | .hbm, ⟨4, _⟩ => ⟨S16384x1024, .bf16⟩
  | .hbm, ⟨5, _⟩ => ⟨S16384x1024, .f32⟩
  | .hbm, ⟨6, _⟩ => ⟨S8x1x3072, .f32⟩
  | .hbm, ⟨7, _⟩ => ⟨S1x256, .f32⟩
  | .hbm, ⟨8, _⟩ => ⟨S1024x1024, .f32⟩
  | .hbm, ⟨9, _⟩ => ⟨S8x32x4x128, .f32⟩
  | .hbm, ⟨10, _⟩ => ⟨S8x4x32x128, .f32⟩
  | .hbm, ⟨11, _⟩ => ⟨S16384x512, .f32⟩
  | .hbm, ⟨12, _⟩ => ⟨S8x32x64x4x128, .f32⟩
  | .hbm, ⟨13, _⟩ => ⟨S8x4x32x64x128, .f32⟩
  | .hbm, ⟨14, _⟩ => ⟨S8x4x32x1x128, .f32⟩
  | .hbm, ⟨15, _⟩ => ⟨S8x4x32x64x128, .f32⟩
  | .hbm, ⟨16, _⟩ => ⟨S8x4x32x64x128, .f32⟩
  | .hbm, ⟨17, _⟩ => ⟨S16384x1024, .f32⟩
  | .hbm, ⟨18, _⟩ => ⟨S8x32x64x4x256, .f32⟩
  | .hbm, ⟨19, _⟩ => ⟨S8x4x32x64x256, .f32⟩
  | .hbm, ⟨20, _⟩ => ⟨S8x4x32x128x256, .f32⟩
  | .hbm, ⟨21, _⟩ => ⟨S_, .f32⟩
  | .hbm, ⟨22, _⟩ => ⟨S8x4x128x256, .f32⟩
  | .hbm, ⟨23, _⟩ => ⟨S32x8x4x128, .f32⟩
  | .hbm, ⟨24, _⟩ => ⟨S32x8x4x128x256, .f32⟩
  | .hbm, ⟨25, _⟩ => ⟨S_, .f32⟩
  | .hbm, ⟨26, _⟩ => ⟨S32x8x4x128x256, .f32⟩
  | .hbm, ⟨27, _⟩ => ⟨S_, .i32⟩
  | .hbm, ⟨28, _⟩ => ⟨S32x8x4x128, .f32⟩
  | .hbm, ⟨29, _⟩ => ⟨S32x8x4x128x256, .f32⟩
  | .hbm, ⟨30, _⟩ => ⟨S_, .i32⟩
  | .hbm, ⟨31, _⟩ => ⟨S8x4x128x256, .f32⟩
  | .hbm, ⟨32, _⟩ => ⟨S32x8x4x128x256, .f32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x8x4x128, .f32⟩
  | .hbm, ⟨39, _⟩ => ⟨S8x4x128, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x8x4x128x256, .f32⟩
  | .hbm, ⟨45, _⟩ => ⟨S8x4x128x256, .f32⟩
  | .hbm, ⟨46, _⟩ => ⟨S8x4x128x1, .f32⟩
  | .hbm, ⟨47, _⟩ => ⟨S8x4x128x256, .f32⟩
  | .hbm, ⟨48, _⟩ => ⟨S8x4x128x256, .f32⟩
  | .hbm, ⟨49, _⟩ => ⟨S8x4x128x256, .f32⟩
  | .hbm, ⟨50, _⟩ => ⟨S1x8x4x128x256, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S32x8x4x128x256, .f32⟩
  | .hbm, ⟨56, _⟩ => ⟨S_, .i32⟩
  | .hbm, ⟨57, _⟩ => ⟨S_, .i32⟩
  | .hbm, ⟨58, _⟩ => ⟨S8x4x32x128x256, .f32⟩
  | .hbm, ⟨59, _⟩ => ⟨S16384x512, .f32⟩
  | .hbm, ⟨60, _⟩ => ⟨S8x32x64x4x128, .f32⟩
  | .hbm, ⟨61, _⟩ => ⟨S8x4x32x64x128, .f32⟩
  | .hbm, ⟨62, _⟩ => ⟨S_, .i1⟩
  | .hbm, ⟨63, _⟩ => ⟨S64x64, .i1⟩
  | .hbm, ⟨64, _⟩ => ⟨S64x64, .i32⟩
  | .hbm, ⟨65, _⟩ => ⟨S_, .i32⟩
  | .hbm, ⟨66, _⟩ => ⟨S64x64, .i32⟩
  | .hbm, ⟨67, _⟩ => ⟨S64x64, .i32⟩
  | .hbm, ⟨68, _⟩ => ⟨S64x64, .i32⟩
  | .hbm, ⟨69, _⟩ => ⟨S64x64, .i1⟩
  | .hbm, ⟨70, _⟩ => ⟨S_, .i1⟩
  | .hbm, ⟨71, _⟩ => ⟨S64x64, .i1⟩
  | .hbm, ⟨72, _⟩ => ⟨S64x64, .i1⟩
  | .hbm, ⟨73, _⟩ => ⟨S16384x512, .f32⟩
  | .hbm, ⟨74, _⟩ => ⟨S8x32x64x4x128, .f32⟩
  | .hbm, ⟨75, _⟩ => ⟨S8x4x32x64x128, .f32⟩
  | .hbm, ⟨76, _⟩ => ⟨S8x4x32x64x64, .f32⟩
  | .hbm, ⟨77, _⟩ => ⟨S_, .f32⟩
  | .hbm, ⟨78, _⟩ => ⟨S_, .f32⟩
  | .hbm, ⟨79, _⟩ => ⟨S8x4x32x64x64, .i1⟩
  | .hbm, ⟨80, _⟩ => ⟨S8x4x32x64x64, .f32⟩
  | .hbm, ⟨81, _⟩ => ⟨S8x4x32x64x64, .f32⟩
  | .hbm, ⟨82, _⟩ => ⟨S16384x1024, .f32⟩
  | .hbm, ⟨83, _⟩ => ⟨S8x32x64x4x256, .f32⟩
  | .hbm, ⟨84, _⟩ => ⟨S8x4x32x64x256, .f32⟩
  | .hbm, ⟨85, _⟩ => ⟨S8x4x32x64x256, .f32⟩
  | .hbm, ⟨86, _⟩ => ⟨S8x4x32x64x256, .f32⟩
  | .hbm, ⟨87, _⟩ => ⟨S8x4x32x64x256, .f32⟩
  | .hbm, ⟨88, _⟩ => ⟨S8x32x64x4x256, .f32⟩
  | .hbm, ⟨89, _⟩ => ⟨S8x2048x4x256, .f32⟩
  | .hbm, ⟨90, _⟩ => ⟨S8x2048x4x256, .f32⟩
  | .hbm, ⟨91, _⟩ => ⟨S_, .f32⟩
  | .hbm, ⟨92, _⟩ => ⟨S8x2048x4, .f32⟩
  | .hbm, ⟨93, _⟩ => ⟨S8x2048x4x1, .f32⟩
  | .hbm, ⟨94, _⟩ => ⟨S_, .f32⟩
  | .hbm, ⟨95, _⟩ => ⟨S8x2048x4x1, .f32⟩
  | .hbm, ⟨96, _⟩ => ⟨S8x2048x4x1, .f32⟩
  | .hbm, ⟨97, _⟩ => ⟨S_, .f32⟩
  | .hbm, ⟨98, _⟩ => ⟨S8x2048x4x1, .f32⟩
  | .hbm, ⟨99, _⟩ => ⟨S8x2048x4x1, .f32⟩
  | .hbm, ⟨100, _⟩ => ⟨S8x2048x4x1, .f32⟩
  | .hbm, ⟨101, _⟩ => ⟨S8x2048x4x256, .f32⟩
  | .hbm, ⟨102, _⟩ => ⟨S8x2048x4x256, .f32⟩
  | .hbm, ⟨103, _⟩ => ⟨S256, .f32⟩
  | .hbm, ⟨104, _⟩ => ⟨S1x1x1x256, .f32⟩
  | .hbm, ⟨105, _⟩ => ⟨S8x2048x4x256, .f32⟩
  | .hbm, ⟨106, _⟩ => ⟨S8x2048x4x256, .f32⟩
  | .hbm, ⟨107, _⟩ => ⟨S8x2048x1024, .f32⟩
  | .hbm, ⟨108, _⟩ => ⟨S16384x1024, .f32⟩
  | .hbm, ⟨109, _⟩ => ⟨S8x2048x1024, .f32⟩
  | .hbm, ⟨110, _⟩ => ⟨S8x2048x1024, .f32⟩
  | .hbm, ⟨111, _⟩ => ⟨S8x2048x1024, .f32⟩
  | .hbm, ⟨112, _⟩ => ⟨S_, .f32⟩
  | .hbm, ⟨113, _⟩ => ⟨S8x2048x1024, .f32⟩
  | .hbm, ⟨114, _⟩ => ⟨S8x2048x1024, .f32⟩
  | .hbm, ⟨115, _⟩ => ⟨S_, .f32⟩
  | .hbm, ⟨116, _⟩ => ⟨S8x2048x1024, .f32⟩
  | .hbm, ⟨117, _⟩ => ⟨S8x2048x1024, .f32⟩
  | .hbm, ⟨118, _⟩ => ⟨S8x2048x1024, .f32⟩
  | .hbm, ⟨119, _⟩ => ⟨S8x2048x1024, .f32⟩
  | .hbm, ⟨120, _⟩ => ⟨S8x1x1024, .f32⟩
  | .hbm, ⟨121, _⟩ => ⟨S8x2048x1024, .f32⟩
  | .hbm, ⟨122, _⟩ => ⟨S8x2048x1024, .f32⟩
  | .hbm, ⟨123, _⟩ => ⟨S8x2048x1024, .f32⟩
  | .hbm, ⟨124, _⟩ => ⟨S8x2048x1024, .f32⟩
  | .hbm, ⟨125, _⟩ => ⟨S8x2048x1024, .f32⟩
  | .hbm, ⟨126, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_c : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev main_while0c_c_10 : Ref sig .tc := ⟨.hbm, 33, rfl⟩
abbrev main_while0c_v62 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_c_1 : Ref sig .tc := ⟨.hbm, 37, rfl⟩
abbrev main_while0b_call0_v0 : Ref sig .tc := ⟨.hbm, 38, rfl⟩
abbrev main_while0b_v62 : Ref sig .tc := ⟨.hbm, 39, rfl⟩
abbrev main_while0b_call1_c : Ref sig .tc := ⟨.hbm, 40, rfl⟩
abbrev main_while0b_call1_c_0 : Ref sig .tc := ⟨.hbm, 41, rfl⟩
abbrev main_while0b_call1_c_1 : Ref sig .tc := ⟨.hbm, 42, rfl⟩
abbrev main_while0b_call1_c_2 : Ref sig .tc := ⟨.hbm, 43, rfl⟩
abbrev main_while0b_call1_v0 : Ref sig .tc := ⟨.hbm, 44, rfl⟩
abbrev main_while0b_v63 : Ref sig .tc := ⟨.hbm, 45, rfl⟩
abbrev main_while0b_v64 : Ref sig .tc := ⟨.hbm, 46, rfl⟩
abbrev main_while0b_v65 : Ref sig .tc := ⟨.hbm, 47, rfl⟩
abbrev main_while0b_v66 : Ref sig .tc := ⟨.hbm, 48, rfl⟩
abbrev main_while0b_v67 : Ref sig .tc := ⟨.hbm, 49, rfl⟩
abbrev main_while0b_call2_v0 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_c_1 : Ref sig .tc := ⟨.hbm, 53, rfl⟩
abbrev main_while0b_call2_c_2 : Ref sig .tc := ⟨.hbm, 54, rfl⟩
abbrev main_while0b_v68 : Ref sig .tc := ⟨.hbm, 55, rfl⟩
abbrev main_while0b_c_10 : Ref sig .tc := ⟨.hbm, 56, rfl⟩
abbrev main_while0b_v69 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_c_1 : Ref sig .tc := ⟨.hbm, 62, rfl⟩
abbrev main_v21 : Ref sig .tc := ⟨.hbm, 63, rfl⟩
abbrev main_call3_v0 : Ref sig .tc := ⟨.hbm, 64, rfl⟩
abbrev main_call3_c : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_c_0 : Ref sig .tc := ⟨.hbm, 70, rfl⟩
abbrev main_call3_v5 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_cst_2 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_3 : Ref sig .tc := ⟨.hbm, 91, rfl⟩
abbrev main_v37 : Ref sig .tc := ⟨.hbm, 92, rfl⟩
abbrev main_v38 : Ref sig .tc := ⟨.hbm, 93, rfl⟩
abbrev main_cst_4 : Ref sig .tc := ⟨.hbm, 94, rfl⟩
abbrev main_v39 : Ref sig .tc := ⟨.hbm, 95, rfl⟩
abbrev main_v40 : Ref sig .tc := ⟨.hbm, 96, rfl⟩
abbrev main_cst_5 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_call5_v0 : Ref sig .tc := ⟨.hbm, 110, rfl⟩
abbrev main_call5_v1 : Ref sig .tc := ⟨.hbm, 111, rfl⟩
abbrev main_call5_cst : Ref sig .tc := ⟨.hbm, 112, rfl⟩
abbrev main_call5_v2 : Ref sig .tc := ⟨.hbm, 113, rfl⟩
abbrev main_call5_v3 : Ref sig .tc := ⟨.hbm, 114, rfl⟩
abbrev main_call5_cst_0 : Ref sig .tc := ⟨.hbm, 115, rfl⟩
abbrev main_call5_v4 : Ref sig .tc := ⟨.hbm, 116, rfl⟩
abbrev main_call5_v5 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x1024 : Shape := ⟨2, ![16384, 1024]⟩
abbrev S8x1x2048 : Shape := ⟨3, ![8, 1, 2048]⟩
abbrev S8x1x3072 : Shape := ⟨3, ![8, 1, 3072]⟩
abbrev S1x1024 : Shape := ⟨2, ![1, 1024]⟩
abbrev S1024x2048 : Shape := ⟨2, ![1024, 2048]⟩
abbrev S1024x1024 : Shape := ⟨2, ![1024, 1024]⟩
abbrev S1x1x2048 : Shape := ⟨3, ![1, 1, 2048]⟩
abbrev S1x1x3072 : Shape := ⟨3, ![1, 1, 3072]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩

abbrev nBuf : Space → Nat
  | .hbm => 11
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S8x1x2048, .f32⟩
  | .hbm, ⟨2, _⟩ => ⟨S8x1x3072, .f32⟩
  | .hbm, ⟨3, _⟩ => ⟨S1x1024, .f32⟩
  | .hbm, ⟨4, _⟩ => ⟨S1x1024, .f32⟩
  | .hbm, ⟨5, _⟩ => ⟨S1024x2048, .f32⟩
  | .hbm, ⟨6, _⟩ => ⟨S1024x2048, .f32⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x2048, .f32⟩
  | .local _ .vmem, ⟨3, _⟩ => ⟨S1x1x2048, .f32⟩
  | .local _ .vmem, ⟨4, _⟩ => ⟨S1x1x3072, .f32⟩
  | .local _ .vmem, ⟨5, _⟩ => ⟨S1x1x3072, .f32⟩
  | .local _ .vmem, ⟨6, _⟩ => ⟨S1x1024, .f32⟩
  | .local _ .vmem, ⟨7, _⟩ => ⟨S1x1024, .f32⟩
  | .local _ .vmem, ⟨8, _⟩ => ⟨S1024x2048, .f32⟩
  | .local _ .vmem, ⟨9, _⟩ => ⟨S1024x2048, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x2048, .bf16⟩
  | .local _ .vmem, ⟨19, _⟩ => ⟨S1024x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16384x1024 : Shape := ⟨2, ![16384, 1024]⟩
abbrev S8x1x2048 : Shape := ⟨3, ![8, 1, 2048]⟩
abbrev S8x1x3072 : Shape := ⟨3, ![8, 1, 3072]⟩
abbrev S1x1024 : Shape := ⟨2, ![1, 1024]⟩
abbrev S1024x2048 : Shape := ⟨2, ![1024, 2048]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x2048 : Shape := ⟨3, ![8, 2048, 2048]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x2048, .f32⟩
  | .hbm, ⟨2, _⟩ => ⟨S8x1x3072, .f32⟩
  | .hbm, ⟨3, _⟩ => ⟨S1x1024, .f32⟩
  | .hbm, ⟨4, _⟩ => ⟨S1x1024, .f32⟩
  | .hbm, ⟨5, _⟩ => ⟨S1024x2048, .f32⟩
  | .hbm, ⟨6, _⟩ => ⟨S1024x2048, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x2048x2048, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S8x1x1024, .f32⟩
  | .hbm, ⟨52, _⟩ => ⟨S_, .f32⟩
  | .hbm, ⟨53, _⟩ => ⟨S8x1x1024, .f32⟩
  | .hbm, ⟨54, _⟩ => ⟨S8x1x1024, .f32⟩
  | .hbm, ⟨55, _⟩ => ⟨S8x2048x1024, .f32⟩
  | .hbm, ⟨56, _⟩ => ⟨S8x2048x1024, .f32⟩
  | .hbm, ⟨57, _⟩ => ⟨S8x1x1024, .f32⟩
  | .hbm, ⟨58, _⟩ => ⟨S8x2048x1024, .f32⟩
  | .hbm, ⟨59, _⟩ => ⟨S8x2048x1024, .f32⟩
  | .hbm, ⟨60, _⟩ => ⟨S8x2048x2048, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S_, .f32⟩
  | .hbm, ⟨66, _⟩ => ⟨S8x2048x1024, .f32⟩
  | .hbm, ⟨67, _⟩ => ⟨S8x2048x1024, .f32⟩
  | .hbm, ⟨68, _⟩ => ⟨S16384x1024, .f32⟩
  | .hbm, ⟨69, _⟩ => ⟨S16384x1024, .bf16⟩
  | .hbm, ⟨70, _⟩ => ⟨S16384x1024, .f32⟩
  | .hbm, ⟨71, _⟩ => ⟨S16384x1024, .bf16⟩
  | .hbm, ⟨72, _⟩ => ⟨S16384x1024, .f32⟩
  | .hbm, ⟨73, _⟩ => ⟨S16384x1024, .bf16⟩
  | .hbm, ⟨74, _⟩ => ⟨S16384x1024, .f32⟩
  | .hbm, ⟨75, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Kernel3.lean ====
abbrev S16384x1024 : Shape := ⟨2, ![16384, 1024]⟩
abbrev S8x1x3072 : Shape := ⟨3, ![8, 1, 3072]⟩
abbrev S1x1024 : Shape := ⟨2, ![1, 1024]⟩
abbrev S1024x3088 : Shape := ⟨2, ![1024, 3088]⟩
abbrev S16x512 : Shape := ⟨2, ![16, 512]⟩
abbrev S1x512 : Shape := ⟨2, ![1, 512]⟩
abbrev S3088x1024 : Shape := ⟨2, ![3088, 1024]⟩
abbrev S16x1024 : Shape := ⟨2, ![16, 1024]⟩
abbrev S_ : Shape := ⟨0, ![]⟩
abbrev S128x1024 : Shape := ⟨2, ![128, 1024]⟩
abbrev S128x512 : Shape := ⟨2, ![128, 512]⟩
abbrev S16384x512 : Shape := ⟨2, ![16384, 512]⟩
abbrev S256x512 : Shape := ⟨2, ![256, 512]⟩
abbrev S1024x1024 : Shape := ⟨2, ![1024, 1024]⟩
abbrev S1x1x3072 : Shape := ⟨3, ![1, 1, 3072]⟩
abbrev S1024x512 : Shape := ⟨2, ![1024, 512]⟩
abbrev S3072x1024 : Shape := ⟨2, ![3072, 1024]⟩
abbrev S1x1x1024 : Shape := ⟨3, ![1, 1, 1024]⟩
abbrev S256x256 : Shape := ⟨2, ![256, 256]⟩
abbrev S8x512 : Shape := ⟨2, ![8, 512]⟩
abbrev S512x1024 : Shape := ⟨2, ![512, 1024]⟩
abbrev S512 : Shape := ⟨1, ![512]⟩
abbrev S512x1 : Shape := ⟨2, ![512, 1]⟩
abbrev S256x1024 : Shape := ⟨2, ![256, 1024]⟩
abbrev S256x128 : Shape := ⟨2, ![256, 128]⟩
abbrev S512x128 : Shape := ⟨2, ![512, 128]⟩
abbrev S512x512 : Shape := ⟨2, ![512, 512]⟩
abbrev S8x1024 : Shape := ⟨2, ![8, 1024]⟩

abbrev nBuf : Space → Nat
  | .hbm => 21
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S8x1x3072, .f32⟩
  | .hbm, ⟨2, _⟩ => ⟨S1x1024, .f32⟩
  | .hbm, ⟨3, _⟩ => ⟨S1024x3088, .f32⟩
  | .hbm, ⟨4, _⟩ => ⟨S16x512, .f32⟩
  | .hbm, ⟨5, _⟩ => ⟨S1x512, .f32⟩
  | .hbm, ⟨6, _⟩ => ⟨S3088x1024, .f32⟩
  | .hbm, ⟨7, _⟩ => ⟨S16x1024, .f32⟩
  | .hbm, ⟨8, _⟩ => ⟨S_, .i32⟩
  | .hbm, ⟨9, _⟩ => ⟨S_, .f32⟩
  | .hbm, ⟨10, _⟩ => ⟨S128x1024, .f32⟩
  | .hbm, ⟨11, _⟩ => ⟨S128x1024, .bf16⟩
  | .hbm, ⟨12, _⟩ => ⟨S_, .i32⟩
  | .hbm, ⟨13, _⟩ => ⟨S_, .f32⟩
  | .hbm, ⟨14, _⟩ => ⟨S128x512, .f32⟩
  | .hbm, ⟨15, _⟩ => ⟨S128x512, .bf16⟩
  | .hbm, ⟨16, _⟩ => ⟨S16384x512, .bf16⟩
  | .hbm, ⟨17, _⟩ => ⟨S16384x512, .bf16⟩
  | .hbm, ⟨18, _⟩ => ⟨S16384x1024, .bf16⟩
  | .hbm, ⟨19, _⟩ => ⟨S16384x1024, .bf16⟩
  | .hbm, ⟨20, _⟩ => ⟨S256x512, .f32⟩
  | .local _ .vmem, ⟨0, _⟩ => ⟨S1024x1024, .f32⟩
  | .local _ .vmem, ⟨1, _⟩ => ⟨S1024x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S3088x1024, .f32⟩
  | .local _ .vmem, ⟨6, _⟩ => ⟨S128x1024, .bf16⟩
  | .local _ .vmem, ⟨7, _⟩ => ⟨S128x512, .bf16⟩
  | .local _ .vmem, ⟨8, _⟩ => ⟨S1x512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S16x512, .f32⟩
  | .local _ .vmem, ⟨18, _⟩ => ⟨S16x512, .f32⟩
  | .local _ .vmem, ⟨19, _⟩ => ⟨S3072x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3088x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S8x1x3072 : Shape := ⟨3, ![8, 1, 3072]⟩
abbrev S1x1024 : Shape := ⟨2, ![1, 1024]⟩
abbrev S1024x3088 : Shape := ⟨2, ![1024, 3088]⟩
abbrev S16x512 : Shape := ⟨2, ![16, 512]⟩
abbrev S1x512 : Shape := ⟨2, ![1, 512]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x3088 : Shape := ⟨3, ![8, 2048, 3088]⟩
abbrev S8x2048x512 : Shape := ⟨3, ![8, 2048, 512]⟩
abbrev S8x2048x16 : Shape := ⟨3, ![8, 2048, 16]⟩
abbrev S1x1x512 : Shape := ⟨3, ![1, 1, 512]⟩
abbrev S8x32x64x512 : Shape := ⟨4, ![8, 32, 64, 512]⟩
abbrev S8x32x1x512 : Shape := ⟨4, ![8, 32, 1, 512]⟩
abbrev S8x32x512 : Shape := ⟨3, ![8, 32, 512]⟩
abbrev S256x512 : Shape := ⟨2, ![256, 512]⟩
abbrev S16384x512 : Shape := ⟨2, ![16384, 512]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x1x3072, .f32⟩
  | .hbm, ⟨2, _⟩ => ⟨S1x1024, .f32⟩
  | .hbm, ⟨3, _⟩ => ⟨S1024x3088, .f32⟩
  | .hbm, ⟨4, _⟩ => ⟨S16x512, .f32⟩
  | .hbm, ⟨5, _⟩ => ⟨S1x512, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x3088, .f32⟩
  | .hbm, ⟨33, _⟩ => ⟨S8x2048x512, .f32⟩
  | .hbm, ⟨34, _⟩ => ⟨S8x2048x512, .f32⟩
  | .hbm, ⟨35, _⟩ => ⟨S8x2048x1024, .f32⟩
  | .hbm, ⟨36, _⟩ => ⟨S8x2048x1024, .f32⟩
  | .hbm, ⟨37, _⟩ => ⟨S8x2048x16, .f32⟩
  | .hbm, ⟨38, _⟩ => ⟨S8x2048x512, .f32⟩
  | .hbm, ⟨39, _⟩ => ⟨S1x1x512, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S_, .f32⟩
  | .hbm, ⟨44, _⟩ => ⟨S8x2048x512, .f32⟩
  | .hbm, ⟨45, _⟩ => ⟨S8x2048x512, .f32⟩
  | .hbm, ⟨46, _⟩ => ⟨S8x2048x512, .f32⟩
  | .hbm, ⟨47, _⟩ => ⟨S8x2048x512, .f32⟩
  | .hbm, ⟨48, _⟩ => ⟨S8x2048x512, .i1⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .hbm, ⟨53, _⟩ => ⟨S8x2048x512, .f32⟩
  | .hbm, ⟨54, _⟩ => ⟨S8x2048x512, .f32⟩
  | .hbm, ⟨55, _⟩ => ⟨S8x2048x512, .f32⟩
  | .hbm, ⟨56, _⟩ => ⟨S8x2048x512, .f32⟩
  | .hbm, ⟨57, _⟩ => ⟨S8x2048x512, .f32⟩
  | .hbm, ⟨58, _⟩ => ⟨S_, .f32⟩
  | .hbm, ⟨59, _⟩ => ⟨S8x2048x512, .f32⟩
  | .hbm, ⟨60, _⟩ => ⟨S8x2048x512, .f32⟩
  | .hbm, ⟨61, _⟩ => ⟨S8x32x64x512, .f32⟩
  | .hbm, ⟨62, _⟩ => ⟨S_, .f32⟩
  | .hbm, ⟨63, _⟩ => ⟨S_, .f32⟩
  | .hbm, ⟨64, _⟩ => ⟨S8x32x64x512, .f32⟩
  | .hbm, ⟨65, _⟩ => ⟨S8x32x1x512, .f32⟩
  | .hbm, ⟨66, _⟩ => ⟨S8x32x512, .f32⟩
  | .hbm, ⟨67, _⟩ => ⟨S8x32x512, .f32⟩
  | .hbm, ⟨68, _⟩ => ⟨S256x512, .f32⟩
  | .hbm, ⟨69, _⟩ => ⟨S8x2048x512, .f32⟩
  | .hbm, ⟨70, _⟩ => ⟨S_, .f32⟩
  | .hbm, ⟨71, _⟩ => ⟨S8x2048x512, .f32⟩
  | .hbm, ⟨72, _⟩ => ⟨S8x2048x512, .f32⟩
  | .hbm, ⟨73, _⟩ => ⟨S8x2048x512, .f32⟩
  | .hbm, ⟨74, _⟩ => ⟨S8x2048x512, .f32⟩
  | .hbm, ⟨75, _⟩ => ⟨S8x2048x512, .f32⟩
  | .hbm, ⟨76, _⟩ => ⟨S8x2048x512, .f32⟩
  | .hbm, ⟨77, _⟩ => ⟨S8x2048x512, .f32⟩
  | .hbm, ⟨78, _⟩ => ⟨S16384x512, .f32⟩
  | .hbm, ⟨79, _⟩ => ⟨S16384x512, .bf16⟩
  | .hbm, ⟨80, _⟩ => ⟨S16384x512, .f32⟩
  | .hbm, ⟨81, _⟩ => ⟨S16384x512, .bf16⟩
  | .hbm, ⟨82, _⟩ => ⟨S16384x1024, .f32⟩
  | .hbm, ⟨83, _⟩ => ⟨S16384x1024, .bf16⟩
  | .hbm, ⟨84, _⟩ => ⟨S16384x1024, .f32⟩
  | .hbm, ⟨85, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call1_call0_cst : Ref sig .tc := ⟨.hbm, 62, rfl⟩
abbrev main_call1_call0_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_4 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]
-- ==== Kernel4.lean ====
abbrev S16384x1024 : Shape := ⟨2, ![16384, 1024]⟩
abbrev S8x1x3072 : Shape := ⟨3, ![8, 1, 3072]⟩
abbrev S1x1024 : Shape := ⟨2, ![1, 1024]⟩
abbrev S1024x1024 : Shape := ⟨2, ![1024, 1024]⟩
abbrev S1x1x3072 : Shape := ⟨3, ![1, 1, 3072]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S8x1x3072, .f32⟩
  | .hbm, ⟨4, _⟩ => ⟨S1x1024, .f32⟩
  | .hbm, ⟨5, _⟩ => ⟨S1024x1024, .f32⟩
  | .hbm, ⟨6, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x3072, .f32⟩
  | .local _ .vmem, ⟨7, _⟩ => ⟨S1x1x3072, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x1024 : Shape := ⟨2, ![16384, 1024]⟩
abbrev S8x1x3072 : Shape := ⟨3, ![8, 1, 3072]⟩
abbrev S1x1024 : Shape := ⟨2, ![1, 1024]⟩
abbrev S1024x1024 : Shape := ⟨2, ![1024, 1024]⟩
abbrev S_ : Shape := ⟨0, ![]⟩
abbrev S8x2048x1024 : Shape := ⟨3, ![8, 2048, 1024]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S8x1x3072, .f32⟩
  | .hbm, ⟨4, _⟩ => ⟨S1x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S8x2048x1024, .f32⟩
  | .hbm, ⟨19, _⟩ => ⟨S8x2048x1024, .f32⟩
  | .hbm, ⟨20, _⟩ => ⟨S8x1x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Kernel5.lean ====
abbrev S8x1024 : Shape := ⟨2, ![8, 1024]⟩
abbrev S2x1024x3072 : Shape := ⟨3, ![2, 1024, 3072]⟩
abbrev S2x3072 : Shape := ⟨2, ![2, 3072]⟩
abbrev S2x1x3072 : Shape := ⟨3, ![2, 1, 3072]⟩
abbrev S2x8x3072 : Shape := ⟨3, ![2, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x3072, .f32⟩
  | .hbm, ⟨2, _⟩ => ⟨S2x3072, .f32⟩
  | .hbm, ⟨3, _⟩ => ⟨S2x1x3072, .f32⟩
  | .hbm, ⟨4, _⟩ => ⟨S2x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S2x1024x3072 : Shape := ⟨3, ![2, 1024, 3072]⟩
abbrev S2x3072 : Shape := ⟨2, ![2, 3072]⟩
abbrev S_ : Shape := ⟨0, ![]⟩
abbrev S2x3072x8 : Shape := ⟨3, ![2, 3072, 8]⟩
abbrev S2x8x3072 : Shape := ⟨3, ![2, 8, 3072]⟩
abbrev S2x1x3072 : Shape := ⟨3, ![2, 1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x3072, .f32⟩
  | .hbm, ⟨2, _⟩ => ⟨S2x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x3072x8, .f32⟩
  | .hbm, ⟨13, _⟩ => ⟨S2x8x3072, .f32⟩
  | .hbm, ⟨14, _⟩ => ⟨S2x1x3072, .f32⟩
  | .hbm, ⟨15, _⟩ => ⟨S2x8x3072, .f32⟩
  | .hbm, ⟨16, _⟩ => ⟨S2x8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel6.lean ====
abbrev S8x1024 : Shape := ⟨2, ![8, 1024]⟩
abbrev S1024x2048 : Shape := ⟨2, ![1024, 2048]⟩
abbrev S2048 : Shape := ⟨1, ![2048]⟩
abbrev S1x1024x2048 : Shape := ⟨3, ![1, 1024, 2048]⟩
abbrev S1x2048 : Shape := ⟨2, ![1, 2048]⟩
abbrev S1x1x2048 : Shape := ⟨3, ![1, 1, 2048]⟩
abbrev S1x8x2048 : Shape := ⟨3, ![1, 8, 2048]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x2048, .f32⟩
  | .hbm, ⟨2, _⟩ => ⟨S2048, .f32⟩
  | .hbm, ⟨3, _⟩ => ⟨S1x1024x2048, .f32⟩
  | .hbm, ⟨4, _⟩ => ⟨S1x2048, .f32⟩
  | .hbm, ⟨5, _⟩ => ⟨S1x1x2048, .f32⟩
  | .hbm, ⟨6, _⟩ => ⟨S1x8x2048, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S1024x2048 : Shape := ⟨2, ![1024, 2048]⟩
abbrev S2048 : Shape := ⟨1, ![2048]⟩
abbrev S_ : Shape := ⟨0, ![]⟩
abbrev S8x2048 : Shape := ⟨2, ![8, 2048]⟩
abbrev S1x2048 : Shape := ⟨2, ![1, 2048]⟩
abbrev S1x8x2048 : Shape := ⟨3, ![1, 8, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x2048, .f32⟩
  | .hbm, ⟨2, _⟩ => ⟨S2048, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x2048, .f32⟩
  | .hbm, ⟨13, _⟩ => ⟨S1x2048, .f32⟩
  | .hbm, ⟨14, _⟩ => ⟨S8x2048, .f32⟩
  | .hbm, ⟨15, _⟩ => ⟨S8x2048, .f32⟩
  | .hbm, ⟨16, _⟩ => ⟨S1x8x2048, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Vocab.lean ====
/-
The kernel's body in one vocabulary.

At one grid point the body runs 16 chunks of 64 rows for 4 heads.  Its printed form names every value on its own; here one
function of the chunk and the head says what each of those values is.
-/
module

public import proofs.«01_k».proof.Proof.Gen.KernelIdeal.Skeleton
public import Idealize.ShloMosaic.Lib.Pipeline.FrameBody

@[expose] public section

noncomputable section

namespace Cert.KernelIdeal.Vocab

open Cert.KernelIdeal Cert.KernelIdeal.Gen Idealize.ShloMosaic Idealize.ShloMosaic.TcCoe Idealize.SL.Sem

variable {F : FTy → Type} [FloatOps F]

/-! ## One chunk of one head -/

/-- What a chunk adds to the state of a head: `kᵀ v`. -/
def inc (k : Vec F S64x128 .bf16) (v : Vec F S64x256 .bf16) : FVec F S128x256 .f32 :=
  matmul dot_S128x64_S64x256_S128x256_1_0_0_1_n_n none (transpose S128x64 [1, 0] k transposes_S64x128_p1_0_S128x64) v
    (constant S128x256 .f32 0x00000000#32)

/-- The state after a chunk whose decay is the column `col`: `(s + kᵀ v) · col`. -/
def next (k : Vec F S64x128 .bf16) (v : Vec F S64x256 .bf16) (col : FVec F S128x1 .f32) (s : FVec F S128x256 .f32) :
    FVec F S128x256 .f32 :=
  mulf (addf s (inc k v)) (broadcastTo S128x256 col broadcasts_S128x1_S128x256)

/-- The scores of a chunk, zero above the diagonal. -/
def scores (q k : Vec F S64x128 .bf16) : FVec F S64x64 .bf16 :=
  truncf .bf16 (select k0_pay6 (matmul dot_S64x128_S64x128_S64x64_1_1_0_0_n_n none q k (constant S64x64 .f32 0x00000000#32))
    (broadcast S64x64 (Scalar.ofBits .f32 0x00000000#32 : F .f32))) bitsLt_bf16_f32

/-- The output of a chunk for one head: `[q, scores] · [s; v]`. -/
def attn (q k : Vec F S64x128 .bf16) (v : Vec F S64x256 .bf16) (s : FVec F S128x256 .f32) : FVec F S64x256 .f32 :=
  matmul dot_S64x192_S192x256_S64x256_1_0_0_1_n_n none
    (concatenate S64x192 1 [⟨S64x128, q⟩, ⟨S64x64, scores q k⟩] concatenates_S64x128_S64x64_S64x192_d1)
    (concatenate S192x256 0 [⟨S128x256, truncf .bf16 s bitsLt_bf16_f32⟩, ⟨S64x256, v⟩] concatenates_S128x256_S64x256_S192x256_d0)
    (constant S64x256 .f32 0x00000000#32)

/-- An output over its root mean square, times the gain. -/
def normed (o : FVec F S64x256 .f32) (ogain : Vec F S1x256 .f32) : FVec F S64x256 .f32 :=
  mulf (mulf o (broadcastTo S64x256
      (rsqrt (addf
        (divf (shapeCast S64x1 (multiReduction .add [1] S64 (mulf o o) 0x00000000#32 reduces_S64x256_S64 (.inl rfl) rfl) shapeCasts_S64_S64x1)
          (broadcast S64x1 (Scalar.ofBits .f32 0x43800000#32 : F .f32)))
        (broadcast S64x1 (Scalar.ofBits .f32 0x358637BD#32 : F .f32)))) broadcasts_S64x1_S64x256))
    (broadcastTo S64x256 ogain broadcasts_S1x256_S64x256)

/-- The four heads of a chunk side by side, times `g · sigmoid g`. -/
def gated (o0 o1 o2 o3 : FVec F S64x256 .f32) (g : Vec F S64x1024 .bf16) : FVec F S64x1024 .bf16 :=
  shapeCast S64x1024 (truncf .bf16 (mulf
    (concatenate S64x1024 1 [⟨S64x256, o0⟩, ⟨S64x256, o1⟩, ⟨S64x256, o2⟩, ⟨S64x256, o3⟩] concatenates_S64x256_S64x256_S64x256_S64x256_S64x1024_d1)
    (mulf (extf .f32 g bitsLt_bf16_f32) (logistic (extf .f32 g bitsLt_bf16_f32)))) bitsLt_bf16_f32) shapeCasts_S64x1024_S64x1024

/-! ## The blocks of a grid point, cut into chunks and heads -/

/-- What a point reads: the queries, keys and values of chunk `u` and head `h`, the decays of head `h`, the gate's rows of chunk
    `u`, the gain, and the states that it starts from. -/
structure Cut (F : FTy → Type) [FloatOps F] where
  q : Fin 16 → Fin 4 → Vec F S64x128 .bf16
  k : Fin 16 → Fin 4 → Vec F S64x128 .bf16
  v : Fin 16 → Fin 4 → Vec F S64x256 .bf16
  dec : Fin 4 → Vec F S16x128 .f32
  g : Fin 16 → Vec F S64x1024 .bf16
  ogain : Vec F S1x256 .f32
  s0 : Fin 4 → Vec F S1x128x256 .f32

theorem slices_col (u : Fin 16) : S128x16.Slices ![0, u.val] S128x1 :=
  ⟨rfl, fun a => by fin_cases a <;> simp [S128x16, S128x1] <;> omega⟩

/-- The decay of chunk `u` and head `h`, as a column over the key dimension. -/
def Cut.col (b : Cut F) (u : Fin 16) (h : Fin 4) : FVec F S128x1 .f32 :=
  extractStridedSlice S128x1 ![0, u.val] (transpose S128x16 [1, 0] (b.dec h) transposes_S16x128_p1_0_S128x16) (slices_col u)

/-- The state of head `h` before chunk `n`. -/
def Cut.st (b : Cut F) (h : Fin 4) : (n : ℕ) → n ≤ 16 → FVec F S128x256 .f32
  | 0, _ => shapeCast S128x256 (b.s0 h) shapeCasts_S1x128x256_S128x256
  | n + 1, hn => next (b.k ⟨n, hn⟩ h) (b.v ⟨n, hn⟩ h) (b.col ⟨n, hn⟩ h) (b.st h n (Nat.le_of_succ_le hn))

/-- The normed output of chunk `u` and head `h`. -/
def Cut.o (b : Cut F) (u : Fin 16) (h : Fin 4) : FVec F S64x256 .f32 :=
  normed (attn (b.q u h) (b.k u h) (b.v u h) (b.st h u.val u.isLt.le)) b.ogain

/-- The gated rows of chunk `u`. -/
def Cut.y (b : Cut F) (u : Fin 16) : FVec F S64x1024 .bf16 := gated (b.o u 0) (b.o u 1) (b.o u 2) (b.o u 3) (b.g u)

/-! ## The pieces that a point writes -/

theorem inb_state (h : Fin 4) : ∀ a, (![h.val, 0, 0] : Fin 3 → ℕ) a + S1x128x256.size a ≤ S4x128x256.size a := by
  intro a; fin_cases a <;> simp [S1x128x256, S4x128x256] <;> omega

theorem inb_rows (u : Fin 16) : ∀ a, (![64 * u.val, 0] : Fin 2 → ℕ) a + S64x1024.size a ≤ S1024x1024.size a := by
  intro a; fin_cases a <;> simp [S64x1024, S1024x1024] <;> omega

theorem inb_qk (u : Fin 16) (h : Fin 4) : ∀ a, (![64 * u.val, 128 * h.val] : Fin 2 → ℕ) a + S64x128.size a ≤ S1024x512.size a := by
  intro a; fin_cases a <;> simp [S64x128, S1024x512] <;> omega

theorem inb_v (u : Fin 16) (h : Fin 4) : ∀ a, (![64 * u.val, 256 * h.val] : Fin 2 → ℕ) a + S64x256.size a ≤ S1024x1024.size a := by
  intro a; fin_cases a <;> simp [S64x256, S1024x1024] <;> omega

theorem inb_dec (h : Fin 4) : ∀ a, (![0, 128 * h.val] : Fin 2 → ℕ) a + S16x128.size a ≤ S16x512.size a := by
  intro a; fin_cases a <;> simp [S16x128, S16x512] <;> omega

/-- The states that a point leaves, one piece for each head. -/
def Cut.statePieces (b : Cut F) : List (View.Piece (Elt F) S4x128x256 .f32) :=
  ([3, 2, 1, 0] : List (Fin 4)).map fun h =>
    ⟨Rect.unit ![h.val, 0, 0] S1x128x256.size (inb_state h), shapeCast S1x128x256 (b.st h 16 (le_refl _)) shapeCasts_S128x256_S1x128x256⟩

/-- The gated rows that a point leaves, one piece for each chunk. -/
def Cut.rowPieces (b : Cut F) : List (View.Piece (Elt F) S1024x1024 .bf16) :=
  ([15, 14, 13, 12, 11, 10, 9, 8, 7, 6, 5, 4, 3, 2, 1, 0] : List (Fin 16)).map fun u =>
    ⟨Rect.unit ![64 * u.val, 0] S64x1024.size (inb_rows u), b.y u⟩

end Cert.KernelIdeal.Vocab

end
-- ==== Proof.Read.lean ====
/-
The kernel's vocabulary read at an index, over the extended reals.
-/
module

public import proofs.«01_k».proof.Proof.Vocab
public import Idealize.ShloMosaic.Lib.Pointwise
public import Idealize.ShloMosaic.Lib.WordCmp

@[expose] public section

noncomputable section

open scoped BigOperators

namespace Cert.KernelIdeal.Vocab

open Cert.KernelIdeal Cert.KernelIdeal.Gen Idealize.ShloMosaic Idealize.ShloMosaic.TcCoe Idealize.SL.Sem

theorem inc_apply (k : Vec Ideal S64x128 .bf16) (v : Vec Ideal S64x256 .bf16) (d : Fin 128) (e : Fin 256) :
    inc k v (ix2 d e) = ∑ j : Fin 64, k (ix2 j d) * v (ix2 j e) := by
  pointwise [inc, dot_S128x64_S64x256_S128x256_1_0_0_1_n_n]

theorem next_apply (k : Vec Ideal S64x128 .bf16) (v : Vec Ideal S64x256 .bf16) (col : FVec Ideal S128x1 .f32) (s : FVec Ideal S128x256 .f32)
    (d : Fin 128) (e : Fin 256) :
    next k v col s (ix2 d e) = (s (ix2 d e) + ∑ j : Fin 64, k (ix2 j d) * v (ix2 j e)) * col (ix2 d 0) := by
  pointwise [next, inc_apply]

theorem scores_apply (q k : Vec Ideal S64x128 .bf16) (i j : Fin 64) :
    scores q k (ix2 i j) = if j.val ≤ i.val then ∑ d : Fin 128, q (ix2 i d) * k (ix2 j d) else 0 := by
  pointwise [scores, k0_pay6]
  rw [WordCmp.cmpi_sle_ofNat (by omega) (by omega)]
  by_cases h : j.val ≤ i.val <;> simp [h, Scalar.select]

theorem attn_apply (q k : Vec Ideal S64x128 .bf16) (v : Vec Ideal S64x256 .bf16) (s : FVec Ideal S128x256 .f32) (i : Fin 64) (e : Fin 256) :
    attn q k v s (ix2 i e) = (∑ d : Fin 128, q (ix2 i d) * s (ix2 d e)) + ∑ j : Fin 64, scores q k (ix2 i j) * v (ix2 j e) := by
  pointwise [attn]

theorem normed_apply (o : FVec Ideal S64x256 .f32) (og : Vec Ideal S1x256 .f32) (i : Fin 64) (e : Fin 256) :
    normed o og (ix2 i e) = o (ix2 i e) * Ideal.rsqrt (Ideal.div (∑ e' : Fin 256, o (ix2 i e') * o (ix2 i e'))
      (Ideal.ofBits .f32 0x43800000#32) + Ideal.ofBits .f32 0x358637BD#32) * og (ix2 0 e) := by
  pointwise [normed]

theorem gated_apply (o : Fin 4 → FVec Ideal S64x256 .f32) (g : Vec Ideal S64x1024 .bf16) (i : Fin 64) (h : Fin 4) (e : Fin 256) :
    gated (o 0) (o 1) (o 2) (o 3) g (ix2 i ⟨256 * h.val + e.val, by omega⟩)
      = o h (ix2 i e) * (g (ix2 i ⟨256 * h.val + e.val, by omega⟩) * Ideal.logistic (g (ix2 i ⟨256 * h.val + e.val, by omega⟩))) := by
  pointwise [gated]
  refine congrArg (· * _) ?_
  have he := e.isLt
  fin_vals h with hh
  · obtain rfl : h = 0 := Fin.ext hh
    simp
  · obtain rfl : h = 1 := Fin.ext hh
    simp
  · obtain rfl : h = 2 := Fin.ext hh
    rw [dif_neg (by simp; omega), dif_neg (by simp; omega), dif_pos (by simp; omega)]
    exact congrArg (o 2) (congrArg (ix2 i) (Fin.ext (by simp; omega)))
  · obtain rfl : h = 3 := Fin.ext hh
    rw [dif_neg (by simp; omega), dif_neg (by simp; omega), dif_neg (by simp; omega)]
    exact congrArg (o 3) (congrArg (ix2 i) (Fin.ext (by simp; omega)))

end Cert.KernelIdeal.Vocab

end
-- ==== Proof.Cuts.lean ====
/-
What a grid point reads and writes, as the printed body reads and writes it.
-/
module

public import proofs.«01_k».proof.Proof.Vocab
public import proofs.«01_k».proof.Proof.Gen.KernelIdeal.Frame

@[expose] public section

noncomputable section

namespace Cert.KernelIdeal.Vocab

open Cert.KernelIdeal Cert.KernelIdeal.Gen Idealize.ShloMosaic Idealize.ShloMosaic.TcCoe Idealize.SL.Sem

variable {F : FTy → Type} [FloatOps F]

/-- The rectangle of a head's state. -/
abbrev headRect (h : Fin 4) : Rect S4x128x256 := Rect.unit (s := S4x128x256) ![h.val, 0, 0] S1x128x256.size (inb_state h)

/-- A whole block of 1024 rows and 1024 columns. -/
abbrev fullRect : Rect S1024x1024 := Rect.unit (s := S1024x1024) ![0, 0] S1024x1024.size inb_S1024x1024_S1024x1024_0_0

/-- The blocks of a point as its loads read them. -/
def cutAt {arg1 : Memref sig .tc .vmem S1024x512 .bf16} (harg1 : arg1.IsWhole) {arg2 : Memref sig .tc .vmem S1024x512 .bf16} (harg2 : arg2.IsWhole)
    {arg3 : Memref sig .tc .vmem S1024x1024 .bf16} (harg3 : arg3.IsWhole) {arg4 : Memref sig .tc .vmem S16x512 .f32} (harg4 : arg4.IsWhole)
    {arg5 : Memref sig .tc .vmem S1024x1024 .bf16} (harg5 : arg5.IsWhole) {arg8 : Memref sig .tc .vmem S1x256 .f32} (harg8 : arg8.IsWhole)
    (x0 x1 : Vec F S1024x512 .bf16) (x2 : Vec F S1024x1024 .bf16) (x3 : Vec F S16x512 .f32) (x4 : Vec F S1024x1024 .bf16)
    (x7 : Vec F S1x256 .f32) (s0 : Fin 4 → Vec F S1x128x256 .f32) : Cut F where
  q u h := View.readAt (Elt F) arg1.view (Rect.unit (s := S1024x512) ![64 * u.val, 128 * h.val] S64x128.size (inb_qk u h)).toLoadRect (harg1.unread x0)
  k u h := View.readAt (Elt F) arg2.view (Rect.unit (s := S1024x512) ![64 * u.val, 128 * h.val] S64x128.size (inb_qk u h)).toLoadRect (harg2.unread x1)
  v u h := View.readAt (Elt F) arg3.view (Rect.unit (s := S1024x1024) ![64 * u.val, 256 * h.val] S64x256.size (inb_v u h)).toLoadRect (harg3.unread x2)
  dec h := View.readAt (Elt F) arg4.view (Rect.unit (s := S16x512) ![0, 128 * h.val] S16x128.size (inb_dec h)).toLoadRect (harg4.unread x3)
  g u := View.readAt (Elt F) arg5.view (Rect.unit (s := S1024x1024) ![64 * u.val, 0] S64x1024.size (inb_rows u)).toLoadRect (harg5.unread x4)
  ogain := View.readAt (Elt F) arg8.view (Rect.unit (s := S1x256) ![0, 0] S1x256.size inb_S1x256_S1x256_0_0).toLoadRect (harg8.unread x7)
  s0 := s0

/-- The fill of the states with zeros. -/
abbrev zeroPiece : View.Piece (Elt F) S4x128x256 .f32 :=
  ⟨Rect.unit (s := S4x128x256) ![0, 0, 0] S4x128x256.size inb_S4x128x256_S4x128x256_0_0_0, k0_pay8⟩

/-- The weights' copy. -/
abbrev weightPiece {arg9 : Memref sig .tc .vmem S1024x1024 .f32} (harg9 : arg9.IsWhole) (x8 : Vec F S1024x1024 .f32) :
    View.Piece (Elt F) S1024x1024 .bf16 :=
  ⟨fullRect, k0_pay7 (View.readAt (Elt F) arg9.view fullRect.toLoadRect (harg9.unread x8))⟩

/-- The block that a point writes: the residual plus the gate times the projection of the gated rows. -/
abbrev blockPiece {arg6 : Memref sig .tc .vmem S1024x1024 .f32} (harg6 : arg6.IsWhole) {arg7 : Memref sig .tc .vmem S1x1x3072 .f32}
    (harg7 : arg7.IsWhole) (arg13 : Memref sig .tc .vmem S1024x1024 .bf16) (x5 : Vec F S1024x1024 .f32) (x6 : Vec F S1x1x3072 .f32)
    (b : Cut F) (w : Vec F S1024x1024 .bf16) : View.Piece (Elt F) S1024x1024 .f32 :=
  ⟨fullRect, k0_pay5 (View.readAt (Elt F) arg6.view fullRect.toLoadRect (harg6.unread x5))
    (View.readAt (Elt F) arg7.view (Rect.unit (s := S1x1x3072) ![0, 0, 2048] S1x1x1024.size inb_S1x1x3072_S1x1x1024_0_0_2048).toLoadRect
      (harg7.unread x6))
    (arg13.view.readCov b.rowPieces fullRect.toLoadRect) w⟩

end Cert.KernelIdeal.Vocab

end
-- ==== Proof.Spec.lean ====
/-
What the layer computes, over the extended reals and with natural numbers for indices.

A sequence of 2048 rows is cut into 32 chunks of 64; each of 4 heads has 128 key lanes and 256 value lanes.  A head's state
is a 128×256 matrix; a chunk adds `kᵀ v` and then multiplies each key lane by the chunk's decay.
-/
module

public import Idealize.ShloMosaic.Lib.Pointwise

@[expose] public section

noncomputable section

open scoped BigOperators

namespace Cert.Spec

open Idealize.ShloMosaic

/-- The element of a matrix at two natural numbers, 0 outside. -/
def at2 {m n : ℕ} (X : (⟨2, ![m, n]⟩ : Shape).Idx → EReal) (r c : ℕ) : EReal :=
  if h : r < m ∧ c < n then X (ix2 ⟨r, h.1⟩ ⟨c, h.2⟩) else 0

theorem at2_ix2 {m n : ℕ} (X : (⟨2, ![m, n]⟩ : Shape).Idx → EReal) (a : Fin m) (b : Fin n) : X (ix2 a b) = at2 X a.val b.val := by
  unfold at2
  rw [dif_pos ⟨a.isLt, b.isLt⟩]

theorem at2_eq {m n : ℕ} (X : (⟨2, ![m, n]⟩ : Shape).Idx → EReal) {a : Fin m} {b : Fin n} {r c : ℕ} (hr : a.val = r) (hc : b.val = c) :
    X (ix2 a b) = at2 X r c := by
  subst hr hc
  exact at2_ix2 X a b

/-- The element of an array of rows at two natural numbers, 0 outside. -/
def at3 {m n : ℕ} (X : (⟨3, ![m, 1, n]⟩ : Shape).Idx → EReal) (r c : ℕ) : EReal :=
  if h : r < m ∧ c < n then X (ix3 ⟨r, h.1⟩ 0 ⟨c, h.2⟩) else 0

theorem at3_ix3 {m n : ℕ} (X : (⟨3, ![m, 1, n]⟩ : Shape).Idx → EReal) (a : Fin m) (b : Fin n) :
    X (ix3 a 0 b) = at3 X a.val b.val := by
  unfold at3
  rw [dif_pos ⟨a.isLt, b.isLt⟩]

theorem at3_eq {m n : ℕ} (X : (⟨3, ![m, 1, n]⟩ : Shape).Idx → EReal) {a : Fin m} {b : Fin n} {r c : ℕ} (hr : a.val = r) (hc : b.val = c) :
    X (ix3 a 0 b) = at3 X r c := by
  subst hr hc
  exact at3_ix3 X a b

/-- The arguments: queries, keys, values, decays, gate, residual, conditioning, gain and output weights. -/
structure Data where
  Q : ℕ → ℕ → EReal
  K : ℕ → ℕ → EReal
  V : ℕ → ℕ → EReal
  D : ℕ → ℕ → EReal
  G : ℕ → ℕ → EReal
  X : ℕ → ℕ → EReal
  C : ℕ → ℕ → EReal
  O : ℕ → ℕ → EReal
  W : ℕ → ℕ → EReal

namespace Data

variable (a : Data)

/-- What chunk `n` adds to the state of head `h`: `kᵀ v`. -/
def inc (b h n d e : ℕ) : EReal :=
  ∑ j : Fin 64, a.K (2048 * b + 64 * n + j) (128 * h + d) * a.V (2048 * b + 64 * n + j) (256 * h + e)

/-- The state of head `h` before chunk `n` of sequence `b`. -/
def st (b h : ℕ) : ℕ → ℕ → ℕ → EReal
  | 0, _, _ => 0
  | n + 1, d, e => (st b h n d e + a.inc b h n d e) * a.D (32 * b + n) (128 * h + d)

/-- The score of row `i` against row `j` of a chunk, 0 above the diagonal. -/
def sc (b h n i j : ℕ) : EReal :=
  if j ≤ i then ∑ d : Fin 128, a.Q (2048 * b + 64 * n + i) (128 * h + d) * a.K (2048 * b + 64 * n + j) (128 * h + d) else 0

/-- The output of row `i` of a chunk: from the state before the chunk, and from the chunk itself. -/
def out (b h n i e : ℕ) : EReal :=
  (∑ d : Fin 128, a.Q (2048 * b + 64 * n + i) (128 * h + d) * a.st b h n d e)
    + ∑ j : Fin 64, a.sc b h n i j * a.V (2048 * b + 64 * n + j) (256 * h + e)

/-- The output over its root mean square, times the gain. -/
def nrm (b h n i e : ℕ) : EReal :=
  a.out b h n i e * Ideal.rsqrt (Ideal.div (∑ e' : Fin 256, a.out b h n i e' * a.out b h n i e') (Ideal.ofBits .f32 0x43800000#32)
    + Ideal.ofBits .f32 0x358637BD#32) * a.O 0 e

/-- The gated row `i` of a chunk at column `c`. -/
def row (b n i c : ℕ) : EReal :=
  a.nrm b (c / 256) n i (c % 256) * (a.G (2048 * b + 64 * n + i) c * Ideal.logistic (a.G (2048 * b + 64 * n + i) c))

/-- The result at row `r` and column `m`. -/
def res (r m : ℕ) : EReal :=
  a.X r m + a.C (r / 2048) (2048 + m) * ∑ k : Fin 1024, a.row (r / 2048) (r % 2048 / 64) (r % 64) k * a.W k m

/-- Multiplying a sum by a finite factor that is at least 0 multiplies its terms. -/
theorem sum_mul_of_finite {ι : Type} (s : Finset ι) (f : ι → EReal) (x : EReal) (h0 : 0 ≤ x) (h1 : x ≠ ⊤) :
    (∑ j ∈ s, f j) * x = ∑ j ∈ s, f j * x := by
  classical
  induction s using Finset.induction_on with
  | empty => simp
  | insert i s hi ih =>
    rw [Finset.sum_insert hi, Finset.sum_insert hi, EReal.right_distrib_of_nonneg_of_ne_top h0 h1, ih]

/-- The next state with the decay taken inside: this needs the decay finite and at least 0. -/
theorem st_succ (hD : ∀ r c, 0 ≤ a.D r c ∧ a.D r c ≠ ⊤) (b h n d e : ℕ) :
    a.st b h (n + 1) d e = a.D (32 * b + n) (128 * h + d) * a.st b h n d e
      + ∑ j : Fin 64, a.K (2048 * b + 64 * n + j) (128 * h + d) * a.D (32 * b + n) (128 * h + d)
          * a.V (2048 * b + 64 * n + j) (256 * h + e) := by
  obtain ⟨h0, h1⟩ := hD (32 * b + n) (128 * h + d)
  show (a.st b h n d e + a.inc b h n d e) * _ = _
  rw [EReal.right_distrib_of_nonneg_of_ne_top h0 h1, inc, sum_mul_of_finite _ _ _ h0 h1, mul_comm (a.st b h n d e)]
  exact congrArg _ (Finset.sum_congr rfl fun j _ => by rw [mul_right_comm])

end Data

end Cert.Spec

end
-- ==== Proof.Point.lean ====
/-
What a grid point computes, against the specification.
-/
module

public import proofs.«01_k».proof.Proof.Read
public import proofs.«01_k».proof.Proof.Cuts
public import proofs.«01_k».proof.Proof.Spec
public import Idealize.ShloMosaic.Lib.Pipeline.CanonAppend
public import Idealize.ShloMosaic.Lib.Pipeline.Value
public import Idealize.ShloMosaic.Lib.Pipeline.ValueKit.Tiles

@[expose] public section

noncomputable section

open scoped BigOperators

namespace Cert.KernelIdeal.Vocab

open Cert.KernelIdeal Cert.KernelIdeal.Gen Idealize.ShloMosaic Idealize.ShloMosaic.TcCoe Idealize.SL.Sem
open Cert.Spec (Data)

/-- The cut blocks are the specification's arguments at grid point `t`, and the states those before the point's first chunk. -/
structure Cut.Reads (b : Cut Ideal) (a : Data) (t : ℕ) : Prop where
  q : ∀ (u : Fin 16) (h : Fin 4) (i : Fin 64) (d : Fin 128), b.q u h (ix2 i d) = a.Q (1024 * t + 64 * u + i) (128 * h + d)
  k : ∀ (u : Fin 16) (h : Fin 4) (i : Fin 64) (d : Fin 128), b.k u h (ix2 i d) = a.K (1024 * t + 64 * u + i) (128 * h + d)
  v : ∀ (u : Fin 16) (h : Fin 4) (i : Fin 64) (e : Fin 256), b.v u h (ix2 i e) = a.V (1024 * t + 64 * u + i) (256 * h + e)
  dec : ∀ (h : Fin 4) (u : Fin 16) (d : Fin 128), b.dec h (ix2 u d) = a.D (16 * t + u) (128 * h + d)
  g : ∀ (u : Fin 16) (i : Fin 64) (c : Fin 1024), b.g u (ix2 i c) = a.G (1024 * t + 64 * u + i) c
  ogain : ∀ e : Fin 256, b.ogain (ix2 0 e) = a.O 0 e
  s0 : ∀ (h : Fin 4) (d : Fin 128) (e : Fin 256), b.s0 h (ix3 0 d e) = a.st (t / 2) h (16 * (t % 2)) d e

theorem Cut.col_apply (b : Cut Ideal) (u : Fin 16) (h : Fin 4) (d : Fin 128) : b.col u h (ix2 d 0) = b.dec h (ix2 u d) := by
  pointwise [Cut.col]

theorem st_zero_apply (s : Vec Ideal S1x128x256 .f32) (d : Fin 128) (e : Fin 256) :
    shapeCast S128x256 s shapeCasts_S1x128x256_S128x256 (ix2 d e) = s (ix3 0 d e) := by
  pointwise

/-- A chunk's first row, counted from a sequence's and from a point's. -/
theorem row_eq (t u i : ℕ) : 2048 * (t / 2) + 64 * (16 * (t % 2) + u) + i = 1024 * t + 64 * u + i := by omega

variable {b : Cut Ideal} {a : Data} {t : ℕ}

/-- The states of a point are the specification's. -/
theorem Cut.st_apply (hb : b.Reads a t) (h : Fin 4) : ∀ (n : ℕ) (hn : n ≤ 16) (d : Fin 128) (e : Fin 256),
    b.st h n hn (ix2 d e) = a.st (t / 2) h (16 * (t % 2) + n) d e
  | 0, _, d, e => (st_zero_apply _ d e).trans (hb.s0 h d e)
  | n + 1, hn, d, e => by
    have hk (j : Fin 64) (d : Fin 128) := hb.k ⟨n, hn⟩ h j d
    have hv (j : Fin 64) (e : Fin 256) := hb.v ⟨n, hn⟩ h j e
    have hd := hb.dec h ⟨n, hn⟩ d
    show next _ _ _ _ _ = _
    rw [next_apply, Cut.st_apply hb h n _ d e, Cut.col_apply, hd]
    show _ = (a.st (t / 2) h (16 * (t % 2) + n) d e + a.inc (t / 2) h (16 * (t % 2) + n) d e) * a.D (32 * (t / 2) + (16 * (t % 2) + n)) (128 * h + d)
    rw [show 32 * (t / 2) + (16 * (t % 2) + n) = 16 * t + n by omega]
    unfold Data.inc
    simp only [hk, hv, row_eq]

/-- The gated rows of a point are the specification's. -/
theorem Cut.y_apply (hb : b.Reads a t) (u : Fin 16) (i : Fin 64) (c : Fin 1024) :
    b.y u (ix2 i c) = a.row (t / 2) (16 * (t % 2) + u) i c := by
  have ho (h : Fin 4) (e : Fin 256) : attn (b.q u h) (b.k u h) (b.v u h) (b.st h u.val u.isLt.le) (ix2 i e)
      = a.out (t / 2) h (16 * (t % 2) + u) i e := by
    rw [attn_apply]
    unfold Data.out Data.sc
    simp only [scores_apply, Cut.st_apply hb, hb.q, hb.k, hb.v, row_eq]
  have hn (h : Fin 4) (e : Fin 256) : b.o u h (ix2 i e) = a.nrm (t / 2) h (16 * (t % 2) + u) i e := by
    unfold Cut.o Data.nrm
    rw [normed_apply]
    simp only [ho, hb.ogain]
  have hc : c = ⟨256 * (⟨c.val / 256, by omega⟩ : Fin 4).val + (⟨c.val % 256, by omega⟩ : Fin 256).val, by simp; omega⟩ :=
    Fin.ext (by simp; omega)
  have key := gated_apply (fun h => b.o u h) (b.g u) i ⟨c.val / 256, by omega⟩ ⟨c.val % 256, by omega⟩
  rw [← hc, hb.g, hn] at key
  unfold Data.row
  rw [row_eq]
  exact key

/-- The rows that a point leaves in its row buffer. -/
theorem Cut.rows_apply (hb : b.Reads a t) (r k : Fin 1024) :
    View.canon b.rowPieces (ix2 r k) = a.row (t / 2) (16 * (t % 2) + r / 64) (r % 64) k := by
  refine (View.canon_apply_of_pieces (fun y : S1024x1024.Idx => a.row (t / 2) (16 * (t % 2) + (y 0).val / 64) ((y 0).val % 64) (y 1).val)
    b.rowPieces ?_ (ix2 r k) ?_)
  · intro p hp x
    unfold Cut.rowPieces at hp
    obtain ⟨u, -, rfl⟩ := List.mem_map.mp hp
    have hx0 : (x 0).val < 64 := (x 0).isLt
    have e0 : (((Rect.unit (s := S1024x1024) ![64 * u.val, 0] S64x1024.size (inb_rows u)).emb x) 0).val = 64 * u.val + (x 0).val :=
      Rect.idx_unit_val (s := S1024x1024) _ _ (inb_rows u) x 0
    have e1 : (((Rect.unit (s := S1024x1024) ![64 * u.val, 0] S64x1024.size (inb_rows u)).emb x) 1).val = (x 1).val :=
      (Rect.idx_unit_val (s := S1024x1024) _ _ (inb_rows u) x 1).trans (Nat.zero_add _)
    show b.y u x = _
    have hx : x = ix2 (x 0) (x 1) := ValueIdx.eq_ix2 x
    refine ((congrArg (b.y u) hx).trans (Cut.y_apply hb u (x 0) (x 1))).trans ?_
    show _ = a.row _ (_ + (((Rect.unit (s := S1024x1024) ![64 * u.val, 0] S64x1024.size (inb_rows u)).emb x) 0).val / 64) _ _
    rw [e0, e1, show (64 * u.val + (x 0).val) / 64 = u.val by omega, show (64 * u.val + (x 0).val) % 64 = (x 0).val by omega]
  · refine ⟨_, List.mem_map.mpr ⟨(⟨r.val / 64, by omega⟩ : Fin 16), ?_, rfl⟩, ?_⟩
    · have : ∀ u : Fin 16, u ∈ ([15, 14, 13, 12, 11, 10, 9, 8, 7, 6, 5, 4, 3, 2, 1, 0] : List (Fin 16)) := by decide
      exact this _
    · refine (Rect.mem_set_unit (inb := inb_rows _)).mpr fun x => ?_
      fin_cases x
      · show 64 * (r.val / 64) ≤ r.val ∧ r.val < 64 * (r.val / 64) + 64
        omega
      · show 0 ≤ k.val ∧ k.val < 0 + 1024
        omega

/-- The states that a point leaves, over whatever was written before. -/
theorem Cut.states_apply (hb : b.Reads a t) (L : List (View.Piece (Elt Ideal) S4x128x256 .f32)) (h : Fin 4) (d : Fin 128) (e : Fin 256) :
    View.canon (b.statePieces ++ L) (ix3 h d e) = a.st (t / 2) h (16 * (t % 2) + 16) d e := by
  refine (View.canon_append_of_pieces (fun y : S4x128x256.Idx => a.st (t / 2) (y 0).val (16 * (t % 2) + 16) (y 1).val (y 2).val)
    L b.statePieces ?_ (ix3 h d e) ?_)
  · intro p hp x
    unfold Cut.statePieces at hp
    obtain ⟨u, -, rfl⟩ := List.mem_map.mp hp
    have hx0 : (x 0).val < 1 := (x 0).isLt
    have e0 : ((headRect u).emb x 0).val = u.val :=
      (Rect.idx_unit_val (s := S4x128x256) _ _ (inb_state u) x 0).trans (by show u.val + (x 0).val = _; omega)
    have e1 : ((headRect u).emb x 1).val = (x 1).val :=
      (Rect.idx_unit_val (s := S4x128x256) _ _ (inb_state u) x 1).trans (Nat.zero_add _)
    have e2 : ((headRect u).emb x 2).val = (x 2).val :=
      (Rect.idx_unit_val (s := S4x128x256) _ _ (inb_state u) x 2).trans (Nat.zero_add _)
    have hx : x = ix3 (0 : Fin 1) (x 1) (x 2) := by
      refine (ValueIdx.eq_ix3 x).trans ?_
      rw [show x 0 = (0 : Fin 1) from Fin.ext (by show (x 0).val = 0; omega)]
      rfl
    have hs (s : FVec Ideal S128x256 .f32) (d : Fin 128) (e : Fin 256) :
        shapeCast S1x128x256 s shapeCasts_S128x256_S1x128x256 (ix3 0 d e) = s (ix2 d e) := by pointwise
    show shapeCast S1x128x256 (b.st u 16 (le_refl _)) shapeCasts_S128x256_S1x128x256 x = _
    refine ((congrArg _ hx).trans (hs _ (x 1) (x 2))).trans ((Cut.st_apply hb u 16 _ (x 1) (x 2)).trans ?_)
    show _ = a.st _ ((headRect u).emb x 0).val _ ((headRect u).emb x 1).val ((headRect u).emb x 2).val
    rw [e0, e1, e2]
  · refine ⟨_, List.mem_map.mpr ⟨h, ?_, rfl⟩, ?_⟩
    · have : ∀ u : Fin 4, u ∈ ([3, 2, 1, 0] : List (Fin 4)) := by decide
      exact this _
    · refine (Rect.mem_set_unit (inb := inb_state _)).mpr fun x => ?_
      fin_cases x
      · show h.val ≤ h.val ∧ h.val < h.val + 1
        omega
      · show 0 ≤ d.val ∧ d.val < 0 + 128
        omega
      · show 0 ≤ e.val ∧ e.val < 0 + 256
        omega

/-- The block that a point writes, from the residual, the conditioning, the gated rows and the weights. -/
theorem block_apply (x5 : Vec Ideal S1024x1024 .f32) (x6 : Vec Ideal S1x1x1024 .f32) (y w : Vec Ideal S1024x1024 .bf16) (r m : Fin 1024) :
    k0_pay5 x5 x6 y w (ix2 r m) = x5 (ix2 r m) + x6 (ix3 0 0 m) * ∑ k : Fin 1024, y (ix2 r k) * w (ix2 k m) := by
  pointwise [k0_pay5]

end Cert.KernelIdeal.Vocab

end
-- ==== Proof.BridgeA.lean ====
/-
The body's writes at the first point, in the vocabulary of `Vocab`.
-/
module

public import proofs.«01_k».proof.Proof.Cuts

@[expose] public section

noncomputable section

namespace Cert.KernelIdeal.Vocab

open Cert.KernelIdeal Cert.KernelIdeal.Gen Idealize.ShloMosaic Idealize.ShloMosaic.TcCoe Idealize.SL.Sem

variable {F : FTy → Type} [FloatOps F]

set_option maxRecDepth 100000 in
set_option maxHeartbeats 4000000 in
/-- The states written at the first point. -/
theorem states_A
    (c : Dev nD) (i : grid0.Coords) (arg1 : Memref sig .tc .vmem S1024x512 .bf16) (harg1 : arg1.IsWhole)
    (arg2 : Memref sig .tc .vmem S1024x512 .bf16) (harg2 : arg2.IsWhole) (arg3 : Memref sig .tc .vmem S1024x1024 .bf16)
    (harg3 : arg3.IsWhole) (arg4 : Memref sig .tc .vmem S16x512 .f32) (harg4 : arg4.IsWhole)
    (arg5 : Memref sig .tc .vmem S1024x1024 .bf16) (harg5 : arg5.IsWhole) (arg6 : Memref sig .tc .vmem S1024x1024 .f32)
    (harg6 : arg6.IsWhole) (arg7 : Memref sig .tc .vmem S1x1x3072 .f32) (harg7 : arg7.IsWhole)
    (arg8 : Memref sig .tc .vmem S1x256 .f32) (harg8 : arg8.IsWhole) (arg9 : Memref sig .tc .vmem S1024x1024 .f32)
    (harg9 : arg9.IsWhole) (arg10 : Memref sig .tc .vmem S1024x1024 .f32) (harg10 : arg10.IsWhole)
    (arg11 : Memref sig .tc .vmem S4x128x256 .f32) (harg11 : arg11.IsWhole) (arg12 : Memref sig .tc .vmem S1024x1024 .bf16)
    (harg12 : arg12.IsWhole) (arg13 : Memref sig .tc .vmem S1024x1024 .bf16) (harg13 : arg13.IsWhole) (hc0 : cond0_0 i)
    (hc1 : cond0_1 i) (x0 : Vec F S1024x512 .bf16) (x1 : Vec F S1024x512 .bf16) (x2 : Vec F S1024x1024 .bf16) (x3 : Vec F S16x512 .f32)
    (x4 : Vec F S1024x1024 .bf16) (x5 : Vec F S1024x1024 .f32) (x6 : Vec F S1x1x3072 .f32) (x7 : Vec F S1x256 .f32)
    (x8 : Vec F S1024x1024 .f32) :
    (kernelRun0_A c i arg1 harg1 arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 x7 x8).2.1
      = (cutAt harg1 harg2 harg3 harg4 harg5 harg8 x0 x1 x2 x3 x4 x7 (fun h => arg11.view.readCov [zeroPiece] (headRect h).toLoadRect)).statePieces ++ [zeroPiece] := by
  unfold kernelRun0_A
  dsimp only
  rfl

set_option maxRecDepth 100000 in
set_option maxHeartbeats 4000000 in
/-- The block written at the first point. -/
theorem block_A
    (c : Dev nD) (i : grid0.Coords) (arg1 : Memref sig .tc .vmem S1024x512 .bf16) (harg1 : arg1.IsWhole)
    (arg2 : Memref sig .tc .vmem S1024x512 .bf16) (harg2 : arg2.IsWhole) (arg3 : Memref sig .tc .vmem S1024x1024 .bf16)
    (harg3 : arg3.IsWhole) (arg4 : Memref sig .tc .vmem S16x512 .f32) (harg4 : arg4.IsWhole)
    (arg5 : Memref sig .tc .vmem S1024x1024 .bf16) (harg5 : arg5.IsWhole) (arg6 : Memref sig .tc .vmem S1024x1024 .f32)
    (harg6 : arg6.IsWhole) (arg7 : Memref sig .tc .vmem S1x1x3072 .f32) (harg7 : arg7.IsWhole)
    (arg8 : Memref sig .tc .vmem S1x256 .f32) (harg8 : arg8.IsWhole) (arg9 : Memref sig .tc .vmem S1024x1024 .f32)
    (harg9 : arg9.IsWhole) (arg10 : Memref sig .tc .vmem S1024x1024 .f32) (harg10 : arg10.IsWhole)
    (arg11 : Memref sig .tc .vmem S4x128x256 .f32) (harg11 : arg11.IsWhole) (arg12 : Memref sig .tc .vmem S1024x1024 .bf16)
    (harg12 : arg12.IsWhole) (arg13 : Memref sig .tc .vmem S1024x1024 .bf16) (harg13 : arg13.IsWhole) (hc0 : cond0_0 i)
    (hc1 : cond0_1 i) (x0 : Vec F S1024x512 .bf16) (x1 : Vec F S1024x512 .bf16) (x2 : Vec F S1024x1024 .bf16) (x3 : Vec F S16x512 .f32)
    (x4 : Vec F S1024x1024 .bf16) (x5 : Vec F S1024x1024 .f32) (x6 : Vec F S1x1x3072 .f32) (x7 : Vec F S1x256 .f32)
    (x8 : Vec F S1024x1024 .f32) :
    (kernelRun0_A c i arg1 harg1 arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 x7 x8).1
      = [blockPiece harg6 harg7 arg13 x5 x6 (cutAt harg1 harg2 harg3 harg4 harg5 harg8 x0 x1 x2 x3 x4 x7 (fun h => arg11.view.readCov [zeroPiece] (headRect h).toLoadRect))
          (arg12.view.readCov [weightPiece harg9 x8] fullRect.toLoadRect)] := by
  unfold kernelRun0_A
  dsimp only
  rfl

set_option maxRecDepth 100000 in
set_option maxHeartbeats 4000000 in
/-- What the first point writes to the weights' scratch. -/
theorem weights_A
    (c : Dev nD) (i : grid0.Coords) (arg1 : Memref sig .tc .vmem S1024x512 .bf16) (harg1 : arg1.IsWhole)
    (arg2 : Memref sig .tc .vmem S1024x512 .bf16) (harg2 : arg2.IsWhole) (arg3 : Memref sig .tc .vmem S1024x1024 .bf16)
    (harg3 : arg3.IsWhole) (arg4 : Memref sig .tc .vmem S16x512 .f32) (harg4 : arg4.IsWhole)
    (arg5 : Memref sig .tc .vmem S1024x1024 .bf16) (harg5 : arg5.IsWhole) (arg6 : Memref sig .tc .vmem S1024x1024 .f32)
    (harg6 : arg6.IsWhole) (arg7 : Memref sig .tc .vmem S1x1x3072 .f32) (harg7 : arg7.IsWhole)
    (arg8 : Memref sig .tc .vmem S1x256 .f32) (harg8 : arg8.IsWhole) (arg9 : Memref sig .tc .vmem S1024x1024 .f32)
    (harg9 : arg9.IsWhole) (arg10 : Memref sig .tc .vmem S1024x1024 .f32) (harg10 : arg10.IsWhole)
    (arg11 : Memref sig .tc .vmem S4x128x256 .f32) (harg11 : arg11.IsWhole) (arg12 : Memref sig .tc .vmem S1024x1024 .bf16)
    (harg12 : arg12.IsWhole) (arg13 : Memref sig .tc .vmem S1024x1024 .bf16) (harg13 : arg13.IsWhole) (hc0 : cond0_0 i)
    (hc1 : cond0_1 i) (x0 : Vec F S1024x512 .bf16) (x1 : Vec F S1024x512 .bf16) (x2 : Vec F S1024x1024 .bf16) (x3 : Vec F S16x512 .f32)
    (x4 : Vec F S1024x1024 .bf16) (x5 : Vec F S1024x1024 .f32) (x6 : Vec F S1x1x3072 .f32) (x7 : Vec F S1x256 .f32)
    (x8 : Vec F S1024x1024 .f32) :
    (kernelRun0_A c i arg1 harg1 arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 x7 x8).2.2.1 = [weightPiece harg9 x8] := by
  unfold kernelRun0_A
  dsimp only
  rfl

end Cert.KernelIdeal.Vocab

end
-- ==== Proof.BridgeB.lean ====
/-
The body's writes at a point that goes on with a sequence, in the vocabulary of `Vocab`.
-/
module

public import proofs.«01_k».proof.Proof.Cuts

@[expose] public section

noncomputable section

namespace Cert.KernelIdeal.Vocab

open Cert.KernelIdeal Cert.KernelIdeal.Gen Idealize.ShloMosaic Idealize.ShloMosaic.TcCoe Idealize.SL.Sem

variable {F : FTy → Type} [FloatOps F]

set_option maxRecDepth 100000 in
set_option maxHeartbeats 4000000 in
/-- The states written at a point that goes on with a sequence. -/
theorem states_B
    (c : Dev nD) (i : grid0.Coords) (arg1 : Memref sig .tc .vmem S1024x512 .bf16) (harg1 : arg1.IsWhole)
    (arg2 : Memref sig .tc .vmem S1024x512 .bf16) (harg2 : arg2.IsWhole) (arg3 : Memref sig .tc .vmem S1024x1024 .bf16)
    (harg3 : arg3.IsWhole) (arg4 : Memref sig .tc .vmem S16x512 .f32) (harg4 : arg4.IsWhole)
    (arg5 : Memref sig .tc .vmem S1024x1024 .bf16) (harg5 : arg5.IsWhole) (arg6 : Memref sig .tc .vmem S1024x1024 .f32)
    (harg6 : arg6.IsWhole) (arg7 : Memref sig .tc .vmem S1x1x3072 .f32) (harg7 : arg7.IsWhole)
    (arg8 : Memref sig .tc .vmem S1x256 .f32) (harg8 : arg8.IsWhole) (arg9 : Memref sig .tc .vmem S1024x1024 .f32)
    (harg9 : arg9.IsWhole) (arg10 : Memref sig .tc .vmem S1024x1024 .f32) (harg10 : arg10.IsWhole)
    (arg11 : Memref sig .tc .vmem S4x128x256 .f32) (harg11 : arg11.IsWhole) (arg12 : Memref sig .tc .vmem S1024x1024 .bf16)
    (harg12 : arg12.IsWhole) (arg13 : Memref sig .tc .vmem S1024x1024 .bf16) (harg13 : arg13.IsWhole) (hc0 : ¬cond0_0 i)
    (hc1 : ¬cond0_1 i) (x0 : Vec F S1024x512 .bf16) (x1 : Vec F S1024x512 .bf16) (x2 : Vec F S1024x1024 .bf16)
    (x3 : Vec F S16x512 .f32) (x4 : Vec F S1024x1024 .bf16) (x5 : Vec F S1024x1024 .f32) (x6 : Vec F S1x1x3072 .f32)
    (x7 : Vec F S1x256 .f32) (x8 : Vec F S1024x1024 .f32) (xs0 : Vec F S4x128x256 .f32) (xs1 : Vec F S1024x1024 .bf16) :
    (kernelRun0_B c i arg1 harg1 arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 x7 x8 xs0 xs1).2.1
      = (cutAt harg1 harg2 harg3 harg4 harg5 harg8 x0 x1 x2 x3 x4 x7 (fun h => View.readAt (Elt F) arg11.view (headRect h).toLoadRect (harg11.unread xs0))).statePieces := by
  unfold kernelRun0_B
  dsimp only
  rfl

set_option maxRecDepth 100000 in
set_option maxHeartbeats 4000000 in
/-- The block written at a point that goes on with a sequence. -/
theorem block_B
    (c : Dev nD) (i : grid0.Coords) (arg1 : Memref sig .tc .vmem S1024x512 .bf16) (harg1 : arg1.IsWhole)
    (arg2 : Memref sig .tc .vmem S1024x512 .bf16) (harg2 : arg2.IsWhole) (arg3 : Memref sig .tc .vmem S1024x1024 .bf16)
    (harg3 : arg3.IsWhole) (arg4 : Memref sig .tc .vmem S16x512 .f32) (harg4 : arg4.IsWhole)
    (arg5 : Memref sig .tc .vmem S1024x1024 .bf16) (harg5 : arg5.IsWhole) (arg6 : Memref sig .tc .vmem S1024x1024 .f32)
    (harg6 : arg6.IsWhole) (arg7 : Memref sig .tc .vmem S1x1x3072 .f32) (harg7 : arg7.IsWhole)
    (arg8 : Memref sig .tc .vmem S1x256 .f32) (harg8 : arg8.IsWhole) (arg9 : Memref sig .tc .vmem S1024x1024 .f32)
    (harg9 : arg9.IsWhole) (arg10 : Memref sig .tc .vmem S1024x1024 .f32) (harg10 : arg10.IsWhole)
    (arg11 : Memref sig .tc .vmem S4x128x256 .f32) (harg11 : arg11.IsWhole) (arg12 : Memref sig .tc .vmem S1024x1024 .bf16)
    (harg12 : arg12.IsWhole) (arg13 : Memref sig .tc .vmem S1024x1024 .bf16) (harg13 : arg13.IsWhole) (hc0 : ¬cond0_0 i)
    (hc1 : ¬cond0_1 i) (x0 : Vec F S1024x512 .bf16) (x1 : Vec F S1024x512 .bf16) (x2 : Vec F S1024x1024 .bf16)
    (x3 : Vec F S16x512 .f32) (x4 : Vec F S1024x1024 .bf16) (x5 : Vec F S1024x1024 .f32) (x6 : Vec F S1x1x3072 .f32)
    (x7 : Vec F S1x256 .f32) (x8 : Vec F S1024x1024 .f32) (xs0 : Vec F S4x128x256 .f32) (xs1 : Vec F S1024x1024 .bf16) :
    (kernelRun0_B c i arg1 harg1 arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 x7 x8 xs0 xs1).1
      = [blockPiece harg6 harg7 arg13 x5 x6 (cutAt harg1 harg2 harg3 harg4 harg5 harg8 x0 x1 x2 x3 x4 x7 (fun h => View.readAt (Elt F) arg11.view (headRect h).toLoadRect (harg11.unread xs0)))
          (View.readAt (Elt F) arg12.view fullRect.toLoadRect (harg12.unread xs1))] := by
  unfold kernelRun0_B
  dsimp only
  rfl

end Cert.KernelIdeal.Vocab

end
-- ==== Proof.BridgeC.lean ====
/-
The body's writes at a point that begins a sequence, in the vocabulary of `Vocab`.
-/
module

public import proofs.«01_k».proof.Proof.Cuts

@[expose] public section

noncomputable section

namespace Cert.KernelIdeal.Vocab

open Cert.KernelIdeal Cert.KernelIdeal.Gen Idealize.ShloMosaic Idealize.ShloMosaic.TcCoe Idealize.SL.Sem

variable {F : FTy → Type} [FloatOps F]

set_option maxRecDepth 100000 in
set_option maxHeartbeats 4000000 in
/-- The states written at a point that begins a sequence. -/
theorem states_C
    (c : Dev nD) (i : grid0.Coords) (arg1 : Memref sig .tc .vmem S1024x512 .bf16) (harg1 : arg1.IsWhole)
    (arg2 : Memref sig .tc .vmem S1024x512 .bf16) (harg2 : arg2.IsWhole) (arg3 : Memref sig .tc .vmem S1024x1024 .bf16)
    (harg3 : arg3.IsWhole) (arg4 : Memref sig .tc .vmem S16x512 .f32) (harg4 : arg4.IsWhole)
    (arg5 : Memref sig .tc .vmem S1024x1024 .bf16) (harg5 : arg5.IsWhole) (arg6 : Memref sig .tc .vmem S1024x1024 .f32)
    (harg6 : arg6.IsWhole) (arg7 : Memref sig .tc .vmem S1x1x3072 .f32) (harg7 : arg7.IsWhole)
    (arg8 : Memref sig .tc .vmem S1x256 .f32) (harg8 : arg8.IsWhole) (arg9 : Memref sig .tc .vmem S1024x1024 .f32)
    (harg9 : arg9.IsWhole) (arg10 : Memref sig .tc .vmem S1024x1024 .f32) (harg10 : arg10.IsWhole)
    (arg11 : Memref sig .tc .vmem S4x128x256 .f32) (harg11 : arg11.IsWhole) (arg12 : Memref sig .tc .vmem S1024x1024 .bf16)
    (harg12 : arg12.IsWhole) (arg13 : Memref sig .tc .vmem S1024x1024 .bf16) (harg13 : arg13.IsWhole) (hc0 : ¬cond0_0 i)
    (hc1 : cond0_1 i) (x0 : Vec F S1024x512 .bf16) (x1 : Vec F S1024x512 .bf16) (x2 : Vec F S1024x1024 .bf16) (x3 : Vec F S16x512 .f32)
    (x4 : Vec F S1024x1024 .bf16) (x5 : Vec F S1024x1024 .f32) (x6 : Vec F S1x1x3072 .f32) (x7 : Vec F S1x256 .f32)
    (x8 : Vec F S1024x1024 .f32) (xs1 : Vec F S1024x1024 .bf16) :
    (kernelRun0_C c i arg1 harg1 arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 x7 x8 xs1).2.1
      = (cutAt harg1 harg2 harg3 harg4 harg5 harg8 x0 x1 x2 x3 x4 x7 (fun h => arg11.view.readCov [zeroPiece] (headRect h).toLoadRect)).statePieces ++ [zeroPiece] := by
  unfold kernelRun0_C
  dsimp only
  rfl

set_option maxRecDepth 100000 in
set_option maxHeartbeats 4000000 in
/-- The block written at a point that begins a sequence. -/
theorem block_C
    (c : Dev nD) (i : grid0.Coords) (arg1 : Memref sig .tc .vmem S1024x512 .bf16) (harg1 : arg1.IsWhole)
    (arg2 : Memref sig .tc .vmem S1024x512 .bf16) (harg2 : arg2.IsWhole) (arg3 : Memref sig .tc .vmem S1024x1024 .bf16)
    (harg3 : arg3.IsWhole) (arg4 : Memref sig .tc .vmem S16x512 .f32) (harg4 : arg4.IsWhole)
    (arg5 : Memref sig .tc .vmem S1024x1024 .bf16) (harg5 : arg5.IsWhole) (arg6 : Memref sig .tc .vmem S1024x1024 .f32)
    (harg6 : arg6.IsWhole) (arg7 : Memref sig .tc .vmem S1x1x3072 .f32) (harg7 : arg7.IsWhole)
    (arg8 : Memref sig .tc .vmem S1x256 .f32) (harg8 : arg8.IsWhole) (arg9 : Memref sig .tc .vmem S1024x1024 .f32)
    (harg9 : arg9.IsWhole) (arg10 : Memref sig .tc .vmem S1024x1024 .f32) (harg10 : arg10.IsWhole)
    (arg11 : Memref sig .tc .vmem S4x128x256 .f32) (harg11 : arg11.IsWhole) (arg12 : Memref sig .tc .vmem S1024x1024 .bf16)
    (harg12 : arg12.IsWhole) (arg13 : Memref sig .tc .vmem S1024x1024 .bf16) (harg13 : arg13.IsWhole) (hc0 : ¬cond0_0 i)
    (hc1 : cond0_1 i) (x0 : Vec F S1024x512 .bf16) (x1 : Vec F S1024x512 .bf16) (x2 : Vec F S1024x1024 .bf16) (x3 : Vec F S16x512 .f32)
    (x4 : Vec F S1024x1024 .bf16) (x5 : Vec F S1024x1024 .f32) (x6 : Vec F S1x1x3072 .f32) (x7 : Vec F S1x256 .f32)
    (x8 : Vec F S1024x1024 .f32) (xs1 : Vec F S1024x1024 .bf16) :
    (kernelRun0_C c i arg1 harg1 arg2 harg2 arg3 harg3 arg4 harg4 arg5 harg5 arg6 harg6 arg7 harg7 arg8 harg8 arg9 harg9 arg10 harg10
        arg11 harg11 arg12 harg12 arg13 harg13 hc0 hc1 x0 x1 x2 x3 x4 x5 x6 x7 x8 xs1).1
      = [blockPiece harg6 harg7 arg13 x5 x6 (cutAt harg1 harg2 harg3 harg4 harg5 harg8 x0 x1 x2 x3 x4 x7 (fun h => arg11.view.readCov [zeroPiece] (headRect h).toLoadRect))
          (View.readAt (Elt F) arg12.view fullRect.toLoadRect (harg12.unread xs1))] := by
  unfold kernelRun0_C
  dsimp only
  rfl

end Cert.KernelIdeal.Vocab

end
-- ==== Proof.Fold.lean ====
/-
The kernel's grid, point after point, against the specification.
-/
module

public import proofs.«01_k».proof.Proof.Point
public import proofs.«01_k».proof.Proof.BridgeA
public import proofs.«01_k».proof.Proof.BridgeB
public import proofs.«01_k».proof.Proof.BridgeC
public import proofs.«01_k».proof.Proof.Gen.KernelIdeal.Value

@[expose] public section

noncomputable section

open scoped BigOperators

namespace Cert.KernelIdeal.Vocab

open Cert.KernelIdeal Cert.KernelIdeal.Gen Idealize.ShloMosaic Idealize.ShloMosaic.TcCoe Idealize.SL.Sem
open Cert.Spec (Data at2 at3 at2_eq at3_eq)

theorem zero2 : (![0, 0] : Fin 2 → ℕ) = fun _ => 0 := by decide
theorem zero3 : (![0, 0, 0] : Fin 3 → ℕ) = fun _ => 0 := by decide

/-- The blocks of grid point `t` are the specification's arguments. -/
structure Blocks (a : Data) (t : ℕ) (x0 x1 : Vec Ideal S1024x512 .bf16) (x2 : Vec Ideal S1024x1024 .bf16) (x3 : Vec Ideal S16x512 .f32)
    (x4 : Vec Ideal S1024x1024 .bf16) (x5 : Vec Ideal S1024x1024 .f32) (x6 : Vec Ideal S1x1x3072 .f32) (x7 : Vec Ideal S1x256 .f32)
    (x8 : Vec Ideal S1024x1024 .f32) : Prop where
  q : ∀ r c, x0 (ix2 r c) = a.Q (1024 * t + r.val) c.val
  k : ∀ r c, x1 (ix2 r c) = a.K (1024 * t + r.val) c.val
  v : ∀ r c, x2 (ix2 r c) = a.V (1024 * t + r.val) c.val
  dec : ∀ r c, x3 (ix2 r c) = a.D (16 * t + r.val) c.val
  g : ∀ r c, x4 (ix2 r c) = a.G (1024 * t + r.val) c.val
  x : ∀ r c, x5 (ix2 r c) = a.X (1024 * t + r.val) c.val
  cond : ∀ c, x6 (ix3 0 0 c) = a.C (t / 2) c.val
  ogain : ∀ c, x7 (ix2 0 c) = a.O 0 c.val
  w : ∀ r c, x8 (ix2 r c) = a.W r.val c.val

variable {a : Data} {t : ℕ} {x0 x1 : Vec Ideal S1024x512 .bf16} {x2 : Vec Ideal S1024x1024 .bf16} {x3 : Vec Ideal S16x512 .f32}
  {x4 : Vec Ideal S1024x1024 .bf16} {x5 : Vec Ideal S1024x1024 .f32} {x6 : Vec Ideal S1x1x3072 .f32} {x7 : Vec Ideal S1x256 .f32}
  {x8 : Vec Ideal S1024x1024 .f32}

/-- So what the point's loads read are the specification's arguments too. -/
theorem cutAt_reads (hx : Blocks a t x0 x1 x2 x3 x4 x5 x6 x7 x8)
    {arg1 : Memref sig .tc .vmem S1024x512 .bf16} (harg1 : arg1.IsWhole) {arg2 : Memref sig .tc .vmem S1024x512 .bf16} (harg2 : arg2.IsWhole)
    {arg3 : Memref sig .tc .vmem S1024x1024 .bf16} (harg3 : arg3.IsWhole) {arg4 : Memref sig .tc .vmem S16x512 .f32} (harg4 : arg4.IsWhole)
    {arg5 : Memref sig .tc .vmem S1024x1024 .bf16} (harg5 : arg5.IsWhole) {arg8 : Memref sig .tc .vmem S1x256 .f32} (harg8 : arg8.IsWhole)
    (s0 : Fin 4 → Vec Ideal S1x128x256 .f32)
    (hs : ∀ (h : Fin 4) (d : Fin 128) (e : Fin 256), s0 h (ix3 0 d e) = a.st (t / 2) h (16 * (t % 2)) d e) :
    (cutAt harg1 harg2 harg3 harg4 harg5 harg8 x0 x1 x2 x3 x4 x7 s0).Reads a t where
  q u h i d := by
    unfold cutAt
    dsimp only
    rw [View.readAt_eq_ld, harg1.read_unread]
    exact (View.ld_unit_apply_of (S := S1024x512) x0 _ _ (inb_qk u h) (ix2 i d) (ix2 ⟨64 * u.val + i.val, by omega⟩ ⟨128 * h.val + d.val, by omega⟩)
      fun x => by fin_cases x <;> rfl).trans ((hx.q _ _).trans (by rw [← Nat.add_assoc]))
  k u h i d := by
    unfold cutAt
    dsimp only
    rw [View.readAt_eq_ld, harg2.read_unread]
    exact (View.ld_unit_apply_of (S := S1024x512) x1 _ _ (inb_qk u h) (ix2 i d) (ix2 ⟨64 * u.val + i.val, by omega⟩ ⟨128 * h.val + d.val, by omega⟩)
      fun x => by fin_cases x <;> rfl).trans ((hx.k _ _).trans (by rw [← Nat.add_assoc]))
  v u h i e := by
    unfold cutAt
    dsimp only
    rw [View.readAt_eq_ld, harg3.read_unread]
    exact (View.ld_unit_apply_of (S := S1024x1024) x2 _ _ (inb_v u h) (ix2 i e) (ix2 ⟨64 * u.val + i.val, by omega⟩ ⟨256 * h.val + e.val, by omega⟩)
      fun x => by fin_cases x <;> rfl).trans ((hx.v _ _).trans (by rw [← Nat.add_assoc]))
  dec h u d := by
    unfold cutAt
    dsimp only
    rw [View.readAt_eq_ld, harg4.read_unread]
    exact (View.ld_unit_apply_of (S := S16x512) x3 _ _ (inb_dec h) (ix2 u d) (ix2 u ⟨128 * h.val + d.val, by omega⟩)
      fun x => by fin_cases x <;> simp).trans (hx.dec _ _)
  g u i c := by
    unfold cutAt
    dsimp only
    rw [View.readAt_eq_ld, harg5.read_unread]
    exact (View.ld_unit_apply_of (S := S1024x1024) x4 _ _ (inb_rows u) (ix2 i c) (ix2 ⟨64 * u.val + i.val, by omega⟩ c)
      fun x => by fin_cases x <;> simp).trans ((hx.g _ _).trans (by rw [← Nat.add_assoc]))
  ogain e := by
    unfold cutAt
    dsimp only
    rw [View.readAt_eq_ld, harg8.read_unread, View.ld_unit_zero (S := S1x256) zero2]
    exact hx.ogain e
  s0 := hs

/-- The block that a point writes is the specification's result. -/
theorem block_reads (hx : Blocks a t x0 x1 x2 x3 x4 x5 x6 x7 x8) {b : Cut Ideal} (hb : b.Reads a t)
    {arg6 : Memref sig .tc .vmem S1024x1024 .f32} (harg6 : arg6.IsWhole) {arg7 : Memref sig .tc .vmem S1x1x3072 .f32}
    (harg7 : arg7.IsWhole) (arg13 : Memref sig .tc .vmem S1024x1024 .bf16) (w : Vec Ideal S1024x1024 .bf16)
    (hw : ∀ k m, w (ix2 k m) = a.W k.val m.val) (r m : Fin 1024) :
    View.canon [blockPiece harg6 harg7 arg13 x5 x6 b w] (ix2 r m) = a.res (1024 * t + r.val) m.val := by
  have hy (k : Fin 1024) : arg13.view.readCov b.rowPieces fullRect.toLoadRect (ix2 r k) = a.row (t / 2) (16 * (t % 2) + r / 64) (r % 64) k := by
    rw [View.readCov_eq_canon']
    refine (congrArg (View.canon b.rowPieces) (?_ : _ = ix2 r k)).trans (Cut.rows_apply hb r k)
    funext x
    fin_cases x
    · exact Fin.ext ((Rect.idx_unit_val (s := S1024x1024) _ _ inb_S1024x1024_S1024x1024_0_0 (ix2 r k) 0).trans (Nat.zero_add _))
    · exact Fin.ext ((Rect.idx_unit_val (s := S1024x1024) _ _ inb_S1024x1024_S1024x1024_0_0 (ix2 r k) 1).trans (Nat.zero_add _))
  have hc : View.readAt (Elt Ideal) arg7.view (Rect.unit (s := S1x1x3072) ![0, 0, 2048] S1x1x1024.size inb_S1x1x3072_S1x1x1024_0_0_2048).toLoadRect
      (harg7.unread x6) (ix3 0 0 m) = a.C (t / 2) (2048 + m) := by
    rw [View.readAt_eq_ld, harg7.read_unread]
    exact (View.ld_unit_apply_of (S := S1x1x3072) x6 _ _ inb_S1x1x3072_S1x1x1024_0_0_2048 (ix3 0 0 m) (ix3 0 0 ⟨2048 + m.val, by omega⟩)
      fun x => by fin_cases x <;> rfl).trans (hx.cond _)
  unfold blockPiece
  rw [View.canon_unit_zero (S := S1024x1024) zero2, block_apply, View.readAt_eq_ld, harg6.read_unread, View.ld_unit_zero (S := S1024x1024) zero2, hx.x, hc]
  simp only [hy, hw]
  unfold Data.res
  rw [show (1024 * t + r.val) / 2048 = t / 2 by omega, show (1024 * t + r.val) % 2048 / 64 = 16 * (t % 2) + r.val / 64 by omega,
    show (1024 * t + r.val) % 64 = r.val % 64 by omega]

/-- The weights' copy holds the weights. -/
theorem weight_apply {arg9 : Memref sig .tc .vmem S1024x1024 .f32} (harg9 : arg9.IsWhole) (x8 : Vec Ideal S1024x1024 .f32)
    (k m : Fin 1024) : View.canon [weightPiece harg9 x8] (ix2 k m) = x8 (ix2 k m) := by
  unfold weightPiece
  rw [View.canon_unit_zero (S := S1024x1024) zero2, View.readAt_eq_ld, harg9.read_unread, View.ld_unit_zero (S := S1024x1024) zero2]
  pointwise [k0_pay7]

/-- A head's state right after the fill is zero. -/
theorem zero_apply (arg11 : Memref sig .tc .vmem S4x128x256 .f32) (h : Fin 4) (d : Fin 128) (e : Fin 256) :
    arg11.view.readCov [zeroPiece (F := Ideal)] (headRect h).toLoadRect (ix3 0 d e) = (0 : EReal) := by
  rw [View.readCov_eq_canon']
  show View.canon [zeroPiece (F := Ideal)] _ = _
  unfold zeroPiece
  rw [View.canon_unit_zero (S := S4x128x256) zero3]
  exact Ideal.ofBits_zero_f32

/-- What holds after grid point `t`: the block is the specification's result, the scratch its states, and the weights' copy the weights. -/
structure After (a : Data) (t : ℕ) (acc : Vec Ideal S1024x1024 .f32 × Vec Ideal S4x128x256 .f32 × Vec Ideal S1024x1024 .bf16) : Prop where
  block : ∀ r m, acc.1 (ix2 r m) = a.res (1024 * t + r.val) m.val
  states : ∀ h d e, acc.2.1 (ix3 h d e) = a.st (t / 2) h.val (16 * (t % 2) + 16) d.val e.val
  weights : ∀ k m, acc.2.2 (ix2 k m) = a.W k.val m.val

/-- The states of head `h` as a later load finds them. -/
theorem kept_apply {arg11 : Memref sig .tc .vmem S4x128x256 .f32} (harg11 : arg11.IsWhole) (xs0 : Vec Ideal S4x128x256 .f32) (h : Fin 4)
    (d : Fin 128) (e : Fin 256) :
    View.readAt (Elt Ideal) arg11.view (headRect h).toLoadRect (harg11.unread xs0) (ix3 0 d e) = xs0 (ix3 h d e) := by
  rw [View.readAt_eq_ld, harg11.read_unread]
  exact View.ld_unit_apply_of (S := S4x128x256) xs0 _ _ (inb_state h) (ix3 0 d e) (ix3 h d e) fun x => by fin_cases x <;> simp

/-- A load of a whole matrix is the matrix. -/
theorem full_apply {arg12 : Memref sig .tc .vmem S1024x1024 .bf16} (harg12 : arg12.IsWhole) (w : Vec Ideal S1024x1024 .bf16) :
    View.readAt (Elt Ideal) arg12.view fullRect.toLoadRect (harg12.unread w) = w := by
  rw [View.readAt_eq_ld, harg12.read_unread, View.ld_unit_zero (S := S1024x1024) zero2]

/-- A load of the weights' copy that the point has just made reads the weights. -/
theorem copied_apply (arg12 : Memref sig .tc .vmem S1024x1024 .bf16) {arg9 : Memref sig .tc .vmem S1024x1024 .f32} (harg9 : arg9.IsWhole)
    (x8 : Vec Ideal S1024x1024 .f32) (k m : Fin 1024) :
    arg12.view.readCov [weightPiece harg9 x8] fullRect.toLoadRect (ix2 k m) = x8 (ix2 k m) := by
  rw [View.readCov_eq_canon']
  refine (congrArg (View.canon [weightPiece harg9 x8]) (?_ : _ = ix2 k m)).trans (weight_apply harg9 x8 k m)
  funext x
  fin_cases x
  · exact Fin.ext ((Rect.idx_unit_val (s := S1024x1024) _ _ inb_S1024x1024_S1024x1024_0_0 (ix2 k m) 0).trans (Nat.zero_add _))
  · exact Fin.ext ((Rect.idx_unit_val (s := S1024x1024) _ _ inb_S1024x1024_S1024x1024_0_0 (ix2 k m) 1).trans (Nat.zero_add _))

/-- The state before the first chunk of a sequence is zero. -/
theorem start_zero (ht : t % 2 = 0) (h d e : ℕ) : a.st (t / 2) h (16 * (t % 2)) d e = 0 := by
  rw [ht]
  rfl

variable (m : (ℓ : Loc nD τ sig) → Buf (Elt Ideal) ℓ) (c : Dev nD)

/-- The blocks of point `t`, as the pipeline cuts them from the arguments, are the specification's. -/
abbrev Staged (a : Data) (t : Fin cfg0.N) : Prop :=
  Blocks a t.val (iblk m c 0 t) (iblk m c 1 t) (iblk m c 2 t) (iblk m c 3 t) (iblk m c 4 t) (iblk m c 5 t) (iblk m c 6 t) (iblk m c 7 t)
    (iblk m c 8 t)

/-- The first point. -/
theorem after_A (t : Fin cfg0.N) (hx : Staged m c a t) (acc : Vec Ideal S1024x1024 .f32 × Vec Ideal S4x128x256 .f32 × Vec Ideal S1024x1024 .bf16)
    (h0 : t.val % 16 = 0) (h1 : t.val % 2 = 0) : After a t.val (Value.stAt0 m c t.val t.isLt acc) := by
  rw [Value.stAt0_A m c t acc h0 h1]
  have hs (h : Fin 4) (d : Fin 128) (e : Fin 256) := (zero_apply scM0_0 h d e).trans (start_zero (a := a) h1 h.val d.val e.val).symm
  constructor
  · intro r m
    dsimp only
    unfold out0_A_9
    rw [View.read_writes_junk_eq_canon, block_A]
    exact block_reads hx (cutAt_reads hx _ _ _ _ _ _ _ hs) _ _ _ _ (fun k m => (copied_apply _ _ _ k m).trans (hx.w k m)) r m
  · intro h d e
    dsimp only
    unfold sout0_A_0
    rw [View.read_writes_junk_eq_canon, states_A]
    exact Cut.states_apply (cutAt_reads hx _ _ _ _ _ _ _ hs) _ h d e
  · intro k m
    dsimp only
    unfold sout0_A_1
    rw [View.read_writes_junk_eq_canon, weights_A]
    exact (weight_apply _ _ k m).trans (hx.w k m)

/-- A point in the middle of a sequence. -/
theorem after_B (t : Fin cfg0.N) (hx : Staged m c a t) (acc : Vec Ideal S1024x1024 .f32 × Vec Ideal S4x128x256 .f32 × Vec Ideal S1024x1024 .bf16)
    (h0 : ¬t.val % 16 = 0) (h1 : ¬t.val % 2 = 0) (n : ℕ) (hn : n + 1 = t.val) (hacc : After a n acc) :
    After a t.val (Value.stAt0 m c t.val t.isLt acc) := by
  rw [Value.stAt0_B m c t acc h0 h1]
  have hs (h : Fin 4) (d : Fin 128) (e : Fin 256) : View.readAt (Elt Ideal) scM0_0.view (headRect h).toLoadRect
      ((Memref.isWhole_whole _).unread acc.2.1) (ix3 0 d e) = a.st (t.val / 2) h (16 * (t.val % 2)) d e := by
    refine (kept_apply _ acc.2.1 h d e).trans ((hacc.states h d e).trans ?_)
    rw [show n / 2 = t.val / 2 by omega, show 16 * (n % 2) + 16 = 16 * (t.val % 2) by omega]
  constructor
  · intro r m
    dsimp only
    unfold out0_B_9
    rw [View.read_writes_junk_eq_canon, block_B]
    exact block_reads hx (cutAt_reads hx _ _ _ _ _ _ _ hs) _ _ _ _ (fun k m => (congrFun (full_apply _ _) _).trans (hacc.weights k m)) r m
  · intro h d e
    dsimp only
    unfold sout0_B_0
    rw [View.read_writes_junk_eq_canon, states_B, ← List.append_nil (Cut.statePieces _)]
    exact Cut.states_apply (cutAt_reads hx _ _ _ _ _ _ _ hs) _ h d e
  · exact hacc.weights

/-- A point that begins a sequence. -/
theorem after_C (t : Fin cfg0.N) (hx : Staged m c a t) (acc : Vec Ideal S1024x1024 .f32 × Vec Ideal S4x128x256 .f32 × Vec Ideal S1024x1024 .bf16)
    (h0 : ¬t.val % 16 = 0) (h1 : t.val % 2 = 0) (n : ℕ) (hacc : After a n acc) :
    After a t.val (Value.stAt0 m c t.val t.isLt acc) := by
  rw [Value.stAt0_C m c t acc h0 h1]
  have hs (h : Fin 4) (d : Fin 128) (e : Fin 256) := (zero_apply scM0_0 h d e).trans (start_zero (a := a) h1 h.val d.val e.val).symm
  constructor
  · intro r m
    dsimp only
    unfold out0_C_9
    rw [View.read_writes_junk_eq_canon, block_C]
    exact block_reads hx (cutAt_reads hx _ _ _ _ _ _ _ hs) _ _ _ _ (fun k m => (congrFun (full_apply _ _) _).trans (hacc.weights k m)) r m
  · intro h d e
    dsimp only
    unfold sout0_C_0
    rw [View.read_writes_junk_eq_canon, states_C]
    exact Cut.states_apply (cutAt_reads hx _ _ _ _ _ _ _ hs) _ h d e
  · exact hacc.weights

/-- After every point the specification's values hold. -/
theorem after (hx : ∀ t, Staged m c a t) : ∀ (n : ℕ) (hn : 0 + n < cfg0.N),
    After a n (Pipeline.accAt (fun n h => Value.stAt0 m c n h Value.junk0) (Value.stAt0 m c) 0 n hn)
  | 0, hn => after_A m c ⟨0, hn⟩ (hx _) _ rfl rfl
  | n + 1, hn => by
    have ih := after hx n (Nat.lt_of_succ_lt hn)
    have hN : n + 1 < 16 := (Nat.zero_add _).symm.trans_lt (lt_of_lt_of_eq hn (show cfg0.N = 16 from N_0))
    have hn' : n + 1 < cfg0.N := by omega
    have key (acc) (hacc : After a n acc) : After a (n + 1) (Value.stAt0 m c (n + 1) hn' acc) := by
      by_cases h1 : (n + 1) % 2 = 0
      · exact after_C m c ⟨n + 1, hn'⟩ (hx _) acc (by show ¬(n + 1) % 16 = 0; omega) h1 n hacc
      · exact after_B m c ⟨n + 1, hn'⟩ (hx _) acc (by show ¬(n + 1) % 16 = 0; omega) h1 n rfl hacc
    rw [Pipeline.accAt_succ]
    have e : ∀ j (hj : j < cfg0.N) acc, j = n + 1 → Value.stAt0 m c j hj acc = Value.stAt0 m c (n + 1) hn' acc := by
      intro j hj acc e; subst e; rfl
    rw [e _ _ _ (Nat.zero_add _)]
    exact key _ ih

/-! ## The arguments' blocks -/

/-- The kernel's arguments as the specification's. -/
def args : Data where
  Q := at2 (m ((c : Thread nD τ).loc main_arg0))
  K := at2 (m ((c : Thread nD τ).loc main_arg1))
  V := at2 (m ((c : Thread nD τ).loc main_arg2))
  D := at2 (m ((c : Thread nD τ).loc main_arg3))
  G := at2 (m ((c : Thread nD τ).loc main_arg4))
  X := at2 (m ((c : Thread nD τ).loc main_arg5))
  C := at3 (m ((c : Thread nD τ).loc main_arg6))
  O := at2 (m ((c : Thread nD τ).loc main_arg7))
  W := at2 (m ((c : Thread nD τ).loc main_arg8))

/-- Where the windows stand at each point. -/
theorem index_facts : ∀ t : Fin cfg0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ win0_6.index t 0 = t.val / 2 ∧ win0_6.index t 1 = 0 ∧ win0_6.index t 2 = 0
    ∧ win0_7.index t 0 = 0 ∧ win0_7.index t 1 = 0 ∧ win0_8.index t 0 = 0 ∧ win0_8.index t 1 = 0 :=
  (by decide +kernel : ∀ t : Fin grid0.N, _)

/-- An array's element at an index with the given coordinates. -/
theorem at2_at {p q : ℕ} (X : (⟨2, ![p, q]⟩ : Shape).Idx → EReal) (i : (⟨2, ![p, q]⟩ : Shape).Idx) {r c : ℕ} (hr : (i 0).val = r)
    (hc : (i 1).val = c) : X i = at2 X r c :=
  (congrArg X (ValueIdx.eq_ix2 i)).trans (at2_eq X hr hc)

theorem at3_at {p q : ℕ} (X : (⟨3, ![p, 1, q]⟩ : Shape).Idx → EReal) (i : (⟨3, ![p, 1, q]⟩ : Shape).Idx) {r c : ℕ} (hr : (i 0).val = r)
    (hc : (i 2).val = c) : X i = at3 X r c := by
  have h1 : i 1 = (0 : Fin 1) := Subsingleton.elim (α := Fin 1) _ _
  have e : i = ix3 (i 0) 0 (i 2) := (ValueIdx.eq_ix3 i).trans (by rw [h1]; rfl)
  exact (congrArg X e).trans (at3_eq X hr hc)

/-- Every window's block is its argument's at the window's place. -/
theorem staged (t : Fin cfg0.N) : Staged m c (args m c) t := by
  obtain ⟨a0, b0, a1, b1, a2, b2, a3, b3, a4, b4, a5, b5, a6, b6, c6, a7, b7, a8, b8⟩ := index_facts t
  constructor
  · intro r l
    unfold iblk
    rw [View.read_apply]
    refine at2_at (m ((c : Thread nD τ).loc main_arg0)) _ ?_ ?_
    · show win0_0.index t 0 * 1024 + 1 * r.val = _; rw [a0]; omega
    · show win0_0.index t 1 * 512 + 1 * l.val = _; rw [b0]; omega
  · intro r l
    unfold iblk
    rw [View.read_apply]
    refine at2_at (m ((c : Thread nD τ).loc main_arg1)) _ ?_ ?_
    · show win0_1.index t 0 * 1024 + 1 * r.val = _; rw [a1]; omega
    · show win0_1.index t 1 * 512 + 1 * l.val = _; rw [b1]; omega
  · intro r l
    unfold iblk
    rw [View.read_apply]
    refine at2_at (m ((c : Thread nD τ).loc main_arg2)) _ ?_ ?_
    · show win0_2.index t 0 * 1024 + 1 * r.val = _; rw [a2]; omega
    · show win0_2.index t 1 * 1024 + 1 * l.val = _; rw [b2]; omega
  · intro r l
    unfold iblk
    rw [View.read_apply]
    refine at2_at (m ((c : Thread nD τ).loc main_arg3)) _ ?_ ?_
    · show win0_3.index t 0 * 16 + 1 * r.val = _; rw [a3]; omega
    · show win0_3.index t 1 * 512 + 1 * l.val = _; rw [b3]; omega
  · intro r l
    unfold iblk
    rw [View.read_apply]
    refine at2_at (m ((c : Thread nD τ).loc main_arg4)) _ ?_ ?_
    · show win0_4.index t 0 * 1024 + 1 * r.val = _; rw [a4]; omega
    · show win0_4.index t 1 * 1024 + 1 * l.val = _; rw [b4]; omega
  · intro r l
    unfold iblk
    rw [View.read_apply]
    refine at2_at (m ((c : Thread nD τ).loc main_arg5)) _ ?_ ?_
    · show win0_5.index t 0 * 1024 + 1 * r.val = _; rw [a5]; omega
    · show win0_5.index t 1 * 1024 + 1 * l.val = _; rw [b5]; omega
  · intro l
    unfold iblk
    rw [View.read_apply]
    refine at3_at (m ((c : Thread nD τ).loc main_arg6)) _ ?_ ?_
    · show win0_6.index t 0 * 1 + 1 * 0 = _; rw [a6]; omega
    · show win0_6.index t 2 * 3072 + 1 * l.val = _; rw [c6]; omega
  · intro l
    unfold iblk
    rw [View.read_apply]
    refine at2_at (m ((c : Thread nD τ).loc main_arg7)) _ ?_ ?_
    · show win0_7.index t 0 * 1 + 1 * 0 = _; rw [a7]
    · show win0_7.index t 1 * 256 + 1 * l.val = _; rw [b7]; omega
  · intro r l
    unfold iblk
    rw [View.read_apply]
    refine at2_at (m ((c : Thread nD τ).loc main_arg8)) _ ?_ ?_
    · show win0_8.index t 0 * 1024 + 1 * r.val = _; rw [a8]; omega
    · show win0_8.index t 1 * 1024 + 1 * l.val = _; rw [b8]; omega

/-- What the kernel returns is the specification's result. -/
theorem result_apply (r : Fin 16384) (l : Fin 1024) : Value.G9 m c (ix2 r l) = (args m c).res r l := by
  have hr := r.isLt
  have hl := l.isLt
  have hp : Value.pt9Of (ix2 r l) = r.val / 1024 := by
    show 1 * (r.val / 1024 - 0) + 1 * (l.val / 1024 - 0) = _
    omega
  have hN : Value.pt9Of (ix2 r l) < cfg0.N := by
    rw [hp, show cfg0.N = 16 from N_0]
    omega
  unfold Value.G9
  rw [dif_pos hN]
  have hloc : Value.loc9Of (ix2 r l) = ix2 ⟨r.val % 1024, by omega⟩ l := by
    funext x
    fin_cases x
    · rfl
    · exact Fin.ext (Nat.mod_eq_of_lt hl)
  rw [hloc]
  refine ((after m c (a := args m c) (staged m c) _ (by omega)).block ⟨r.val % 1024, by omega⟩ l).trans ?_
  rw [hp]
  show Data.res _ (1024 * (r.val / 1024) + r.val % 1024) _ = _
  rw [show 1024 * (r.val / 1024) + r.val % 1024 = r.val by omega]

end Cert.KernelIdeal.Vocab

end
-- ==== Proof.RefRun.lean ====
/-
The run of the reference `ReferenceIdeal`, stated over the state that its loop hands on.

The loop is a scan: each trip reads the state before its chunk out of the carried buffers, stacks it, and goes on to the
next state.  `Gen/ReferenceIdeal/Run.lean` states the run over the buffers; here it is restated over `Step.step`.
-/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's state, read out of the buffers that carry it. -/
def stateOf (V : Valuation τ sig (Elt F)) : State F :=
  ⟨V (Proc.devRef .tc main_v16_3), V (Proc.devRef .tc main_v16_4), V (Proc.devRef .tc main_v16_0), V (Proc.devRef .tc main_v16_1)⟩

set_option maxRecDepth 8192 in
/-- One trip takes the state that the buffers hold to the next one. -/
theorem stateOf_STEP (V : Valuation τ sig (Elt F)) (j : ℕ)
    (hj : V (Proc.devRef .tc main_v16_2) = constantI S_ 32 (BitVec.ofNat 32 j)) : stateOf (STEP V) = step j (stateOf V) := by
  unfold stateOf
  rw [STEP_main_v16_3, STEP_main_v16_4, STEP_main_v16_0, STEP_main_v16_1]
  unfold step_main_v16_3 step_main_v16_4
  rw [hj]
  rfl

/-- One trip counts on by one. -/
theorem counter_STEP (V : Valuation τ sig (Elt F)) (j : ℕ)
    (hj : V (Proc.devRef .tc main_v16_2) = constantI S_ 32 (BitVec.ofNat 32 j)) :
    STEP V (Proc.devRef .tc main_v16_2) = constantI S_ 32 (BitVec.ofNat 32 (j + 1)) := by
  rw [STEP_main_v16_2]
  unfold step_main_v16_2
  rw [hj]
  funext i
  show BitVec.ofNat 32 j + 1#32 = BitVec.ofNat 32 (j + 1)
  simp only [BitVec.ofNat_add]

/-- The states of the loop, from the keys, the values and the decays. -/
def iter (ke : (⟨S16384x512, .bf16⟩ : BufTy).Contents (Elt F)) (v : (⟨S16384x1024, .bf16⟩ : BufTy).Contents (Elt F))
    (dec : (⟨S256x512, .f32⟩ : BufTy).Contents (Elt F)) : ℕ → State F
  | 0 => init ke v dec
  | n + 1 => step n (iter ke v dec n)

variable (m : (ℓ : Loc nD τ sig) → Buf (Elt F) ℓ) (c : Dev nD)

set_option maxRecDepth 65536 in
/-- Before the loop the buffers hold its first state. -/
theorem entry : stateOf (entryContents preI m c)
      = init (m ((c.tc : Thread nD τ).loc main_arg1)) (m ((c.tc : Thread nD τ).loc main_arg2)) (m ((c.tc : Thread nD τ).loc main_arg3))
    ∧ entryContents preI m c (Proc.devRef .tc main_v16_2) = constantI S_ 32 (BitVec.ofNat 32 0) := by
  refine ⟨?_, ?_⟩
  · unfold stateOf
    congr 1 <;> (simp only [entryContents, afterL_cons, afterL_nil]; after_reads_simp) <;> rfl
  · (simp only [entryContents, afterL_cons, afterL_nil]; after_reads_simp) <;> rfl

/-- Before trip `k` the buffers hold the `k`-th state. -/
theorem holds : ∀ k, stateOf (STEP^[k] (entryContents preI m c))
        = iter (m ((c.tc : Thread nD τ).loc main_arg1)) (m ((c.tc : Thread nD τ).loc main_arg2)) (m ((c.tc : Thread nD τ).loc main_arg3)) k
      ∧ STEP^[k] (entryContents preI m c) (Proc.devRef .tc main_v16_2) = constantI S_ 32 (BitVec.ofNat 32 k)
  | 0 => entry m c
  | k + 1 => by
    have h := holds k
    rw [Function.iterate_succ_apply']
    exact ⟨(stateOf_STEP _ k h.2).trans (congrArg (step k) h.1), counter_STEP _ k h.2⟩

set_option maxRecDepth 8192 in
/-- What @main computes after the loop, from the states that the loop has stacked and from @main's arguments. -/
theorem out_of (V : Valuation τ sig (Elt F)) : out_main_v61 V = Cert.ReferenceIdeal.Step.R_main_v61 (stateOf V)
      (V (Proc.devRef .tc main_arg0)) (V (Proc.devRef .tc main_arg1)) (V (Proc.devRef .tc main_arg2)) (V (Proc.devRef .tc main_arg4))
      (V (Proc.devRef .tc main_arg5)) (V (Proc.devRef .tc main_arg6)) (V (Proc.devRef .tc main_arg7)) (V (Proc.devRef .tc main_arg8)) := by
  unfold out_main_v61 Cert.ReferenceIdeal.Step.R_main_v61 stateOf
  rfl

/-- What the reference returns, from its arguments. -/
def result : (⟨S16384x1024, .f32⟩ : BufTy).Contents (Elt F) :=
  Cert.ReferenceIdeal.Step.R_main_v61
    (iter (m ((c.tc : Thread nD τ).loc main_arg1)) (m ((c.tc : Thread nD τ).loc main_arg2)) (m ((c.tc : Thread nD τ).loc main_arg3)) 32)
    (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8))

/-- The buffers after the last trip give that result. -/
theorem out_result : out_main_v61 (STEP^[32] (entryContents preI m c)) = result m c := by
  rw [out_of, (holds m c 32).1, iter_main_arg0, iter_main_arg1, iter_main_arg2, iter_main_arg4, iter_main_arg5, iter_main_arg6,
    iter_main_arg7, iter_main_arg8]
  rfl

end Cert.ReferenceIdeal.RefRun

end
-- ==== Proof.RefRead.lean ====
/-
The reference's result read at an index.
-/
module

public import proofs.«01_k».proof.Proof.Spec
public import proofs.«01_k».proof.Proof.RefRun
public import Idealize.ShloMosaic.Lib.WordCmp
public import Idealize.ShloMosaic.Lib.DynamicIndex
public import Idealize.ShloMosaic.Lib.Pipeline.Value

@[expose] public section

noncomputable section

open scoped BigOperators

namespace Cert.ReferenceIdeal.RefRead

open Cert.ReferenceIdeal Cert.ReferenceIdeal.Gen Idealize.ShloMosaic Cert.ReferenceIdeal.Step
open Cert.Spec (Data at2 at3 at2_eq at3_eq)

/-- An array of the ideal program, by shape. -/
abbrev Arr (s : Shape) (e : EltTy) := (⟨s, e⟩ : BufTy).Contents (Elt Ideal)

/-- The arguments as the specification takes them. -/
def data (a0 a1 : Arr S16384x512 .bf16) (a2 : Arr S16384x1024 .bf16) (a3 : Arr S256x512 .f32) (a4 : Arr S16384x1024 .bf16)
    (a5 : Arr S16384x1024 .f32) (a6 : Arr S8x1x3072 .f32) (a7 : Arr S1x256 .f32) (a8 : Arr S1024x1024 .f32) : Data where
  Q := at2 a0
  K := at2 a1
  V := at2 a2
  D := at2 a3
  G := at2 a4
  X := at2 a5
  C := at3 a6
  O := at2 a7
  W := at2 a8

theorem decay_apply (a1 : Arr S16384x512 .bf16) (a2 : Arr S16384x1024 .bf16) (a3 : Arr S256x512 .f32)
    (n : Fin 32) (b : Fin 8) (h : Fin 4) (d : Fin 128) :
    A_main_v13 a1 a2 a3 (ix4 n b h d) = at2 a3 (32 * b + n) (128 * h + d) := by
  pointwise [A_main_v13, A_main_v1, A_main_v0]
  exact at2_eq _ (by simp; omega) (by simp; omega)

theorem inc_apply (a1 : Arr S16384x512 .bf16) (a2 : Arr S16384x1024 .bf16) (a3 : Arr S256x512 .f32)
    (n : Fin 32) (b : Fin 8) (h : Fin 4) (d : Fin 128) (e : Fin 256) :
    A_main_v14 a1 a2 a3 (ix5 n b h d e) = ∑ j : Fin 64, at2 a1 (2048 * b + 64 * n + j) (128 * h + d) * at2 a3 (32 * b + n) (128 * h + d)
      * at2 a2 (2048 * b + 64 * n + j) (256 * h + e) := by
  pointwise [A_main_v14, A_main_v11, A_main_v10, A_main_v9, A_main_v8, A_main_v7, A_main_v6, A_main_v5, A_main_v4, A_main_v3, A_main_v2, A_main_v1, A_main_v0]
  exact Finset.sum_congr rfl fun j _ => congr (congrArg _ (congr (congrArg _ (at2_eq _ (by simp; omega) (by simp; omega)))
    (at2_eq _ (by simp; omega) (by simp; omega)))) (at2_eq _ (by simp; omega) (by simp; omega))

/-! ## One trip -/

theorem slices4 (j : Fin 32) : S32x8x4x128.Slices ![j.val, 0, 0, 0] S1x8x4x128 :=
  ⟨rfl, fun a => by fin_cases a <;> simp [S32x8x4x128, S1x8x4x128] <;> omega⟩

theorem slices5 (j : Fin 32) : S32x8x4x128x256.Slices ![j.val, 0, 0, 0, 0] S1x8x4x128x256 :=
  ⟨rfl, fun a => by fin_cases a <;> simp [S32x8x4x128x256, S1x8x4x128x256] <;> omega⟩

/-- The chunk's decay is the static slice at the chunk. -/
theorem b3_eq (j : Fin 32) (s : State Ideal) : b3 j s = extractStridedSlice S1x8x4x128 ![j.val, 0, 0, 0] s.main_v16_0 (slices4 j) := by
  refine Host.dynamicSlice_eq_extractStridedSlice _ _ _ _ _ (slices4 j) fun a => ?_
  fin_cases a
  · exact toInt_ofNat_of_lt (by omega)
  · rfl
  · rfl
  · rfl

/-- The chunk's addition to the states is the static slice at the chunk. -/
theorem b9_eq (j : Fin 32) (s : State Ideal) :
    b9 j s = extractStridedSlice S1x8x4x128x256 ![j.val, 0, 0, 0, 0] s.main_v16_1 (slices5 j) := by
  refine Host.dynamicSlice_eq_extractStridedSlice _ _ _ _ _ (slices5 j) fun a => ?_
  fin_cases a
  · exact toInt_ofNat_of_lt (by omega)
  · rfl
  · rfl
  · rfl
  · rfl

/-- A trip stacks the state before its chunk at the chunk's place. -/
theorem b20_eq (j : Fin 32) (s : State Ideal) : b20 j s = updateSlice s.main_v16_4 (b15 j s) ![j.val, 0, 0, 0, 0] (slices5 j) := by
  refine Host.dynamicUpdateSlice_eq_updateSlice _ _ _ _ _ (fun a => ?_) (slices5 j)
  have hj : (BitVec.ofNat 32 j.val).toInt = j.val := toInt_ofNat_of_lt (by omega)
  fin_cases a
  · show (min (max (BitVec.ofNat 32 j.val).toInt 0) ((32 - 1 : ℕ) : ℤ)).toNat = j.val
    rw [hj]
    omega
  · rfl
  · rfl
  · rfl
  · rfl

theorem carried_step (j : Fin 32) (s : State Ideal) (b : Fin 8) (h : Fin 4) (d : Fin 128) (e : Fin 256) :
    (step j s).main_v16_3 (ix4 b h d e)
      = s.main_v16_0 (ix4 j b h d) * s.main_v16_3 (ix4 b h d e) + s.main_v16_1 (ix5 j b h d e) := by
  rw [step_main_v16_3]
  pointwise [b14, b13, b12, b11, b10, b9_eq, b4, b3_eq]

theorem stacked_step (j : Fin 32) (s : State Ideal) (n : Fin 32) (b : Fin 8) (h : Fin 4) (d : Fin 128) (e : Fin 256) :
    (step j s).main_v16_4 (ix5 n b h d e) = if n = j then s.main_v16_3 (ix4 b h d e) else s.main_v16_4 (ix5 n b h d e) := by
  rw [step_main_v16_4, b20_eq]
  pointwise [b15]
  by_cases hn : n = j
  · subst hn
    simp
  · rw [dif_neg (by simp only [Fin.ext_iff] at hn; omega), if_neg hn]

/-! ## The states -/

section States

variable (a0 a1 : Arr S16384x512 .bf16) (a2 : Arr S16384x1024 .bf16) (a3 : Arr S256x512 .f32) (a4 : Arr S16384x1024 .bf16)
  (a5 : Arr S16384x1024 .f32) (a6 : Arr S8x1x3072 .f32) (a7 : Arr S1x256 .f32) (a8 : Arr S1024x1024 .f32)

/-- What the loop does not change. -/
theorem iter_kept : ∀ n, (RefRun.iter a1 a2 a3 n).main_v16_0 = A_main_v13 a1 a2 a3 ∧ (RefRun.iter a1 a2 a3 n).main_v16_1 = A_main_v14 a1 a2 a3
  | 0 => ⟨rfl, rfl⟩
  | n + 1 => iter_kept n

/-- The carried state before trip `n` is the state before chunk `n`. -/
theorem carried (hD : ∀ r c, 0 ≤ at2 a3 r c ∧ at2 a3 r c ≠ ⊤) (b : Fin 8) (h : Fin 4) (d : Fin 128) (e : Fin 256) :
    ∀ n ≤ 32, (RefRun.iter a1 a2 a3 n).main_v16_3 (ix4 b h d e) = (data a0 a1 a2 a3 a4 a5 a6 a7 a8).st b h n d e
  | 0, _ => by
    show K_main_v12 (ix4 b h d e) = 0
    pointwise [K_main_v12, K_main_cst]
  | n + 1, hn => by
    rw [Data.st_succ _ hD, ← carried hD b h d e n (by omega)]
    refine (carried_step ⟨n, by omega⟩ (RefRun.iter a1 a2 a3 n) b h d e).trans ?_
    rw [(iter_kept a1 a2 a3 n).1, (iter_kept a1 a2 a3 n).2, decay_apply, inc_apply]
    rfl

/-- The stacked states. -/
theorem stacked (hD : ∀ r c, 0 ≤ at2 a3 r c ∧ at2 a3 r c ≠ ⊤) (b : Fin 8) (h : Fin 4) (d : Fin 128) (e : Fin 256) (n : Fin 32) :
    ∀ k ≤ 32, n.val < k → (RefRun.iter a1 a2 a3 k).main_v16_4 (ix5 n b h d e) = (data a0 a1 a2 a3 a4 a5 a6 a7 a8).st b h n d e
  | 0, _, h0 => absurd h0 (Nat.not_lt_zero _)
  | k + 1, hk, hn => by
    refine (stacked_step ⟨k, by omega⟩ (RefRun.iter a1 a2 a3 k) n b h d e).trans ?_
    split
    · rename_i hnk
      rw [show n.val = k from congrArg Fin.val hnk]
      exact carried a0 a1 a2 a3 a4 a5 a6 a7 a8 hD b h d e k (by omega)
    · rename_i hnk
      exact stacked hD b h d e n k (by omega) (by simp only [Fin.ext_iff] at hnk; omega)

end States

end Cert.ReferenceIdeal.RefRead

end
-- ==== Proof.RefTail.lean ====
/-
The operations after the reference's loop, read at an index.
-/
module

public import proofs.«01_k».proof.Proof.RefRead
public import proofs.«01_k».proof.Proof.RefRun
public import Idealize.ShloMosaic.Lib.WordCmp
public import Idealize.ShloMosaic.Lib.DynamicIndex
public import Idealize.ShloMosaic.Lib.Pipeline.Value

@[expose] public section

noncomputable section

open scoped BigOperators

namespace Cert.ReferenceIdeal.RefRead

open Cert.ReferenceIdeal Cert.ReferenceIdeal.Gen Idealize.ShloMosaic Cert.ReferenceIdeal.Step
open Cert.Spec (Data at2 at3 at2_eq at3_eq)

/-! ## After the loop -/

variable {F : FTy → Type} [FloatOps F]

/-- The outputs of the heads. -/
def outs (st : (⟨S32x8x4x128x256, .f32⟩ : BufTy).Contents (Elt F)) (a0 a1 : (⟨S16384x512, .bf16⟩ : BufTy).Contents (Elt F)) (a2 : (⟨S16384x1024, .bf16⟩ : BufTy).Contents (Elt F)) : (⟨S8x4x32x64x256, .f32⟩ : BufTy).Contents (Elt F) :=
  addf (Host.dotGeneral dot_S8x4x32x64x64_S8x4x32x64x256_S8x4x32x64x256_4_3_3_4_012_012 none (select (broadcastInDim S8x4x32x64x64 ![3, 4] bcast_S64x64_S8x4x32x64x64_3_4 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S8x4x32x64x128_S8x4x32x64x128_S8x4x32x64x64_4_4_3_3_012_012 none (transpose S8x4x32x64x128 [0, 3, 1, 2, 4] (shapeCast _ (extf .f32 a0 bitsLt_bf16_f32) shapeCasts_S16384x512_S8x32x64x4x128) transposes_S8x32x64x4x128_S8x4x32x64x128_0_3_1_2_4) (transpose S8x4x32x64x128 [0, 3, 1, 2, 4] (shapeCast _ (extf .f32 a1 bitsLt_bf16_f32) shapeCasts_S16384x512_S8x32x64x4x128) transposes_S8x32x64x4x128_S8x4x32x64x128_0_3_1_2_4)) (broadcastInDim S8x4x32x64x64 ![] bcast_S_S8x4x32x64x64 (id (constant S_ .f32 0x00000000#32)))) (transpose S8x4x32x64x256 [0, 3, 1, 2, 4] (shapeCast _ (extf .f32 a2 bitsLt_bf16_f32) shapeCasts_S16384x1024_S8x32x64x4x256) transposes_S8x32x64x4x256_S8x4x32x64x256_0_3_1_2_4)) (Host.dotGeneral dot_S8x4x32x64x128_S8x4x32x128x256_S8x4x32x64x256_4_3_3_4_012_012 none (transpose S8x4x32x64x128 [0, 3, 1, 2, 4] (shapeCast _ (extf .f32 a0 bitsLt_bf16_f32) shapeCasts_S16384x512_S8x32x64x4x128) transposes_S8x32x64x4x128_S8x4x32x64x128_0_3_1_2_4) (transpose S8x4x32x128x256 [1, 2, 0, 3, 4] st transposes_S32x8x4x128x256_S8x4x32x128x256_1_2_0_3_4))

/-- The outputs over their root mean square, times the gain. -/
def norms (o : (⟨S8x4x32x64x256, .f32⟩ : BufTy).Contents (Elt F)) (a7 : (⟨S1x256, .f32⟩ : BufTy).Contents (Elt F)) : (⟨S8x2048x4x256, .f32⟩ : BufTy).Contents (Elt F) :=
  let oo : (⟨S8x2048x4x256, .f32⟩ : BufTy).Contents (Elt F) := shapeCast _ (transpose S8x32x64x4x256 [0, 2, 3, 1, 4] o transposes_S8x4x32x64x256_S8x32x64x4x256_0_2_3_1_4) shapeCasts_S8x32x64x4x256_S8x2048x4x256
  mulf (mulf oo (broadcastInDim S8x2048x4x256 ![0, 1, 2, 3] bcast_S8x2048x4x1_S8x2048x4x256_0_1_2_3 (Host.rsqrt (addf (Host.divf (broadcastInDim S8x2048x4x1 ![0, 1, 2] bcast_S8x2048x4_S8x2048x4x1_0_1_2 (Host.reduceAdd (mulf oo oo) (constant S_ .f32 0x00000000#32) reducesTo_S8x2048x4x256_S8x2048x4_d3 h_S_)) (broadcastInDim S8x2048x4x1 ![] bcast_S_S8x2048x4x1 (constant S_ .f32 0x43800000#32))) (broadcastInDim S8x2048x4x1 ![] bcast_S_S8x2048x4x1 (constant S_ .f32 0x358637BD#32)))))) (broadcastInDim S8x2048x4x256 ![0, 1, 2, 3] bcast_S1x1x1x256_S8x2048x4x256_0_1_2_3 (broadcastInDim S1x1x1x256 ![3] bcast_S256_S1x1x1x256_3 (shapeCast _ a7 shapeCasts_S1x256_S256)))

/-- The gate, the projection and the residual. -/
def tail (y : (⟨S8x2048x4x256, .f32⟩ : BufTy).Contents (Elt F)) (a4 : (⟨S16384x1024, .bf16⟩ : BufTy).Contents (Elt F)) (a5 : (⟨S16384x1024, .f32⟩ : BufTy).Contents (Elt F)) (a6 : (⟨S8x1x3072, .f32⟩ : BufTy).Contents (Elt F))
    (a8 : (⟨S1024x1024, .f32⟩ : BufTy).Contents (Elt F)) : (⟨S16384x1024, .f32⟩ : BufTy).Contents (Elt F) :=
  shapeCast _ (addf (shapeCast _ a5 shapeCasts_S16384x1024_S8x2048x1024) (mulf (broadcastInDim S8x2048x1024 ![0, 1, 2] bcast_S8x1x1024_S8x2048x1024_0_1_2 (extractStridedSlice S8x1x1024 ![0, 0, 2048] a6 slices_S8x1x3072_S8x1x1024_0_0_2048)) (Host.dotGeneral dot_S8x2048x1024_S1024x1024_S8x2048x1024_2_0_01_1_n_n none (mulf (shapeCast _ y shapeCasts_S8x2048x4x256_S8x2048x1024) (mulf (shapeCast _ (extf .f32 a4 bitsLt_bf16_f32) shapeCasts_S16384x1024_S8x2048x1024) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (shapeCast _ (extf .f32 a4 bitsLt_bf16_f32) shapeCasts_S16384x1024_S8x2048x1024))))))) a8))) shapeCasts_S8x2048x1024_S16384x1024

theorem stages (s : State Ideal) (a0 a1 : Arr S16384x512 .bf16) (a2 : Arr S16384x1024 .bf16) (a4 : Arr S16384x1024 .bf16)
    (a5 : Arr S16384x1024 .f32) (a6 : Arr S8x1x3072 .f32) (a7 : Arr S1x256 .f32) (a8 : Arr S1024x1024 .f32) :
    R_main_v61 s a0 a1 a2 a4 a5 a6 a7 a8 = tail (norms (outs s.main_v16_4 a0 a1 a2) a7) a4 a5 a6 a8 := rfl

section Apply

variable (a0 a1 : Arr S16384x512 .bf16) (a2 : Arr S16384x1024 .bf16) (a3 : Arr S256x512 .f32) (a4 : Arr S16384x1024 .bf16)
  (a5 : Arr S16384x1024 .f32) (a6 : Arr S8x1x3072 .f32) (a7 : Arr S1x256 .f32) (a8 : Arr S1024x1024 .f32)

/-- A masked value is the value where the mask holds and 0 elsewhere. -/
theorem masked (p : Prop) [Decidable p] (A : EReal) :
    Scalar.select (Scalar.select (BitVec.ofBool (decide p)) 1#1 0#1) A 0 = if p then A else 0 := by
  by_cases h : p
  · rw [if_pos h, decide_eq_true h]; rfl
  · rw [if_neg h, decide_eq_false h]; rfl

/-- The rows before the normalisation are the specification's, when the stacked states are. -/
theorem outs_apply (st : Arr S32x8x4x128x256 .f32) (b : Fin 8) (h : Fin 4) (n : Fin 32) (i : Fin 64) (e : Fin 256)
    (hst : ∀ d : Fin 128, st (ix5 n b h d e) = (data a0 a1 a2 a3 a4 a5 a6 a7 a8).st b h n d e) :
    outs st a0 a1 a2 (ix5 b h n i e) = (data a0 a1 a2 a3 a4 a5 a6 a7 a8).out b h n i e := by
  pointwise [outs]
  rw [add_comm]
  unfold Data.out Data.sc
  refine congr (congrArg _ (Finset.sum_congr rfl fun d _ => ?_)) (Finset.sum_congr rfl fun j _ => ?_)
  · rw [hst]
    exact congrArg (· * _) (at2_eq _ (by simp; omega) (by simp; omega))
  · refine congr (congrArg _ ?_) (at2_eq _ (by simp; omega) (by simp; omega))
    have hi : IntOp.addi (BitVec.ofNat 32 i.val) 0#32 = BitVec.ofNat 32 i.val := by simp [IntOp.addi]
    have hz : (id (constant S_ FTy.f32 0#32) ix0 : Ideal .f32) = 0 := Ideal.ofBits_zero_f32
    rw [hi, hz, WordCmp.cmpi_sge_ofNat (by omega) (by omega)]
    rw [masked]
    exact if_congr Iff.rfl (Finset.sum_congr rfl fun d _ =>
      congr (congrArg _ (at2_eq _ (by simp; omega) (by simp; omega))) (at2_eq _ (by simp; omega) (by simp; omega))) rfl

/-- The normalised rows are the specification's. -/
theorem norms_apply (o : Arr S8x4x32x64x256 .f32) (b : Fin 8) (r : Fin 2048) (h : Fin 4) (e : Fin 256)
    (ho : ∀ n i e, o (ix5 b h n i e) = (data a0 a1 a2 a3 a4 a5 a6 a7 a8).out b h n i e) :
    norms o a7 (ix4 b r h e) = (data a0 a1 a2 a3 a4 a5 a6 a7 a8).nrm b h (r / 64) (r % 64) e := by
  pointwise [norms]
  simp only [ho]
  rw [at2_eq a7 (show ((0 : Fin 1) : ℕ) = 0 from rfl) (rfl : e.val = e.val)]
  rfl

/-- The gate, the projection and the residual are the specification's. -/
theorem tail_apply (y : Arr S8x2048x4x256 .f32) (r : Fin 16384) (m : Fin 1024)
    (hy : ∀ b r h e, y (ix4 b r h e) = (data a0 a1 a2 a3 a4 a5 a6 a7 a8).nrm b h (r / 64) (r % 64) e) :
    tail y a4 a5 a6 a8 (ix2 r m) = (data a0 a1 a2 a3 a4 a5 a6 a7 a8).res r m := by
  pointwise [tail]
  unfold Data.res Data.row
  refine congr (congrArg _ (at2_eq _ rfl rfl)) (congr (congrArg _ (at3_eq _ rfl rfl)) (Finset.sum_congr rfl fun k _ => ?_))
  refine congr (congrArg _ ?_) (at2_eq _ rfl rfl)
  rw [hy]
  have hr : 2048 * (r.val / 2048) + 64 * (r.val % 2048 / 64) + r.val % 64 = r.val := by omega
  have hm : r.val % 2048 % 64 = r.val % 64 := by omega
  rw [hr, at2_eq a4 rfl rfl]
  show Data.nrm _ _ _ _ (r.val % 2048 % 64) _ * _ = _
  rw [hm]
  rfl

/-- The reference's result is the specification's. -/
theorem result_apply (hD : ∀ r c, 0 ≤ at2 a3 r c ∧ at2 a3 r c ≠ ⊤) (r : Fin 16384) (m : Fin 1024) :
    R_main_v61 (RefRun.iter a1 a2 a3 32) a0 a1 a2 a4 a5 a6 a7 a8 (ix2 r m) = (data a0 a1 a2 a3 a4 a5 a6 a7 a8).res r m := by
  rw [stages]
  exact tail_apply a0 a1 a2 a3 a4 a5 a6 a7 a8 _ r m fun b r h e => norms_apply a0 a1 a2 a3 a4 a5 a6 a7 a8 _ b r h e fun n i e =>
    outs_apply a0 a1 a2 a3 a4 a5 a6 a7 a8 _ b h n i e fun d => stacked a0 a1 a2 a3 a4 a5 a6 a7 a8 hD b h d e n 32 (le_refl _) n.isLt

end Apply

end Cert.ReferenceIdeal.RefRead

end
-- ==== Proof.Algebra.lean ====
/-
The claims, from the two runs and the specification.
-/
module

public import proofs.«01_k».proof.Defs
public import proofs.«01_k».proof.Proof.Fold
public import proofs.«01_k».proof.Proof.RefTail
public import Idealize.ShloMosaic.Lib.Quiescent
public import Idealize.ShloMosaic.Lib.Claim

@[expose] public section

noncomputable section

namespace Cert.Algebra

open Idealize.ShloMosaic Idealize.SL.Sem
open Cert.Spec (Data at2 at3)

theorem facts_pre : Cert.Pre_decays.Facts where
  bcast_S_S256x512 := by decide

/-- The precondition's bit at one element: at least 0, and finite. -/
theorem of_bits (x : EReal) (e : IntOp.andi (BitVec.ofBool (decide (0 ≤ x))) (BitVec.ofBool (decide (x < Ideal.ofBits .f32 0x7F800000#32))) = 1#1) :
    0 ≤ x ∧ x ≠ ⊤ := by
  have htop : Ideal.ofBits .f32 0x7F800000#32 = ⊤ := by simp [Ideal.ofBits, Ideal.ieee]
  rw [htop] at e
  by_cases ha : 0 ≤ x
  · by_cases hb : x < ⊤
    · exact ⟨ha, ne_of_lt hb⟩
    · rw [decide_eq_true ha, decide_eq_false hb] at e
      exact absurd e (by decide)
  · rw [decide_eq_false ha] at e
    have : ∀ z : Bool, IntOp.andi (BitVec.ofBool false) (BitVec.ofBool z) ≠ 1#1 := by decide
    exact absurd e (this _)

/-- Under the precondition every decay is at least 0 and finite. -/
theorem decays_apply (m : (ℓ : Loc Cert.KernelIdeal.nD Cert.KernelIdeal.τ Cert.KernelIdeal.sig) → Buf (Elt Ideal) ℓ)
    (h : Cert.Pre_KernelIdeal_decays (hPre_decays := facts_pre) m) (c : Dev Cert.KernelIdeal.nD) (r l : ℕ) :
    0 ≤ at2 (m ((c.tc : Thread Cert.KernelIdeal.nD Cert.KernelIdeal.τ).loc Cert.KernelIdeal.main_arg3)) r l
      ∧ at2 (m ((c.tc : Thread Cert.KernelIdeal.nD Cert.KernelIdeal.τ).loc Cert.KernelIdeal.main_arg3)) r l ≠ ⊤ := by
  unfold at2
  split
  · have e := congrFun (h c) (ix2 ⟨r, by omega⟩ ⟨l, by omega⟩)
    revert e
    pointwise [Cert.Pre_decays.fn]
    exact of_bits _
  · exact ⟨le_refl _, EReal.zero_ne_top⟩

/-- The reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_decays (hPre_decays := facts_pre) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.RefRun.result m' c = Cert.KernelIdeal.Value.G9 m c := by
  unfold Cert.ReferenceIdeal.RefRun.result
  rw [h0, h1, h2, h3, h4, h5, h6, h7, h8]
  funext i
  rw [ValueIdx.eq_ix2 i]
  exact (Cert.ReferenceIdeal.RefRead.result_apply _ _ _ _ _ _ _ _ _ (decays_apply m h c) (i 0) (i 1)).trans
    (Cert.KernelIdeal.Vocab.result_apply m c (i 0) (i 1)).symm

/-- Over the extended reals the kernel and the reference return the same array. -/
theorem algebraic : Cert.algebraic_KernelIdeal_ReferenceIdeal_pre_decays (hKernelIdeal := Cert.KernelIdeal.Gen.facts)
    (hReferenceIdeal := Cert.ReferenceIdeal.Gen.facts) (hPre_decays := facts_pre) := by
  intro m g m' g' h hagree
  refine ⟨fun c => Cert.KernelIdeal.Value.G9 m c, Cert.KernelIdeal.Value.run m g, ?_⟩
  refine (θ_run Cert.ReferenceIdeal.defs _ _).mono (fun r hr c => ⟨(hr c).1.trans ?_, (hr c).2⟩) (Cert.ReferenceIdeal.Value.run m' g')
  obtain ⟨h0, h1, h2, h3, h4, h5, h6, h7, h8⟩ := hagree c
  exact (Cert.ReferenceIdeal.RefRun.out_result m' c).trans (results_eq m m' h c h0 h1 h2 h3 h4 h5 h6 h7 h8)

/-- The reference runs and leaves its arguments; it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

end Cert.Algebra

end
-- ==== Proof.SpecRows.lean ====
/-
What the projections compute, over the extended reals and with natural numbers for indices: rows over their root mean square,
times a gain, scaled and shifted by the conditioning, and multiplied with weights.
-/
module

public import proofs.«01_k».proof.Proof.Spec

@[expose] public section

noncomputable section

open scoped BigOperators

namespace Cert.Spec

open Idealize.ShloMosaic

/-- One over the root mean square of 1024 numbers. -/
def irms (x : Fin 1024 → EReal) : EReal :=
  Ideal.rsqrt (Ideal.div (∑ e, x e * x e) (Ideal.ofBits .f32 0x44800000#32) + Ideal.ofBits .f32 0x358637BD#32)

/-- A number, normalised, with its gain, scale and shift. -/
def modul (x ir g sc sh : EReal) : EReal := x * ir * g * (1 + sc) + sh

/-- Row `r` of the modulated input; the conditioning holds the shift in its first 1024 lanes and the scale in the next. -/
def modulated (X G C : ℕ → ℕ → EReal) (r d : ℕ) : EReal :=
  modul (X r d) (irms fun e => X r e) (G 0 d) (C (r / 2048) (1024 + d)) (C (r / 2048) d)

/-- The product of the modulated input with the columns of the weights from column `o` on. -/
def proj (X G C W : ℕ → ℕ → EReal) (o r l : ℕ) : EReal := ∑ d : Fin 1024, modulated X G C r d * W d (o + l)

/-- An array's element at an index with the given coordinates. -/
theorem at2_at {p q : ℕ} (X : (⟨2, ![p, q]⟩ : Shape).Idx → EReal) (i : (⟨2, ![p, q]⟩ : Shape).Idx) {r c : ℕ} (hr : (i 0).val = r)
    (hc : (i 1).val = c) : X i = at2 X r c :=
  (congrArg X (ValueIdx.eq_ix2 i)).trans (at2_eq X hr hc)

theorem at3_at {p q : ℕ} (X : (⟨3, ![p, 1, q]⟩ : Shape).Idx → EReal) (i : (⟨3, ![p, 1, q]⟩ : Shape).Idx) {r c : ℕ} (hr : (i 0).val = r)
    (hc : (i 2).val = c) : X i = at3 X r c := by
  have h1 : i 1 = (0 : Fin 1) := Subsingleton.elim (α := Fin 1) _ _
  have e : i = ix3 (i 0) 0 (i 2) := (ValueIdx.eq_ix3 i).trans (by rw [h1]; rfl)
  exact (congrArg X e).trans (at3_eq X hr hc)

end Cert.Spec

end
-- ==== Proof.KvqRun.lean ====
/-
The second kernel: the keys, values, queries and gate of the stick-breaking layer.  What a grid point reads and writes.
-/
module

public import proofs.«01_k».proof.Proof.SpecRows
public import proofs.«01_k».proof.Proof.Gen.Kernel2Ideal.Value

@[expose] public section

noncomputable section

namespace Cert.Kernel2Ideal.Kvq

open Cert.Kernel2Ideal Cert.Kernel2Ideal.Gen Idealize.ShloMosaic Idealize.ShloMosaic.TcCoe Idealize.SL.Sem

variable {F : FTy → Type} [FloatOps F]

theorem inb_half (u : Fin 2) : ∀ a, (![512 * u.val, 0] : Fin 2 → ℕ) a + S512x1024.size a ≤ S1024x1024.size a := by
  intro a; fin_cases a <;> simp [S512x1024, S1024x1024] <;> omega
theorem inb_col (u : Fin 2) : ∀ a, (![0, 1024 * u.val] : Fin 2 → ℕ) a + S1024x1024.size a ≤ S1024x2048.size a := by
  intro a; fin_cases a <;> simp [S1024x1024, S1024x2048] <;> omega
theorem inb_cond2 (u : Fin 2) : ∀ a, (![0, 0, 1024 * u.val] : Fin 3 → ℕ) a + S1x1x1024.size a ≤ S1x1x2048.size a := by
  intro a; fin_cases a <;> simp [S1x1x1024, S1x1x2048] <;> omega
theorem inb_cond3 (u : Fin 2) : ∀ a, (![0, 0, 1024 * u.val] : Fin 3 → ℕ) a + S1x1x1024.size a ≤ S1x1x3072.size a := by
  intro a; fin_cases a <;> simp [S1x1x1024, S1x1x3072] <;> omega

/-- A half of a block's rows. -/
abbrev halfRect (u : Fin 2) : Rect S1024x1024 := Rect.unit (s := S1024x1024) ![512 * u.val, 0] S512x1024.size (inb_half u)

/-- A half of the weights' columns. -/
abbrev colRect (u : Fin 2) : Rect S1024x2048 := Rect.unit (s := S1024x2048) ![0, 1024 * u.val] S1024x1024.size (inb_col u)

/-- A block written half by half. -/
abbrev halves (f : Fin 2 → Vec F S512x1024 .bf16) : List (View.Piece (Elt F) S1024x1024 .bf16) := [⟨halfRect 1, f 1⟩, ⟨halfRect 0, f 0⟩]

/-- The whole of the weights. -/
abbrev wholeRect : Rect S1024x2048 := Rect.unit (s := S1024x2048) ![0, 0] S1024x2048.size inb_S1024x2048_S1024x2048_0_0

/-- The weights' copy. -/
abbrev copyPiece {arg : Memref sig .tc .vmem S1024x2048 .f32} (harg : arg.IsWhole) (w : Vec F S1024x2048 .f32) :
    View.Piece (Elt F) S1024x2048 .bf16 :=
  ⟨wholeRect, k0_pay4 (View.readAt (Elt F) arg.view wholeRect.toLoadRect (harg.unread w))⟩

/-- The modulated rows for the keys and values, by halves. -/
abbrev rowsKv {arg1 : Memref sig .tc .vmem S1024x1024 .f32} (harg1 : arg1.IsWhole) {arg2 : Memref sig .tc .vmem S1x1x2048 .f32}
    (harg2 : arg2.IsWhole) {arg4 : Memref sig .tc .vmem S1x1024 .f32} (harg4 : arg4.IsWhole) (x0 : Vec F S1024x1024 .f32)
    (x1 : Vec F S1x1x2048 .f32) (x3 : Vec F S1x1024 .f32) (u : Fin 2) : FVec F S512x1024 .bf16 :=
  k0_pay7 (View.readAt (Elt F) arg1.view (halfRect u).toLoadRect (harg1.unread x0))
    (View.readAt (Elt F) arg4.view (Rect.unit (s := S1x1024) ![0, 0] S1x1024.size inb_S1x1024_S1x1024_0_0).toLoadRect (harg4.unread x3))
    (View.readAt (Elt F) arg2.view (Rect.unit (s := S1x1x2048) ![0, 0, 1024 * (1 : Fin 2).val] S1x1x1024.size (inb_cond2 1)).toLoadRect (harg2.unread x1))
    (View.readAt (Elt F) arg2.view (Rect.unit (s := S1x1x2048) ![0, 0, 1024 * (0 : Fin 2).val] S1x1x1024.size (inb_cond2 0)).toLoadRect (harg2.unread x1))

/-- The modulated rows for the queries and the gate, by halves. -/
abbrev rowsQ {arg1 : Memref sig .tc .vmem S1024x1024 .f32} (harg1 : arg1.IsWhole) {arg3 : Memref sig .tc .vmem S1x1x3072 .f32}
    (harg3 : arg3.IsWhole) {arg5 : Memref sig .tc .vmem S1x1024 .f32} (harg5 : arg5.IsWhole) (x0 : Vec F S1024x1024 .f32)
    (x2 : Vec F S1x1x3072 .f32) (x4 : Vec F S1x1024 .f32) (u : Fin 2) : FVec F S512x1024 .bf16 :=
  k0_pay7 (View.readAt (Elt F) arg1.view (halfRect u).toLoadRect (harg1.unread x0))
    (View.readAt (Elt F) arg5.view (Rect.unit (s := S1x1024) ![0, 0] S1x1024.size inb_S1x1024_S1x1024_0_0).toLoadRect (harg5.unread x4))
    (View.readAt (Elt F) arg3.view (Rect.unit (s := S1x1x3072) ![0, 0, 1024 * (1 : Fin 2).val] S1x1x1024.size (inb_cond3 1)).toLoadRect (harg3.unread x2))
    (View.readAt (Elt F) arg3.view (Rect.unit (s := S1x1x3072) ![0, 0, 1024 * (0 : Fin 2).val] S1x1x1024.size (inb_cond3 0)).toLoadRect (harg3.unread x2))

set_option maxRecDepth 100000 in
set_option maxHeartbeats 4000000 in
/-- What the body writes at the first point. -/
theorem run_A
    (c : Dev nD) (i : grid0.Coords) (arg1 : Memref sig .tc .vmem S1024x1024 .f32) (harg1 : arg1.IsWhole) (arg2 : Memref sig .tc .vmem
    S1x1x2048 .f32) (harg2 : arg2.IsWhole) (arg3 : Memref sig .tc .vmem S1x1x3072 .f32) (harg3 : arg3.IsWhole) (arg4 : Memref sig .tc .vmem
    S1x1024 .f32) (harg4 : arg4.IsWhole) (arg5 : Memref sig .tc .vmem S1x1024 .f32) (harg5 : arg5.IsWhole) (arg6 : Memref sig .tc .vmem
    S1024x2048 .f32) (harg6 : arg6.IsWhole) (arg7 : Memref sig .tc .vmem S1024x2048 .f32) (harg7 : arg7.IsWhole) (arg8 : Memref sig .tc
    .vmem S1024x1024 .bf16) (harg8 : arg8.IsWhole) (arg9 : Memref sig .tc .vmem S1024x1024 .bf16) (harg9 : arg9.IsWhole) (arg10 : Memref sig
    .tc .vmem S1024x1024 .bf16) (harg10 : arg10.IsWhole) (arg11 : Memref sig .tc .vmem S1024x1024 .bf16) (harg11 : arg11.IsWhole) (arg12 :
    Memref sig .tc .vmem S1024x2048 .bf16) (harg12 : arg12.IsWhole) (arg13 : Memref sig .tc .vmem S1024x2048 .bf16) (harg13 : arg13.IsWhole)
    (hc0 : cond0_0 i)
    (x0 : Vec F S1024x1024 .f32) (x1 : Vec F S1x1x2048 .f32) (x2 : Vec F S1x1x3072 .f32) (x3 : Vec F S1x1024 .f32) (x4 : Vec F S1x1024 .f32)
    (x5 : Vec F S1024x2048 .f32) (x6 : Vec F S1024x2048 .f32) :
    let R := kernelRun0_A c i arg1 harg1 arg2 harg2 arg3 harg3 arg4 harg4 arg5 harg5 arg6 harg6 arg7 harg7 arg8 harg8 arg9 harg9 arg10 harg10
        arg11 harg11 arg12 harg12 arg13 harg13 hc0 x0 x1 x2 x3 x4 x5 x6
    R.1 = halves (fun u => k0_pay11 (rowsKv harg1 harg2 harg4 x0 x1 x3 u) (arg12.view.readCov [copyPiece harg6 x5] (colRect 0).toLoadRect))
      ∧ R.2.1 = halves (fun u => k0_pay11 (rowsKv harg1 harg2 harg4 x0 x1 x3 u) (arg12.view.readCov [copyPiece harg6 x5] (colRect 1).toLoadRect))
      ∧ R.2.2.1 = halves (fun u => k0_pay2 (rowsQ harg1 harg3 harg5 x0 x2 x4 u) (arg13.view.readCov [copyPiece harg7 x6] (colRect 0).toLoadRect))
      ∧ R.2.2.2.1 = halves (fun u => k0_pay11 (rowsQ harg1 harg3 harg5 x0 x2 x4 u) (arg13.view.readCov [copyPiece harg7 x6] (colRect 1).toLoadRect))
      ∧ R.2.2.2.2.1 = [copyPiece harg6 x5] ∧ R.2.2.2.2.2.val = [copyPiece harg7 x6] := by
  unfold kernelRun0_A
  dsimp only
  exact ⟨rfl, rfl, rfl, rfl, rfl, rfl⟩

set_option maxRecDepth 100000 in
set_option maxHeartbeats 4000000 in
/-- What the body writes at every later point. -/
theorem run_B
    (c : Dev nD) (i : grid0.Coords) (arg1 : Memref sig .tc .vmem S1024x1024 .f32) (harg1 : arg1.IsWhole) (arg2 : Memref sig .tc .vmem
    S1x1x2048 .f32) (harg2 : arg2.IsWhole) (arg3 : Memref sig .tc .vmem S1x1x3072 .f32) (harg3 : arg3.IsWhole) (arg4 : Memref sig .tc .vmem
    S1x1024 .f32) (harg4 : arg4.IsWhole) (arg5 : Memref sig .tc .vmem S1x1024 .f32) (harg5 : arg5.IsWhole) (arg6 : Memref sig .tc .vmem
    S1024x2048 .f32) (harg6 : arg6.IsWhole) (arg7 : Memref sig .tc .vmem S1024x2048 .f32) (harg7 : arg7.IsWhole) (arg8 : Memref sig .tc
    .vmem S1024x1024 .bf16) (harg8 : arg8.IsWhole) (arg9 : Memref sig .tc .vmem S1024x1024 .bf16) (harg9 : arg9.IsWhole) (arg10 : Memref sig
    .tc .vmem S1024x1024 .bf16) (harg10 : arg10.IsWhole) (arg11 : Memref sig .tc .vmem S1024x1024 .bf16) (harg11 : arg11.IsWhole) (arg12 :
    Memref sig .tc .vmem S1024x2048 .bf16) (harg12 : arg12.IsWhole) (arg13 : Memref sig .tc .vmem S1024x2048 .bf16) (harg13 : arg13.IsWhole)
    (hc0 : ¬cond0_0 i)
    (x0 : Vec F S1024x1024 .f32) (x1 : Vec F S1x1x2048 .f32) (x2 : Vec F S1x1x3072 .f32) (x3 : Vec F S1x1024 .f32) (x4 : Vec F S1x1024 .f32)
    (x5 : Vec F S1024x2048 .f32) (x6 : Vec F S1024x2048 .f32) (xs0 xs1 : Vec F S1024x2048 .bf16) :
    let R := kernelRun0_B c i arg1 harg1 arg2 harg2 arg3 harg3 arg4 harg4 arg5 harg5 arg6 harg6 arg7 harg7 arg8 harg8 arg9 harg9 arg10 harg10
        arg11 harg11 arg12 harg12 arg13 harg13 hc0 x0 x1 x2 x3 x4 x5 x6 xs0 xs1
    R.1 = halves (fun u => k0_pay11 (rowsKv harg1 harg2 harg4 x0 x1 x3 u) (View.readAt (Elt F) arg12.view (colRect 0).toLoadRect (harg12.unread xs0)))
      ∧ R.2.1 = halves (fun u => k0_pay11 (rowsKv harg1 harg2 harg4 x0 x1 x3 u) (View.readAt (Elt F) arg12.view (colRect 1).toLoadRect (harg12.unread xs0)))
      ∧ R.2.2.1 = halves (fun u => k0_pay2 (rowsQ harg1 harg3 harg5 x0 x2 x4 u) (View.readAt (Elt F) arg13.view (colRect 0).toLoadRect (harg13.unread xs1)))
      ∧ R.2.2.2.1 = halves (fun u => k0_pay11 (rowsQ harg1 harg3 harg5 x0 x2 x4 u) (View.readAt (Elt F) arg13.view (colRect 1).toLoadRect (harg13.unread xs1))) := by
  unfold kernelRun0_B
  dsimp only
  exact ⟨rfl, rfl, rfl, rfl⟩

end Cert.Kernel2Ideal.Kvq

end
-- ==== Proof.KvqPoint.lean ====
/-
What a grid point of the second kernel computes, against the specification.
-/
module

public import proofs.«01_k».proof.Proof.KvqRun
public import Idealize.ShloMosaic.Lib.Pipeline.CanonAppend
public import Idealize.ShloMosaic.Lib.Pipeline.ValueKit.Tiles

@[expose] public section

noncomputable section

open scoped BigOperators

namespace Cert.Kernel2Ideal.Kvq

open Cert.Kernel2Ideal Cert.Kernel2Ideal.Gen Idealize.ShloMosaic Idealize.ShloMosaic.TcCoe Idealize.SL.Sem
open Cert.Spec (at2 at3 at2_at at3_at modul irms modulated proj)

theorem zero2 : (![0, 0] : Fin 2 → ℕ) = fun _ => 0 := by decide

/-- The modulated rows at an index. -/
theorem rows_apply (x : Vec Ideal S512x1024 .f32) (g : Vec Ideal S1x1024 .f32) (sc sh : Vec Ideal S1x1x1024 .f32) (i : Fin 512) (d : Fin 1024) :
    k0_pay7 x g sc sh (ix2 i d)
      = modul (x (ix2 i d)) (irms fun e => x (ix2 i e)) (g (ix2 0 d)) (sc (ix3 0 0 d)) (sh (ix3 0 0 d)) := by
  pointwise [k0_pay7, k0_pay6, modul, irms]

/-- A product at an index. -/
theorem prod_apply (h : FVec Ideal S512x1024 .bf16) (w : Vec Ideal S1024x1024 .bf16) (i : Fin 512) (l : Fin 1024) :
    k0_pay11 h w (ix2 i l) = ∑ d : Fin 1024, h (ix2 i d) * w (ix2 d l) := by
  pointwise [k0_pay11]

/-- A scaled product at an index. -/
theorem scaled_apply (h : FVec Ideal S512x1024 .bf16) (w : Vec Ideal S1024x1024 .bf16) (i : Fin 512) (l : Fin 1024) :
    k0_pay2 h w (ix2 i l) = (∑ d : Fin 1024, h (ix2 i d) * w (ix2 d l)) * Ideal.ofBits .f32 0x3E38AA3B#32 := by
  pointwise [k0_pay2]

/-- A block written half by half, at an index. -/
theorem halves_apply (f : Fin 2 → Vec Ideal S512x1024 .bf16) (G : ℕ → ℕ → EReal)
    (hf : ∀ (u : Fin 2) (i : Fin 512) (l : Fin 1024), f u (ix2 i l) = G (512 * u + i) l) (r l : Fin 1024) :
    View.canon (halves f) (ix2 r l) = G r l := by
  have key (u : Fin 2) (x : (⟨2, ![512, 1024]⟩ : Shape).Idx) :
      f u x = G (((halfRect u).emb x) 0).val (((halfRect u).emb x) 1).val := by
    have e0 : (((halfRect u).emb x) 0).val = 512 * u.val + (x 0).val := Rect.idx_unit_val (s := S1024x1024) _ _ (inb_half u) x 0
    have e1 : (((halfRect u).emb x) 1).val = (x 1).val :=
      (Rect.idx_unit_val (s := S1024x1024) _ _ (inb_half u) x 1).trans (Nat.zero_add _)
    rw [e0, e1]
    exact (congrArg (f u) (ValueIdx.eq_ix2 x)).trans (hf u (x 0) (x 1))
  refine View.canon_apply_of_pieces (fun y : S1024x1024.Idx => G (y 0).val (y 1).val) (halves f) ?_ (ix2 r l) ?_
  · intro p hp x
    rcases List.mem_cons.mp hp with rfl | hp
    · exact key 1 x
    · rcases List.mem_cons.mp hp with rfl | hp
      · exact key 0 x
      · exact absurd hp (List.not_mem_nil)
  · have hm (u : Fin 2) (h0 : 512 * u.val ≤ r.val) (h1 : r.val < 512 * u.val + 512) : (ix2 r l : S1024x1024.Idx) ∈ (halfRect u).set := by
      refine (Rect.mem_set_unit (inb := inb_half _)).mpr fun x => ?_
      fin_cases x
      · exact ⟨h0, h1⟩
      · show 0 ≤ l.val ∧ l.val < 0 + 1024
        omega
    by_cases hr : r.val < 512
    · exact ⟨_, List.mem_cons_of_mem _ (List.mem_cons_self ..), hm 0 (Nat.zero_le _) hr⟩
    · exact ⟨_, List.mem_cons_self .., hm 1 (by show 512 * 1 ≤ _; omega) (by show _ < 512 * 1 + 512; omega)⟩

/-- The blocks of grid point `t` are the specification's arguments. -/
structure Blocks (X C1 C2 G1 G2 W1 W2 : ℕ → ℕ → EReal) (t : ℕ) (x0 : Vec Ideal S1024x1024 .f32) (x1 : Vec Ideal S1x1x2048 .f32)
    (x2 : Vec Ideal S1x1x3072 .f32) (x3 x4 : Vec Ideal S1x1024 .f32) (x5 x6 : Vec Ideal S1024x2048 .f32) : Prop where
  x : ∀ r c, x0 (ix2 r c) = X (1024 * t + r.val) c.val
  c1 : ∀ c, x1 (ix3 0 0 c) = C1 (t / 2) c.val
  c2 : ∀ c, x2 (ix3 0 0 c) = C2 (t / 2) c.val
  g1 : ∀ c, x3 (ix2 0 c) = G1 0 c.val
  g2 : ∀ c, x4 (ix2 0 c) = G2 0 c.val
  w1 : ∀ r c, x5 (ix2 r c) = W1 r.val c.val
  w2 : ∀ r c, x6 (ix2 r c) = W2 r.val c.val

variable {X C1 C2 G1 G2 W1 W2 : ℕ → ℕ → EReal} {t : ℕ} {x0 : Vec Ideal S1024x1024 .f32} {x1 : Vec Ideal S1x1x2048 .f32}
  {x2 : Vec Ideal S1x1x3072 .f32} {x3 x4 : Vec Ideal S1x1024 .f32} {x5 x6 : Vec Ideal S1024x2048 .f32}

/-- A half of the rows as its load finds it. -/
theorem half_apply {arg1 : Memref sig .tc .vmem S1024x1024 .f32} (harg1 : arg1.IsWhole) (x0 : Vec Ideal S1024x1024 .f32) (u : Fin 2)
    (i : Fin 512) (d : Fin 1024) : View.readAt (Elt Ideal) arg1.view (halfRect u).toLoadRect (harg1.unread x0) (ix2 i d)
      = x0 (ix2 ⟨512 * u.val + i.val, by omega⟩ d) := by
  rw [View.readAt_eq_ld, harg1.read_unread]
  exact View.ld_unit_apply_of (S := S1024x1024) x0 _ _ (inb_half u) (ix2 i d) (ix2 ⟨512 * u.val + i.val, by omega⟩ d)
    fun x => by fin_cases x <;> simp

theorem gain_apply {arg : Memref sig .tc .vmem S1x1024 .f32} (harg : arg.IsWhole) (x : Vec Ideal S1x1024 .f32) :
    View.readAt (Elt Ideal) arg.view (Rect.unit (s := S1x1024) ![0, 0] S1x1024.size inb_S1x1024_S1x1024_0_0).toLoadRect (harg.unread x) = x := by
  rw [View.readAt_eq_ld, harg.read_unread, View.ld_unit_zero (S := S1x1024) zero2]

theorem cond2_apply {arg : Memref sig .tc .vmem S1x1x2048 .f32} (harg : arg.IsWhole) (x : Vec Ideal S1x1x2048 .f32) (u : Fin 2) (d : Fin 1024) :
    View.readAt (Elt Ideal) arg.view (Rect.unit (s := S1x1x2048) ![0, 0, 1024 * u.val] S1x1x1024.size (inb_cond2 u)).toLoadRect (harg.unread x)
      (ix3 0 0 d) = x (ix3 0 0 ⟨1024 * u.val + d.val, by omega⟩) := by
  rw [View.readAt_eq_ld, harg.read_unread]
  exact View.ld_unit_apply_of (S := S1x1x2048) x _ _ (inb_cond2 u) (ix3 0 0 d) (ix3 0 0 ⟨1024 * u.val + d.val, by omega⟩)
    fun x => by fin_cases x <;> simp

theorem cond3_apply {arg : Memref sig .tc .vmem S1x1x3072 .f32} (harg : arg.IsWhole) (x : Vec Ideal S1x1x3072 .f32) (u : Fin 2) (d : Fin 1024) :
    View.readAt (Elt Ideal) arg.view (Rect.unit (s := S1x1x3072) ![0, 0, 1024 * u.val] S1x1x1024.size (inb_cond3 u)).toLoadRect (harg.unread x)
      (ix3 0 0 d) = x (ix3 0 0 ⟨1024 * u.val + d.val, by omega⟩) := by
  rw [View.readAt_eq_ld, harg.read_unread]
  exact View.ld_unit_apply_of (S := S1x1x3072) x _ _ (inb_cond3 u) (ix3 0 0 d) (ix3 0 0 ⟨1024 * u.val + d.val, by omega⟩)
    fun x => by fin_cases x <;> simp

/-- The rows for the keys and values are the specification's. -/
theorem rowsKv_apply (hx : Blocks X C1 C2 G1 G2 W1 W2 t x0 x1 x2 x3 x4 x5 x6)
    {arg1 : Memref sig .tc .vmem S1024x1024 .f32} (harg1 : arg1.IsWhole) {arg2 : Memref sig .tc .vmem S1x1x2048 .f32}
    (harg2 : arg2.IsWhole) {arg4 : Memref sig .tc .vmem S1x1024 .f32} (harg4 : arg4.IsWhole) (u : Fin 2) (i : Fin 512) (d : Fin 1024) :
    rowsKv harg1 harg2 harg4 x0 x1 x3 u (ix2 i d) = modulated X G1 C1 (1024 * t + (512 * u + i)) d := by
  show k0_pay7 _ _ _ _ (ix2 i d) = _
  rw [rows_apply, gain_apply, cond2_apply, cond2_apply]
  simp only [half_apply]
  unfold modulated
  rw [hx.x, hx.c1, hx.c1, hx.g1, show (1024 * t + (512 * u.val + i.val)) / 2048 = t / 2 by omega]
  simp only [hx.x]
  simp

/-- The rows for the queries and the gate are the specification's. -/
theorem rowsQ_apply (hx : Blocks X C1 C2 G1 G2 W1 W2 t x0 x1 x2 x3 x4 x5 x6)
    {arg1 : Memref sig .tc .vmem S1024x1024 .f32} (harg1 : arg1.IsWhole) {arg3 : Memref sig .tc .vmem S1x1x3072 .f32}
    (harg3 : arg3.IsWhole) {arg5 : Memref sig .tc .vmem S1x1024 .f32} (harg5 : arg5.IsWhole) (u : Fin 2) (i : Fin 512) (d : Fin 1024) :
    rowsQ harg1 harg3 harg5 x0 x2 x4 u (ix2 i d) = modulated X G2 C2 (1024 * t + (512 * u + i)) d := by
  show k0_pay7 _ _ _ _ (ix2 i d) = _
  rw [rows_apply, gain_apply, cond3_apply, cond3_apply]
  simp only [half_apply]
  unfold modulated
  rw [hx.x, hx.c2, hx.c2, hx.g2, show (1024 * t + (512 * u.val + i.val)) / 2048 = t / 2 by omega]
  simp only [hx.x]
  simp

/-- The weights' copy holds the weights. -/
theorem copy_apply {arg : Memref sig .tc .vmem S1024x2048 .f32} (harg : arg.IsWhole) (w : Vec Ideal S1024x2048 .f32) (k : Fin 1024) (m : Fin 2048) :
    View.canon [copyPiece harg w] (ix2 k m) = w (ix2 k m) := by
  unfold copyPiece
  rw [View.canon_unit_zero (S := S1024x2048) zero2, View.readAt_eq_ld, harg.read_unread, View.ld_unit_zero (S := S1024x2048) zero2]
  pointwise [k0_pay4]

/-- A load of a half of the copy that the point has just made reads the weights. -/
theorem copied_apply (arg12 : Memref sig .tc .vmem S1024x2048 .bf16) {arg : Memref sig .tc .vmem S1024x2048 .f32} (harg : arg.IsWhole)
    (w : Vec Ideal S1024x2048 .f32) (u : Fin 2) (k m : Fin 1024) :
    arg12.view.readCov [copyPiece harg w] (colRect u).toLoadRect (ix2 k m) = w (ix2 k ⟨1024 * u.val + m.val, by omega⟩) := by
  rw [View.readCov_eq_canon']
  refine (congrArg (View.canon [copyPiece harg w]) (?_ : _ = ix2 k ⟨1024 * u.val + m.val, by omega⟩)).trans (copy_apply harg w _ _)
  funext x
  fin_cases x
  · exact Fin.ext ((Rect.idx_unit_val (s := S1024x2048) _ _ (inb_col u) (ix2 k m) 0).trans (Nat.zero_add _))
  · exact Fin.ext (Rect.idx_unit_val (s := S1024x2048) _ _ (inb_col u) (ix2 k m) 1)

/-- A load of a half of the copy that an earlier point has made. -/
theorem kept_apply {arg12 : Memref sig .tc .vmem S1024x2048 .bf16} (harg12 : arg12.IsWhole) (w : Vec Ideal S1024x2048 .bf16) (u : Fin 2)
    (k m : Fin 1024) :
    View.readAt (Elt Ideal) arg12.view (colRect u).toLoadRect (harg12.unread w) (ix2 k m) = w (ix2 k ⟨1024 * u.val + m.val, by omega⟩) := by
  rw [View.readAt_eq_ld, harg12.read_unread]
  exact View.ld_unit_apply_of (S := S1024x2048) w _ _ (inb_col u) (ix2 k m) (ix2 k ⟨1024 * u.val + m.val, by omega⟩)
    fun x => by fin_cases x <;> simp

/-- A block of products. -/
theorem block_apply (h : Fin 2 → FVec Ideal S512x1024 .bf16) (w : Vec Ideal S1024x1024 .bf16) (X G C W : ℕ → ℕ → EReal) (o : ℕ)
    (hh : ∀ (u : Fin 2) (i : Fin 512) (d : Fin 1024), h u (ix2 i d) = modulated X G C (1024 * t + (512 * u + i)) d)
    (hw : ∀ k m, w (ix2 k m) = W k.val (o + m.val)) (r l : Fin 1024) :
    View.canon (halves fun u => k0_pay11 (h u) w) (ix2 r l) = proj X G C W o (1024 * t + r) l :=
  halves_apply _ (fun r l => proj X G C W o (1024 * t + r) l) (fun u i l => by
    show k0_pay11 (h u) w (ix2 i l) = _
    rw [prod_apply]
    unfold proj
    simp only [hh, hw]) r l

/-- A block of scaled products. -/
theorem blockq_apply (h : Fin 2 → FVec Ideal S512x1024 .bf16) (w : Vec Ideal S1024x1024 .bf16) (X G C W : ℕ → ℕ → EReal) (o : ℕ)
    (hh : ∀ (u : Fin 2) (i : Fin 512) (d : Fin 1024), h u (ix2 i d) = modulated X G C (1024 * t + (512 * u + i)) d)
    (hw : ∀ k m, w (ix2 k m) = W k.val (o + m.val)) (r l : Fin 1024) :
    View.canon (halves fun u => k0_pay2 (h u) w) (ix2 r l) = proj X G C W o (1024 * t + r) l * Ideal.ofBits .f32 0x3E38AA3B#32 :=
  halves_apply _ (fun r l => proj X G C W o (1024 * t + r) l * Ideal.ofBits .f32 0x3E38AA3B#32) (fun u i l => by
    show k0_pay2 (h u) w (ix2 i l) = _
    rw [scaled_apply]
    unfold proj
    simp only [hh, hw]) r l

end Cert.Kernel2Ideal.Kvq

end
-- ==== Proof.KvqFold.lean ====
/-
The second kernel's grid, point after point, against the specification.
-/
module

public import proofs.«01_k».proof.Proof.KvqPoint

@[expose] public section

noncomputable section

open scoped BigOperators

namespace Cert.Kernel2Ideal.Kvq

open Cert.Kernel2Ideal Cert.Kernel2Ideal.Gen Idealize.ShloMosaic Idealize.ShloMosaic.TcCoe Idealize.SL.Sem
open Cert.Spec (at2 at3 at2_at at3_at modul irms modulated proj)

/-- What a point leaves: the four blocks, and the two copies of weights. -/
abbrev Acc := Vec Ideal S1024x1024 .bf16 × Vec Ideal S1024x1024 .bf16 × Vec Ideal S1024x1024 .bf16 × Vec Ideal S1024x1024 .bf16
  × Vec Ideal S1024x2048 .bf16 × Vec Ideal S1024x2048 .bf16

/-- What holds after grid point `t`. -/
structure After (X C1 C2 G1 G2 W1 W2 : ℕ → ℕ → EReal) (t : ℕ) (acc : Acc) : Prop where
  k : ∀ r l, acc.1 (ix2 r l) = proj X G1 C1 W1 0 (1024 * t + r.val) l.val
  v : ∀ r l, acc.2.1 (ix2 r l) = proj X G1 C1 W1 1024 (1024 * t + r.val) l.val
  q : ∀ r l, acc.2.2.1 (ix2 r l) = proj X G2 C2 W2 0 (1024 * t + r.val) l.val * Ideal.ofBits .f32 0x3E38AA3B#32
  g : ∀ r l, acc.2.2.2.1 (ix2 r l) = proj X G2 C2 W2 1024 (1024 * t + r.val) l.val
  w1 : ∀ k m, acc.2.2.2.2.1 (ix2 k m) = W1 k.val m.val
  w2 : ∀ k m, acc.2.2.2.2.2 (ix2 k m) = W2 k.val m.val

variable {X C1 C2 G1 G2 W1 W2 : ℕ → ℕ → EReal} (m : (ℓ : Loc nD τ sig) → Buf (Elt Ideal) ℓ) (c : Dev nD)

/-- The blocks of point `t`, as the pipeline cuts them from the arguments, are the specification's. -/
abbrev Staged (X C1 C2 G1 G2 W1 W2 : ℕ → ℕ → EReal) (t : Fin cfg0.N) : Prop :=
  Blocks X C1 C2 G1 G2 W1 W2 t.val (iblk m c 0 t) (iblk m c 1 t) (iblk m c 2 t) (iblk m c 3 t) (iblk m c 4 t) (iblk m c 5 t) (iblk m c 6 t)

/-- The first point. -/
theorem after_A (t : Fin cfg0.N) (hx : Staged m c X C1 C2 G1 G2 W1 W2 t) (acc : Acc) (h0 : t.val % 16 = 0) :
    After X C1 C2 G1 G2 W1 W2 t.val (Value.stAt0 m c t.val t.isLt acc) := by
  rw [Value.stAt0_A m c t acc h0]
  constructor
  · intro r l
    dsimp only
    unfold out0_A_7
    rw [View.read_writes_junk_eq_canon, (run_A ..).1]
    exact block_apply _ _ X G1 C1 W1 0 (rowsKv_apply hx _ _ _) (fun k m => (copied_apply _ _ _ 0 k m).trans (hx.w1 k _)) r l
  · intro r l
    dsimp only
    unfold out0_A_8
    rw [View.read_writes_junk_eq_canon, (run_A ..).2.1]
    exact block_apply _ _ X G1 C1 W1 1024 (rowsKv_apply hx _ _ _) (fun k m => (copied_apply _ _ _ 1 k m).trans (hx.w1 k _)) r l
  · intro r l
    dsimp only
    unfold out0_A_9
    rw [View.read_writes_junk_eq_canon, (run_A ..).2.2.1]
    exact blockq_apply _ _ X G2 C2 W2 0 (rowsQ_apply hx _ _ _) (fun k m => (copied_apply _ _ _ 0 k m).trans (hx.w2 k _)) r l
  · intro r l
    dsimp only
    unfold out0_A_10
    rw [View.read_writes_junk_eq_canon, (run_A ..).2.2.2.1]
    exact block_apply _ _ X G2 C2 W2 1024 (rowsQ_apply hx _ _ _) (fun k m => (copied_apply _ _ _ 1 k m).trans (hx.w2 k _)) r l
  · intro k m
    dsimp only
    unfold sout0_A_0
    rw [View.read_writes_junk_eq_canon, (run_A ..).2.2.2.2.1]
    exact (copy_apply _ _ k m).trans (hx.w1 k m)
  · intro k m
    dsimp only
    unfold sout0_A_1
    rw [View.read_writes_junk_eq_canon, (run_A ..).2.2.2.2.2]
    exact (copy_apply _ _ k m).trans (hx.w2 k m)

/-- Every later point. -/
theorem after_B (t : Fin cfg0.N) (hx : Staged m c X C1 C2 G1 G2 W1 W2 t) (acc : Acc) (h0 : ¬t.val % 16 = 0) (n : ℕ)
    (hacc : After X C1 C2 G1 G2 W1 W2 n acc) : After X C1 C2 G1 G2 W1 W2 t.val (Value.stAt0 m c t.val t.isLt acc) := by
  rw [Value.stAt0_B m c t acc h0]
  constructor
  · intro r l
    dsimp only
    unfold out0_B_7
    rw [View.read_writes_junk_eq_canon, (run_B ..).1]
    exact block_apply _ _ X G1 C1 W1 0 (rowsKv_apply hx _ _ _) (fun k m => (kept_apply _ _ 0 k m).trans (hacc.w1 k _)) r l
  · intro r l
    dsimp only
    unfold out0_B_8
    rw [View.read_writes_junk_eq_canon, (run_B ..).2.1]
    exact block_apply _ _ X G1 C1 W1 1024 (rowsKv_apply hx _ _ _) (fun k m => (kept_apply _ _ 1 k m).trans (hacc.w1 k _)) r l
  · intro r l
    dsimp only
    unfold out0_B_9
    rw [View.read_writes_junk_eq_canon, (run_B ..).2.2.1]
    exact blockq_apply _ _ X G2 C2 W2 0 (rowsQ_apply hx _ _ _) (fun k m => (kept_apply _ _ 0 k m).trans (hacc.w2 k _)) r l
  · intro r l
    dsimp only
    unfold out0_B_10
    rw [View.read_writes_junk_eq_canon, (run_B ..).2.2.2]
    exact block_apply _ _ X G2 C2 W2 1024 (rowsQ_apply hx _ _ _) (fun k m => (kept_apply _ _ 1 k m).trans (hacc.w2 k _)) r l
  · exact hacc.w1
  · exact hacc.w2

/-- After every point the specification's values hold. -/
theorem after (hx : ∀ t, Staged m c X C1 C2 G1 G2 W1 W2 t) : ∀ (n : ℕ) (hn : 0 + n < cfg0.N),
    After X C1 C2 G1 G2 W1 W2 n (Pipeline.accAt (fun n h => Value.stAt0 m c n h Value.junk0) (Value.stAt0 m c) 0 n hn)
  | 0, hn => after_A m c ⟨0, hn⟩ (hx _) _ rfl
  | n + 1, hn => by
    have ih := after hx n (Nat.lt_of_succ_lt hn)
    have hN : n + 1 < 16 := (Nat.zero_add _).symm.trans_lt (lt_of_lt_of_eq hn (show cfg0.N = 16 from N_0))
    have hn' : n + 1 < cfg0.N := by omega
    rw [Pipeline.accAt_succ]
    have e : ∀ j (hj : j < cfg0.N) acc, j = n + 1 → Value.stAt0 m c j hj acc = Value.stAt0 m c (n + 1) hn' acc := by
      intro j hj acc e; subst e; rfl
    rw [e _ _ _ (Nat.zero_add _)]
    exact after_B m c ⟨n + 1, hn'⟩ (hx _) _ (by show ¬(n + 1) % 16 = 0; omega) n ih

/-! ## The arguments' blocks -/

/-- Where the windows stand at each point. -/
theorem index_facts : ∀ t : Fin cfg0.N,
    win0_0.index t 0 = t.val ∧ win0_0.index t 1 = 0 ∧ win0_1.index t 0 = t.val / 2 ∧ win0_1.index t 2 = 0
    ∧ win0_2.index t 0 = t.val / 2 ∧ win0_2.index t 2 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0 :=
  (by decide +kernel : ∀ t : Fin grid0.N, _)

/-- Every window's block is its argument's at the window's place. -/
theorem staged (t : Fin cfg0.N) : Staged m c (at2 (m ((c : Thread nD τ).loc main_arg0))) (at3 (m ((c : Thread nD τ).loc main_arg1)))
    (at3 (m ((c : Thread nD τ).loc main_arg2))) (at2 (m ((c : Thread nD τ).loc main_arg3))) (at2 (m ((c : Thread nD τ).loc main_arg4)))
    (at2 (m ((c : Thread nD τ).loc main_arg5))) (at2 (m ((c : Thread nD τ).loc main_arg6))) t := by
  obtain ⟨a0, b0, a1, b1, a2, b2, a3, b3, a4, b4, a5, b5, a6, b6⟩ := index_facts t
  constructor
  · intro r l
    unfold iblk
    rw [View.read_apply]
    refine at2_at (m ((c : Thread nD τ).loc main_arg0)) _ ?_ ?_
    · show win0_0.index t 0 * 1024 + 1 * r.val = _; rw [a0]; omega
    · show win0_0.index t 1 * 1024 + 1 * l.val = _; rw [b0]; omega
  · intro l
    unfold iblk
    rw [View.read_apply]
    refine at3_at (m ((c : Thread nD τ).loc main_arg1)) _ ?_ ?_
    · show win0_1.index t 0 * 1 + 1 * 0 = _; rw [a1]; omega
    · show win0_1.index t 2 * 2048 + 1 * l.val = _; rw [b1]; omega
  · intro l
    unfold iblk
    rw [View.read_apply]
    refine at3_at (m ((c : Thread nD τ).loc main_arg2)) _ ?_ ?_
    · show win0_2.index t 0 * 1 + 1 * 0 = _; rw [a2]; omega
    · show win0_2.index t 2 * 3072 + 1 * l.val = _; rw [b2]; omega
  · intro l
    unfold iblk
    rw [View.read_apply]
    refine at2_at (m ((c : Thread nD τ).loc main_arg3)) _ ?_ ?_
    · show win0_3.index t 0 * 1 + 1 * 0 = _; rw [a3]
    · show win0_3.index t 1 * 1024 + 1 * l.val = _; rw [b3]; omega
  · intro l
    unfold iblk
    rw [View.read_apply]
    refine at2_at (m ((c : Thread nD τ).loc main_arg4)) _ ?_ ?_
    · show win0_4.index t 0 * 1 + 1 * 0 = _; rw [a4]
    · show win0_4.index t 1 * 1024 + 1 * l.val = _; rw [b4]; omega
  · intro r l
    unfold iblk
    rw [View.read_apply]
    refine at2_at (m ((c : Thread nD τ).loc main_arg5)) _ ?_ ?_
    · show win0_5.index t 0 * 1024 + 1 * r.val = _; rw [a5]; omega
    · show win0_5.index t 1 * 2048 + 1 * l.val = _; rw [b5]; omega
  · intro r l
    unfold iblk
    rw [View.read_apply]
    refine at2_at (m ((c : Thread nD τ).loc main_arg6)) _ ?_ ?_
    · show win0_6.index t 0 * 1024 + 1 * r.val = _; rw [a6]; omega
    · show win0_6.index t 1 * 2048 + 1 * l.val = _; rw [b6]; omega

/-- The kernel's keys are the specification's. -/
theorem k_apply (r : Fin 16384) (l : Fin 1024) : Value.G7 m c (ix2 r l)
    = proj (at2 (m ((c : Thread nD τ).loc main_arg0))) (at2 (m ((c : Thread nD τ).loc main_arg3))) (at3 (m ((c : Thread nD τ).loc main_arg1)))
        (at2 (m ((c : Thread nD τ).loc main_arg5))) 0 r l := by
  have hr := r.isLt
  have hl := l.isLt
  have hp : Value.pt7Of (ix2 r l) = r.val / 1024 := by
    show 1 * (r.val / 1024 - 0) + 1 * (l.val / 1024 - 0) = _
    omega
  have hN : Value.pt7Of (ix2 r l) < cfg0.N := by
    rw [hp, show cfg0.N = 16 from N_0]
    omega
  unfold Value.G7
  rw [dif_pos hN]
  have hloc : Value.loc7Of (ix2 r l) = ix2 ⟨r.val % 1024, by omega⟩ l := by
    funext x
    fin_cases x
    · rfl
    · exact Fin.ext (Nat.mod_eq_of_lt hl)
  rw [hloc]
  refine ((after m c (staged m c) _ (by omega)).k ⟨r.val % 1024, by omega⟩ l).trans ?_
  rw [hp]
  show proj _ _ _ _ _ (1024 * (r.val / 1024) + r.val % 1024) _ = _
  rw [show 1024 * (r.val / 1024) + r.val % 1024 = r.val by omega]

/-- The kernel's values are the specification's. -/
theorem v_apply (r : Fin 16384) (l : Fin 1024) : Value.G8 m c (ix2 r l)
    = proj (at2 (m ((c : Thread nD τ).loc main_arg0))) (at2 (m ((c : Thread nD τ).loc main_arg3))) (at3 (m ((c : Thread nD τ).loc main_arg1)))
        (at2 (m ((c : Thread nD τ).loc main_arg5))) 1024 r l := by
  have hr := r.isLt
  have hl := l.isLt
  have hp : Value.pt8Of (ix2 r l) = r.val / 1024 := by
    show 1 * (r.val / 1024 - 0) + 1 * (l.val / 1024 - 0) = _
    omega
  have hN : Value.pt8Of (ix2 r l) < cfg0.N := by
    rw [hp, show cfg0.N = 16 from N_0]
    omega
  unfold Value.G8
  rw [dif_pos hN]
  have hloc : Value.loc8Of (ix2 r l) = ix2 ⟨r.val % 1024, by omega⟩ l := by
    funext x
    fin_cases x
    · rfl
    · exact Fin.ext (Nat.mod_eq_of_lt hl)
  rw [hloc]
  refine ((after m c (staged m c) _ (by omega)).v ⟨r.val % 1024, by omega⟩ l).trans ?_
  rw [hp]
  show proj _ _ _ _ _ (1024 * (r.val / 1024) + r.val % 1024) _ = _
  rw [show 1024 * (r.val / 1024) + r.val % 1024 = r.val by omega]

/-- The kernel's queries are the specification's. -/
theorem q_apply (r : Fin 16384) (l : Fin 1024) : Value.G9 m c (ix2 r l)
    = proj (at2 (m ((c : Thread nD τ).loc main_arg0))) (at2 (m ((c : Thread nD τ).loc main_arg4))) (at3 (m ((c : Thread nD τ).loc main_arg2)))
        (at2 (m ((c : Thread nD τ).loc main_arg6))) 0 r l * Ideal.ofBits .f32 0x3E38AA3B#32 := by
  have hr := r.isLt
  have hl := l.isLt
  have hp : Value.pt9Of (ix2 r l) = r.val / 1024 := by
    show 1 * (r.val / 1024 - 0) + 1 * (l.val / 1024 - 0) = _
    omega
  have hN : Value.pt9Of (ix2 r l) < cfg0.N := by
    rw [hp, show cfg0.N = 16 from N_0]
    omega
  unfold Value.G9
  rw [dif_pos hN]
  have hloc : Value.loc9Of (ix2 r l) = ix2 ⟨r.val % 1024, by omega⟩ l := by
    funext x
    fin_cases x
    · rfl
    · exact Fin.ext (Nat.mod_eq_of_lt hl)
  rw [hloc]
  refine ((after m c (staged m c) _ (by omega)).q ⟨r.val % 1024, by omega⟩ l).trans ?_
  rw [hp]
  show proj _ _ _ _ _ (1024 * (r.val / 1024) + r.val % 1024) _ * _ = _
  rw [show 1024 * (r.val / 1024) + r.val % 1024 = r.val by omega]

/-- The kernel's gate are the specification's. -/
theorem g_apply (r : Fin 16384) (l : Fin 1024) : Value.G10 m c (ix2 r l)
    = proj (at2 (m ((c : Thread nD τ).loc main_arg0))) (at2 (m ((c : Thread nD τ).loc main_arg4))) (at3 (m ((c : Thread nD τ).loc main_arg2)))
        (at2 (m ((c : Thread nD τ).loc main_arg6))) 1024 r l := by
  have hr := r.isLt
  have hl := l.isLt
  have hp : Value.pt10Of (ix2 r l) = r.val / 1024 := by
    show 1 * (r.val / 1024 - 0) + 1 * (l.val / 1024 - 0) = _
    omega
  have hN : Value.pt10Of (ix2 r l) < cfg0.N := by
    rw [hp, show cfg0.N = 16 from N_0]
    omega
  unfold Value.G10
  rw [dif_pos hN]
  have hloc : Value.loc10Of (ix2 r l) = ix2 ⟨r.val % 1024, by omega⟩ l := by
    funext x
    fin_cases x
    · rfl
    · exact Fin.ext (Nat.mod_eq_of_lt hl)
  rw [hloc]
  refine ((after m c (staged m c) _ (by omega)).g ⟨r.val % 1024, by omega⟩ l).trans ?_
  rw [hp]
  show proj _ _ _ _ _ (1024 * (r.val / 1024) + r.val % 1024) _ = _
  rw [show 1024 * (r.val / 1024) + r.val % 1024 = r.val by omega]

end Cert.Kernel2Ideal.Kvq

end
-- ==== Proof.KvqRef.lean ====
/-
The reference of the second kernel, read at an index.
-/
module

public import proofs.«01_k».proof.Proof.SpecRows
public import proofs.«01_k».proof.Proof.Gen.Reference2Ideal.Run
public import Idealize.ShloMosaic.Lib.Pipeline.Value

@[expose] public section

noncomputable section

open scoped BigOperators

namespace Cert.Reference2Ideal.Kvq

open Cert.Reference2Ideal Cert.Reference2Ideal.Gen Idealize.ShloMosaic Idealize.SL.Sem
open Cert.Spec (at2 at3 at2_eq at3_eq modul irms modulated proj)

variable {F : FTy → Type} [FloatOps F]

/-- An array, by shape. -/
abbrev Arr (F : FTy → Type) [FloatOps F] (s : Shape) (e : EltTy) := (⟨s, e⟩ : BufTy).Contents (Elt F)

/-- The rows over their root mean square. -/
def norms (x : Arr F S16384x1024 .f32) : Arr F S8x2048x1024 .f32 :=
  mulf (shapeCast _ x shapeCasts_S16384x1024_S8x2048x1024) (broadcastInDim S8x2048x1024 ![0, 1, 2] bcast_S8x2048x1_S8x2048x1024_0_1_2
    (Host.rsqrt (addf (Host.divf (broadcastInDim S8x2048x1 ![0, 1] bcast_S8x2048_S8x2048x1_0_1
      (Host.reduceAdd (mulf (shapeCast _ x shapeCasts_S16384x1024_S8x2048x1024) (shapeCast _ x shapeCasts_S16384x1024_S8x2048x1024))
        (constant S_ .f32 0x00000000#32) reducesTo_S8x2048x1024_S8x2048_d2 h_S_))
      (broadcastInDim S8x2048x1 ![] bcast_S_S8x2048x1 (constant S_ .f32 0x44800000#32)))
      (broadcastInDim S8x2048x1 ![] bcast_S_S8x2048x1 (constant S_ .f32 0x358637BD#32)))))

/-- The normalised rows with their gain, scale and shift. -/
def mods (n : Arr F S8x2048x1024 .f32) (g : Arr F S1x1024 .f32) (sc sh : Arr F S8x1x1024 .f32) : Arr F S8x2048x1024 .f32 :=
  addf (mulf (mulf n (broadcastInDim S8x2048x1024 ![0, 1, 2] bcast_S1x1x1024_S8x2048x1024_0_1_2
      (broadcastInDim S1x1x1024 ![1, 2] bcast_S1x1024_S1x1x1024_1_2 g)))
    (broadcastInDim S8x2048x1024 ![0, 1, 2] bcast_S8x1x1024_S8x2048x1024_0_1_2
      (addf (broadcastInDim S8x1x1024 ![] bcast_S_S8x1x1024 (constant S_ .f32 0x3F800000#32)) sc)))
    (broadcastInDim S8x2048x1024 ![0, 1, 2] bcast_S8x1x1024_S8x2048x1024_0_1_2 sh)

/-- The product with the weights. -/
def prods (y : Arr F S8x2048x1024 .f32) (w : Arr F S1024x2048 .f32) : Arr F S8x2048x2048 .f32 :=
  Host.dotGeneral dot_S8x2048x1024_S1024x2048_S8x2048x2048_2_0_01_1_n_n none y w

/-- The first half of the columns, laid out as rows. -/
def left (p : Arr F S8x2048x2048 .f32) : Arr F S16384x1024 .bf16 :=
  truncf .bf16 (shapeCast _ (extractStridedSlice S8x2048x1024 ![0, 0, 0] p slices_S8x2048x2048_S8x2048x1024_0_0_0)
    shapeCasts_S8x2048x1024_S16384x1024) bitsLt_bf16_f32

/-- The second half of the columns, laid out as rows. -/
def right (p : Arr F S8x2048x2048 .f32) : Arr F S16384x1024 .bf16 :=
  truncf .bf16 (shapeCast _ (extractStridedSlice S8x2048x1024 ![0, 0, 1024] p slices_S8x2048x2048_S8x2048x1024_0_0_1024)
    shapeCasts_S8x2048x1024_S16384x1024) bitsLt_bf16_f32

/-- The first half of the columns, scaled and laid out as rows. -/
def scaled (p : Arr F S8x2048x2048 .f32) : Arr F S16384x1024 .bf16 :=
  truncf .bf16 (shapeCast _ (mulf (extractStridedSlice S8x2048x1024 ![0, 0, 0] p slices_S8x2048x2048_S8x2048x1024_0_0_0)
    (broadcastInDim S8x2048x1024 ![] bcast_S_S8x2048x1024 (constant S_ .f32 0x3E38AA3B#32)))
    shapeCasts_S8x2048x1024_S16384x1024) bitsLt_bf16_f32

/-- Keys and values, side by side. -/
def kvs (a0 : Arr F S16384x1024 .f32) (a1 : Arr F S8x1x2048 .f32) (a3 : Arr F S1x1024 .f32) (a5 : Arr F S1024x2048 .f32) :
    Arr F S8x2048x2048 .f32 :=
  prods (mods (norms a0) a3 (extractStridedSlice S8x1x1024 ![0, 0, 1024] a1 slices_S8x1x2048_S8x1x1024_0_0_1024)
    (extractStridedSlice S8x1x1024 ![0, 0, 0] a1 slices_S8x1x2048_S8x1x1024_0_0_0)) a5

/-- Queries and gate, side by side. -/
def qgs (a0 : Arr F S16384x1024 .f32) (a2 : Arr F S8x1x3072 .f32) (a4 : Arr F S1x1024 .f32) (a6 : Arr F S1024x2048 .f32) :
    Arr F S8x2048x2048 .f32 :=
  prods (mods (norms a0) a4 (extractStridedSlice S8x1x1024 ![0, 0, 1024] a2 slices_S8x1x3072_S8x1x1024_0_0_1024)
    (extractStridedSlice S8x1x1024 ![0, 0, 0] a2 slices_S8x1x3072_S8x1x1024_0_0_0)) a6

theorem norms_apply (x : Arr Ideal S16384x1024 .f32) (b : Fin 8) (s : Fin 2048) (d : Fin 1024) :
    norms x (ix3 b s d) = at2 x (2048 * b + s) d * irms fun e => at2 x (2048 * b + s) e := by
  have h (e : Fin 1024) : x (ix2 ⟨b.val * 2048 + s.val, by omega⟩ e) = at2 x (2048 * b + s) e :=
    at2_eq _ (by show b.val * 2048 + s.val = _; omega) rfl
  pointwise [norms, irms]
  simp only [h]

theorem mods_apply (n : Arr Ideal S8x2048x1024 .f32) (g : Arr Ideal S1x1024 .f32) (sc sh : Arr Ideal S8x1x1024 .f32)
    (b : Fin 8) (s : Fin 2048) (d : Fin 1024) :
    mods n g sc sh (ix3 b s d)
      = n (ix3 b s d) * g (ix2 0 d) * (1 + sc (ix3 b 0 d)) + sh (ix3 b 0 d) := by
  pointwise [mods]

theorem prods_apply (y : Arr Ideal S8x2048x1024 .f32) (w : Arr Ideal S1024x2048 .f32) (b : Fin 8) (s : Fin 2048) (l : Fin 2048) :
    prods y w (ix3 b s l) = ∑ d : Fin 1024, y (ix3 b s d) * w (ix2 d l) := by
  pointwise [prods]

theorem left_apply (p : Arr Ideal S8x2048x2048 .f32) (r : Fin 16384) (l : Fin 1024) :
    left p (ix2 r l) = p (ix3 ⟨r.val / 2048, by omega⟩ ⟨r.val % 2048, by omega⟩ ⟨l.val, by omega⟩) := by
  pointwise [left]

theorem right_apply (p : Arr Ideal S8x2048x2048 .f32) (r : Fin 16384) (l : Fin 1024) :
    right p (ix2 r l) = p (ix3 ⟨r.val / 2048, by omega⟩ ⟨r.val % 2048, by omega⟩ ⟨1024 + l.val, by omega⟩) := by
  pointwise [right]

theorem scaled_apply (p : Arr Ideal S8x2048x2048 .f32) (r : Fin 16384) (l : Fin 1024) :
    scaled p (ix2 r l) = p (ix3 ⟨r.val / 2048, by omega⟩ ⟨r.val % 2048, by omega⟩ ⟨l.val, by omega⟩) * Ideal.ofBits .f32 0x3E38AA3B#32 := by
  pointwise [scaled]

/-- The products for the keys and values are the specification's. -/
theorem kvs_apply (a0 : Arr Ideal S16384x1024 .f32) (a1 : Arr Ideal S8x1x2048 .f32) (a3 : Arr Ideal S1x1024 .f32)
    (a5 : Arr Ideal S1024x2048 .f32) (r : Fin 16384) (o l c : ℕ) (hc : c < 2048) (hl : c = o + l) :
    kvs a0 a1 a3 a5 (ix3 ⟨r.val / 2048, by omega⟩ ⟨r.val % 2048, by omega⟩ ⟨c, hc⟩)
      = proj (at2 a0) (at2 a3) (at3 a1) (at2 a5) o r l := by
  have hr : 2048 * (r.val / 2048) + r.val % 2048 = r.val := by omega
  have hsc (b : Fin 8) (d : Fin 1024) : extractStridedSlice S8x1x1024 ![0, 0, 1024] a1 slices_S8x1x2048_S8x1x1024_0_0_1024 (ix3 b 0 d)
      = at3 a1 b (1024 + d) := by
    pointwise
    exact at3_eq _ rfl rfl
  have hsh (b : Fin 8) (d : Fin 1024) : extractStridedSlice S8x1x1024 ![0, 0, 0] a1 slices_S8x1x2048_S8x1x1024_0_0_0 (ix3 b 0 d)
      = at3 a1 b d := by
    pointwise
    exact at3_eq _ rfl rfl
  unfold kvs proj modulated
  rw [prods_apply]
  refine Finset.sum_congr rfl fun d _ => ?_
  rw [mods_apply, norms_apply, hsc, hsh, at2_eq a5 (a := d) (b := ⟨c, hc⟩) rfl hl, at2_eq a3 (a := (0 : Fin 1)) (b := d) rfl rfl]
  simp only [hr]
  rfl

/-- The products for the queries and the gate are the specification's. -/
theorem qgs_apply (a0 : Arr Ideal S16384x1024 .f32) (a2 : Arr Ideal S8x1x3072 .f32) (a4 : Arr Ideal S1x1024 .f32)
    (a6 : Arr Ideal S1024x2048 .f32) (r : Fin 16384) (o l c : ℕ) (hc : c < 2048) (hl : c = o + l) :
    qgs a0 a2 a4 a6 (ix3 ⟨r.val / 2048, by omega⟩ ⟨r.val % 2048, by omega⟩ ⟨c, hc⟩)
      = proj (at2 a0) (at2 a4) (at3 a2) (at2 a6) o r l := by
  have hr : 2048 * (r.val / 2048) + r.val % 2048 = r.val := by omega
  have hsc (b : Fin 8) (d : Fin 1024) : extractStridedSlice S8x1x1024 ![0, 0, 1024] a2 slices_S8x1x3072_S8x1x1024_0_0_1024 (ix3 b 0 d)
      = at3 a2 b (1024 + d) := by
    pointwise
    exact at3_eq _ rfl rfl
  have hsh (b : Fin 8) (d : Fin 1024) : extractStridedSlice S8x1x1024 ![0, 0, 0] a2 slices_S8x1x3072_S8x1x1024_0_0_0 (ix3 b 0 d)
      = at3 a2 b d := by
    pointwise
    exact at3_eq _ rfl rfl
  unfold qgs proj modulated
  rw [prods_apply]
  refine Finset.sum_congr rfl fun d _ => ?_
  rw [mods_apply, norms_apply, hsc, hsh, at2_eq a6 (a := d) (b := ⟨c, hc⟩) rfl hl, at2_eq a4 (a := (0 : Fin 1)) (b := d) rfl rfl]
  simp only [hr]
  rfl

/-- The four results of the reference by stages. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      let A0 := m ((c.tc : Thread nD τ).loc main_arg0)
      let kv := kvs A0 (m ((c.tc : Thread nD τ).loc main_arg1)) (m ((c.tc : Thread nD τ).loc main_arg3)) (m ((c.tc : Thread nD τ).loc main_arg5))
      let qg := qgs A0 (m ((c.tc : Thread nD τ).loc main_arg2)) (m ((c.tc : Thread nD τ).loc main_arg4)) (m ((c.tc : Thread nD τ).loc main_arg6))
      r.2.mem ((c.tc : Thread nD τ).loc main_v53) = left kv
      ∧ r.2.mem ((c.tc : Thread nD τ).loc main_v55) = right kv
      ∧ r.2.mem ((c.tc : Thread nD τ).loc main_v57) = scaled qg
      ∧ r.2.mem ((c.tc : Thread nD τ).loc main_v59) = right qg
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

end Cert.Reference2Ideal.Kvq

end
-- ==== Proof.KvqAlgebra.lean ====
/-
The claims about the second kernel, from the two runs and the specification.
-/
module

public import proofs.«01_k».proof.Defs
public import proofs.«01_k».proof.Proof.KvqFold
public import proofs.«01_k».proof.Proof.KvqRef
public import Idealize.ShloMosaic.Lib.Quiescent
public import Idealize.ShloMosaic.Lib.Claim

@[expose] public section

noncomputable section

namespace Cert.KvqAlgebra

open Idealize.ShloMosaic Idealize.SL.Sem

/-- Over the extended reals the kernel and the reference return the same keys, values, queries and gate. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Value.G7 m c, fun c => Cert.Kernel2Ideal.Value.G8 m c, fun c => Cert.Kernel2Ideal.Value.G9 m c,
    fun c => Cert.Kernel2Ideal.Value.G10 m c, Cert.Kernel2Ideal.Value.run m g, ?_⟩
  refine (θ_run Cert.Reference2Ideal.defs _ _).mono (fun r hr c => ?_) (Cert.Reference2Ideal.Kvq.run_stages m' g')
  obtain ⟨h0, h1, h2, h3, h4, h5, h6⟩ := hagree c
  obtain ⟨e0, e1, e2, e3, e⟩ := hr c
  refine ⟨e0.trans ?_, e1.trans ?_, e2.trans ?_, e3.trans ?_, e⟩
  · rw [h0, h1, h3, h5]
    funext i
    rw [ValueIdx.eq_ix2 i]
    exact ((Cert.Reference2Ideal.Kvq.left_apply _ (i 0) (i 1)).trans
      (Cert.Reference2Ideal.Kvq.kvs_apply _ _ _ _ (i 0) 0 (i 1).val _ _ (Nat.zero_add _).symm)).trans
      (Cert.Kernel2Ideal.Kvq.k_apply m c (i 0) (i 1)).symm
  · rw [h0, h1, h3, h5]
    funext i
    rw [ValueIdx.eq_ix2 i]
    exact ((Cert.Reference2Ideal.Kvq.right_apply _ (i 0) (i 1)).trans
      (Cert.Reference2Ideal.Kvq.kvs_apply _ _ _ _ (i 0) 1024 (i 1).val _ _ rfl)).trans
      (Cert.Kernel2Ideal.Kvq.v_apply m c (i 0) (i 1)).symm
  · rw [h0, h2, h4, h6]
    funext i
    rw [ValueIdx.eq_ix2 i]
    exact ((Cert.Reference2Ideal.Kvq.scaled_apply _ (i 0) (i 1)).trans (congrArg (· * _)
      (Cert.Reference2Ideal.Kvq.qgs_apply _ _ _ _ (i 0) 0 (i 1).val _ _ (Nat.zero_add _).symm))).trans
      (Cert.Kernel2Ideal.Kvq.q_apply m c (i 0) (i 1)).symm
  · rw [h0, h2, h4, h6]
    funext i
    rw [ValueIdx.eq_ix2 i]
    exact ((Cert.Reference2Ideal.Kvq.right_apply _ (i 0) (i 1)).trans
      (Cert.Reference2Ideal.Kvq.qgs_apply _ _ _ _ (i 0) 1024 (i 1).val _ _ rfl)).trans
      (Cert.Kernel2Ideal.Kvq.g_apply m c (i 0) (i 1)).symm

/-- The reference runs and leaves its arguments; it declares no semaphore. -/
theorem frame_reference : Cert.quiescent_Reference2Ideal (hReference2Ideal := Cert.Reference2Ideal.Gen.facts) := fun m g _ =>
  (θ_run Cert.Reference2Ideal.defs _ _).mono
    (fun r h => ⟨fun c => (h c).2.2.2.2, sem_eq_zero_of_no_sems (by decide) r.2⟩)
    (Cert.Reference2Ideal.Kvq.run_stages (F := Ideal) m g)

end Cert.KvqAlgebra

end
-- ==== Proof.GpSpec.lean ====
/-
What the third kernel computes, over the extended reals and with natural numbers for indices: a gate for each row and key lane,
its running sum over the rows of a chunk of 64, and queries and keys scaled by the sums' exponentials.
-/
module

public import proofs.«01_k».proof.Proof.SpecRows

@[expose] public section

noncomputable section

open scoped BigOperators

namespace Cert.Spec

open Idealize.ShloMosaic

/-- `log (1 + exp y)`, written so that the exponential is at most 1. -/
def softplus (y : EReal) : EReal := max y 0 + Ideal.log1p (Ideal.exp (-max y (-y)))

/-- A gate: the logarithm of the logistic function, over 16. -/
def gate (y : EReal) : EReal := -softplus (-y) * Ideal.ofBits .f32 0x3D800000#32

/-- A gate before the logistic function: the modulated input times the product of two weight matrices, the first with 16 columns,
    and a bias. -/
def pre (X G C W A B : ℕ → ℕ → EReal) (r l : ℕ) : EReal := (∑ j : Fin 16, proj X G C W 3072 r j * A j l) + B 0 l

/-- The gates' running sum within a chunk of 64 rows. -/
def cum (X G C W A B : ℕ → ℕ → EReal) (r l : ℕ) : EReal :=
  ∑ j ∈ Finset.range (r % 64 + 1), gate (pre X G C W A B (64 * (r / 64) + j) l)

theorem sixteenth : Ideal.ofBits .f32 0x3D800000#32 = (((1 : ℝ) / 16 : ℝ) : EReal) := by
  simp [Ideal.ofBits, Ideal.ieee, -EReal.coe_mul]; norm_num

theorem sixteen : Ideal.ofBits .f32 0x41800000#32 = ((16 : ℝ) : EReal) := by
  simp [Ideal.ofBits, Ideal.ieee, -EReal.coe_mul]; norm_num

/-- Dividing by 16 is multiplying by a sixteenth. -/
theorem div_sixteen (x : EReal) : Ideal.div x (Ideal.ofBits .f32 0x41800000#32) = x * Ideal.ofBits .f32 0x3D800000#32 := by
  rw [sixteen, sixteenth]
  unfold Ideal.div
  rw [if_neg (by norm_num), ← EReal.coe_inv]
  norm_num

theorem exp_nonneg (y : EReal) : 0 ≤ Ideal.exp y := by
  induction y using EReal.rec with
  | bot => exact le_refl _
  | top => exact le_top
  | coe r => exact EReal.coe_nonneg.mpr (Real.exp_pos r).le

theorem log1p_nonneg (y : EReal) (h : 0 ≤ y) : 0 ≤ Ideal.log1p y := by
  induction y using EReal.rec with
  | bot => exact absurd h (by simp)
  | top =>
    show 0 ≤ Ideal.log (1 + ⊤)
    rw [EReal.add_top_of_ne_bot (by exact EReal.coe_ne_bot 1)]
    exact le_top
  | coe r =>
    have hr : 0 ≤ r := EReal.coe_nonneg.mp h
    show 0 ≤ Ideal.log (((1 : ℝ) : EReal) + (r : EReal))
    rw [← EReal.coe_add]
    show (0 : EReal) ≤ if 1 + r ≤ 0 then ⊥ else (Real.log (1 + r) : EReal)
    rw [if_neg (by linarith)]
    exact EReal.coe_nonneg.mpr (Real.log_nonneg (by linarith))

theorem softplus_nonneg (y : EReal) : 0 ≤ softplus y :=
  add_nonneg (le_max_right _ _) (log1p_nonneg _ (exp_nonneg _))

/-- A gate is at most 0. -/
theorem gate_ne_top (y : EReal) : gate y ≠ ⊤ := by
  have h := softplus_nonneg (-y)
  unfold gate
  rw [sixteenth]
  have : -softplus (-y) * (((1 : ℝ) / 16 : ℝ) : EReal) ≤ 0 :=
    mul_nonpos_of_nonpos_of_nonneg (EReal.neg_le_zero.mpr h) (EReal.coe_nonneg.mpr (by norm_num))
  exact ne_of_lt (this.trans_lt EReal.zero_lt_top)

/-- A number's rounding and the rest, both multiplied by 0 or 1, add up to the number multiplied. -/
theorem split_mul (t x : EReal) (ht : t = 0 ∨ t = 1) (hx : x ≠ ⊤) : t * x + t * (x - x) = t * x := by
  rcases ht with rfl | rfl
  · simp
  · rw [one_mul, one_mul]
    induction x using EReal.rec with
    | bot => rfl
    | top => exact absurd rfl hx
    | coe r => rw [← EReal.coe_sub, sub_self, EReal.coe_zero, add_zero]

/-- The products of a 0-1 row with numbers and with what a rounding leaves of them. -/
theorem sum_split {n : ℕ} (t x : Fin n → EReal) (ht : ∀ j, t j = 0 ∨ t j = 1) (hx : ∀ j, x j ≠ ⊤) :
    ∑ j, t j * x j + ∑ j, t j * (x j - x j) = ∑ j, t j * x j := by
  rw [← Finset.sum_add_distrib]
  exact Finset.sum_congr rfl fun j _ => split_mul _ _ (ht j) (hx j)

/-- The sum over the rows of `i`'s chunk up to `i`, as a product with a 0-1 row. -/
theorem sum_tril {n : ℕ} (i : ℕ) (hi : i < n) (f : ℕ → EReal) :
    ∑ j : Fin n, (if i / 64 = j.val / 64 ∧ j.val ≤ i then (1 : EReal) else 0) * f j
      = ∑ j ∈ Finset.range (i % 64 + 1), f (64 * (i / 64) + j) := by
  rw [Fin.sum_univ_eq_sum_range (fun j => (if i / 64 = j / 64 ∧ j ≤ i then (1 : EReal) else 0) * f j) n]
  simp only [ite_mul, one_mul, zero_mul]
  rw [← Finset.sum_filter]
  symm
  refine Finset.sum_bij (fun j _ => 64 * (i / 64) + j) ?_ ?_ ?_ ?_
  · intro j hj
    rw [Finset.mem_range] at hj
    rw [Finset.mem_filter, Finset.mem_range]
    omega
  · intro a _ b _ h
    omega
  · intro j hj
    rw [Finset.mem_filter, Finset.mem_range] at hj
    exact ⟨j - 64 * (i / 64), Finset.mem_range.mpr (by omega), by omega⟩
  · intro j _
    rfl

/-- The sum over the rows of a chunk, as a product with a 0-1 row. -/
theorem sum_sel {n : ℕ} (c : ℕ) (hc : 64 * c + 64 ≤ n) (f : ℕ → EReal) :
    ∑ j : Fin n, (if j.val / 64 = c then (1 : EReal) else 0) * f j = ∑ j ∈ Finset.range 64, f (64 * c + j) := by
  have h := sum_tril (64 * c + 63) (by omega : 64 * c + 63 < n) f
  rw [show (64 * c + 63) / 64 = c by omega, show (64 * c + 63) % 64 + 1 = 64 by omega] at h
  rw [← h]
  refine Finset.sum_congr rfl fun j _ => ?_
  congr 1
  by_cases hj : j.val / 64 = c
  · rw [if_pos hj, if_pos ⟨hj.symm, by omega⟩]
  · rw [if_neg hj, if_neg fun h => hj h.1.symm]

end Cert.Spec

end
-- ==== Proof.GpRun.lean ====
/-
The third kernel: the queries, keys, values, gate and decays of the linear-attention layer.  What a grid point reads and writes.
-/
module

public import proofs.«01_k».proof.Proof.GpSpec
public import proofs.«01_k».proof.Proof.Gen.Kernel3Ideal.Value

@[expose] public section

noncomputable section

namespace Cert.Kernel3Ideal.Gp

open Cert.Kernel3Ideal Cert.Kernel3Ideal.Gen Idealize.ShloMosaic Idealize.ShloMosaic.TcCoe Idealize.SL.Sem

variable {F : FTy → Type} [FloatOps F]

theorem inb_half (u : Fin 2) : ∀ a, (![512 * u.val, 0] : Fin 2 → ℕ) a + S512x1024.size a ≤ S1024x1024.size a := by
  intro a; fin_cases a <;> simp [S512x1024, S1024x1024] <;> omega
theorem inb_quarter (u s : Fin 2) : ∀ a, (![512 * u.val + 256 * s.val, 0] : Fin 2 → ℕ) a + S256x512.size a ≤ S1024x512.size a := by
  intro a; fin_cases a <;> simp [S256x512, S1024x512] <;> omega
theorem inb_eighth (u : Fin 2) : ∀ a, (![8 * u.val, 0] : Fin 2 → ℕ) a + S8x512.size a ≤ S16x512.size a := by
  intro a; fin_cases a <;> simp [S8x512, S16x512] <;> omega
theorem inb_row (u : Fin 2) : ∀ a, (![512 * u.val, 0] : Fin 2 → ℕ) a + S512x1024.size a ≤ S3072x1024.size a := by
  intro a; fin_cases a <;> simp [S512x1024, S3072x1024] <;> omega
theorem inb_wide (u : Fin 3) : ∀ a, (![1024 * u.val, 0] : Fin 2 → ℕ) a + S1024x1024.size a ≤ S3072x1024.size a := by
  intro a; fin_cases a <;> simp [S1024x1024, S3072x1024] <;> omega
theorem inb_cond (u : Fin 2) : ∀ a, (![0, 0, 1024 * u.val] : Fin 3 → ℕ) a + S1x1x1024.size a ≤ S1x1x3072.size a := by
  intro a; fin_cases a <;> simp [S1x1x1024, S1x1x3072] <;> omega

/-- A half of a block's rows. -/
abbrev halfRect (u : Fin 2) : Rect S1024x1024 := Rect.unit (s := S1024x1024) ![512 * u.val, 0] S512x1024.size (inb_half u)

/-- A quarter of a block's rows. -/
abbrev quarterRect (u s : Fin 2) : Rect S1024x512 :=
  Rect.unit (s := S1024x512) ![512 * u.val + 256 * s.val, 0] S256x512.size (inb_quarter u s)

/-- A half of a block of decays. -/
abbrev eighthRect (u : Fin 2) : Rect S16x512 := Rect.unit (s := S16x512) ![8 * u.val, 0] S8x512.size (inb_eighth u)

/-- The weights of the queries or of the keys. -/
abbrev rowRect (u : Fin 2) : Rect S3072x1024 := Rect.unit (s := S3072x1024) ![512 * u.val, 0] S512x1024.size (inb_row u)

/-- The weights of the values or of the gate. -/
abbrev wideRect (u : Fin 3) : Rect S3072x1024 := Rect.unit (s := S3072x1024) ![1024 * u.val, 0] S1024x1024.size (inb_wide u)

/-- A block written half by half. -/
abbrev halves (f : Fin 2 → Vec F S512x1024 .bf16) : List (View.Piece (Elt F) S1024x1024 .bf16) := [⟨halfRect 1, f 1⟩, ⟨halfRect 0, f 0⟩]

/-- A block written quarter by quarter. -/
abbrev quarters (f g : Fin 2 → Vec F S256x512 .bf16) : List (View.Piece (Elt F) S1024x512 .bf16) :=
  [⟨quarterRect 1 1, g 1⟩, ⟨quarterRect 1 0, f 1⟩, ⟨quarterRect 0 1, g 0⟩, ⟨quarterRect 0 0, f 0⟩]

/-- A block of decays written half by half. -/
abbrev eighths (f : Fin 2 → Vec F S8x512 .f32) : List (View.Piece (Elt F) S16x512 .f32) := [⟨eighthRect 1, f 1⟩, ⟨eighthRect 0, f 0⟩]

/-- The weights' copy. -/
abbrev copyPiece {arg : Memref sig .tc .vmem S3088x1024 .f32} (harg : arg.IsWhole) (w : Vec F S3088x1024 .f32) :
    View.Piece (Elt F) S3072x1024 .bf16 :=
  ⟨Rect.unit (s := S3072x1024) ![0, 0] S3072x1024.size inb_S3072x1024_S3072x1024_0_0,
    k0_pay2 (View.readAt (Elt F) arg.view
      (Rect.unit (s := S3088x1024) ![0, 0] S3072x1024.size inb_S3088x1024_S3072x1024_0_0).toLoadRect (harg.unread w))⟩

/-! ## What the body loads -/

abbrev ldX {arg : Memref sig .tc .vmem S1024x1024 .f32} (harg : arg.IsWhole) (x : Vec F S1024x1024 .f32) (u : Fin 2) : Vec F S512x1024 .f32 :=
  View.readAt (Elt F) arg.view (halfRect u).toLoadRect (harg.unread x)
abbrev ldC {arg : Memref sig .tc .vmem S1x1x3072 .f32} (harg : arg.IsWhole) (x : Vec F S1x1x3072 .f32) (u : Fin 2) : Vec F S1x1x1024 .f32 :=
  View.readAt (Elt F) arg.view (Rect.unit (s := S1x1x3072) ![0, 0, 1024 * u.val] S1x1x1024.size (inb_cond u)).toLoadRect (harg.unread x)
abbrev ldG {arg : Memref sig .tc .vmem S1x1024 .f32} (harg : arg.IsWhole) (x : Vec F S1x1024 .f32) : Vec F S1x1024 .f32 :=
  View.readAt (Elt F) arg.view (Rect.unit (s := S1x1024) ![0, 0] S1x1024.size inb_S1x1024_S1x1024_0_0).toLoadRect (harg.unread x)
abbrev ldL {arg : Memref sig .tc .vmem S128x1024 .bf16} (harg : arg.IsWhole) (x : Vec F S128x1024 .bf16) : Vec F S128x1024 .bf16 :=
  View.readAt (Elt F) arg.view (Rect.unit (s := S128x1024) ![0, 0] S128x1024.size inb_S128x1024_S128x1024_0_0).toLoadRect (harg.unread x)
abbrev ldP {arg : Memref sig .tc .vmem S128x512 .bf16} (harg : arg.IsWhole) (x : Vec F S128x512 .bf16) : Vec F S128x512 .bf16 :=
  View.readAt (Elt F) arg.view (Rect.unit (s := S128x512) ![0, 0] S128x512.size inb_S128x512_S128x512_0_0).toLoadRect (harg.unread x)
abbrev ldB {arg : Memref sig .tc .vmem S1x512 .f32} (harg : arg.IsWhole) (x : Vec F S1x512 .f32) : Vec F S1x512 .f32 :=
  View.readAt (Elt F) arg.view (Rect.unit (s := S1x512) ![0, 0] S1x512.size inb_S1x512_S1x512_0_0).toLoadRect (harg.unread x)

/-! ## What the body computes of half of the rows -/

/-- Twice the lower triangles, side by side. -/
def tril2 : FVec F S256x512 .bf16 :=
  k0_pay9 (iota .tc S256x256 32 [0] iota_S256x256_d0_w32) (iota .tc S256x256 32 [1] iota_S256x256_d1_w32) k0_pay5 64#32 k0_pay6 k0_pay7 k0_pay8

/-- Which rows belong to which chunk. -/
def sel : FVec F S8x512 .bf16 := k0_pay12 k0_pay10 k0_pay11 1#32

variable (x : Vec F S512x1024 .f32) (sh sc : Vec F S1x1x1024 .f32) (g : Vec F S1x1024 .f32) (wl : Vec F S128x1024 .bf16)
  (wp : Vec F S128x512 .bf16) (b : Vec F S1x512 .f32)

/-- The modulated rows. -/
def hs : FVec F S512x1024 .bf16 := k0_pay13 (k0_pay3 sh) (k0_pay4 sc) x g

/-- The first factor of the gates' weights. -/
def lows : FVec F S512x128 .bf16 := k0_pay14 (k0_pay3 sh) (k0_pay4 sc) x g wl wl

/-- The gates' rounding. -/
def his : FVec F S512x512 .bf16 := k0_pay19 (lows x sh sc g wl) (k0_pay15 wp) b

/-- What the rounding leaves of the gates. -/
def los : FVec F S512x512 .bf16 := k0_pay20 (lows x sh sc g wl) (k0_pay15 wp) b

/-- The running sums of the gates in the first 256 rows. -/
def b0 : FVec F S256x512 .f32 := k0_pay22 tril2 (lows x sh sc g wl) (k0_pay15 wp) b

/-- The running sums of the gates in the last 256 rows. -/
def b1 : FVec F S256x512 .f32 := k0_pay23 tril2 (his x sh sc g wl wp b) (los x sh sc g wl wp b)

/-- The chunks' decays. -/
def dec : FVec F S8x512 .f32 := k0_pay21 sel (lows x sh sc g wl) (k0_pay15 wp) b

/-- The first 256 rows of queries. -/
def q0 (w : Vec F S512x1024 .bf16) : FVec F S256x512 .bf16 := k0_pay26 (k0_pay16 (hs x sh sc g) w) (b0 x sh sc g wl wp b)

/-- The last 256 rows of queries. -/
def q1 (w : Vec F S512x1024 .bf16) : FVec F S256x512 .bf16 :=
  k0_pay28 tril2 (k0_pay16 (hs x sh sc g) w) (his x sh sc g wl wp b) (los x sh sc g wl wp b)

/-- The first 256 rows of keys. -/
def k0 (w : Vec F S512x1024 .bf16) : FVec F S256x512 .bf16 := k0_pay27 (k0_pay17 (hs x sh sc g) w) (b0 x sh sc g wl wp b)

/-- The last 256 rows of keys. -/
def k1 (w : Vec F S512x1024 .bf16) : FVec F S256x512 .bf16 :=
  k0_pay30 (b1 x sh sc g wl wp b) (k0_pay29 (k0_pay17 (hs x sh sc g) w)) (Scalar.ofBits .f32 0x00000000#32)

set_option maxRecDepth 100000 in
set_option maxHeartbeats 4000000 in
/-- What the body writes at the first point. -/
theorem run_A
    (c : Dev nD) (i : grid0.Coords) (arg1 : Memref sig .tc .vmem S1024x1024 .f32) (harg1 : arg1.IsWhole) (arg2 : Memref sig .tc .vmem
    S1x1x3072 .f32) (harg2 : arg2.IsWhole) (arg3 : Memref sig .tc .vmem S1x1024 .f32) (harg3 : arg3.IsWhole) (arg4 : Memref sig .tc .vmem
    S3088x1024 .f32) (harg4 : arg4.IsWhole) (arg5 : Memref sig .tc .vmem S128x1024 .bf16) (harg5 : arg5.IsWhole) (arg6 : Memref sig .tc
    .vmem S128x512 .bf16) (harg6 : arg6.IsWhole) (arg7 : Memref sig .tc .vmem S1x512 .f32) (harg7 : arg7.IsWhole) (arg8 : Memref sig .tc
    .vmem S1024x512 .bf16) (harg8 : arg8.IsWhole) (arg9 : Memref sig .tc .vmem S1024x512 .bf16) (harg9 : arg9.IsWhole) (arg10 : Memref sig
    .tc .vmem S1024x1024 .bf16) (harg10 : arg10.IsWhole) (arg11 : Memref sig .tc .vmem S1024x1024 .bf16) (harg11 : arg11.IsWhole) (arg12 :
    Memref sig .tc .vmem S16x512 .f32) (harg12 : arg12.IsWhole) (arg13 : Memref sig .tc .vmem S3072x1024 .bf16) (harg13 : arg13.IsWhole)
    (hc0 : cond0_0 i)
    (x0 : Vec F S1024x1024 .f32) (x1 : Vec F S1x1x3072 .f32) (x2 : Vec F S1x1024 .f32) (x3 : Vec F S3088x1024 .f32) (x4 : Vec F S128x1024
    .bf16) (x5 : Vec F S128x512 .bf16) (x6 : Vec F S1x512 .f32) :
    let R := kernelRun0_A c i arg1 harg1 arg2 harg2 arg3 harg3 arg4 harg4 arg5 harg5 arg6 harg6 arg7 harg7 arg8 harg8 arg9 harg9 arg10 harg10
        arg11 harg11 arg12 harg12 arg13 harg13 hc0 x0 x1 x2 x3 x4 x5 x6
    R.1 = quarters (fun u => q0 (ldX harg1 x0 u) (ldC harg2 x1 0) (ldC harg2 x1 1) (ldG harg3 x2) (ldL harg5 x4) (ldP harg6 x5) (ldB
        harg7 x6) (arg13.view.readCov [copyPiece harg4 x3] (rowRect 0).toLoadRect)) (fun u => q1 (ldX harg1 x0 u) (ldC harg2 x1 0) (ldC
        harg2 x1 1) (ldG harg3 x2) (ldL harg5 x4) (ldP harg6 x5) (ldB harg7 x6) (arg13.view.readCov [copyPiece harg4 x3] (rowRect
        0).toLoadRect))
      ∧ R.2.1 = quarters (fun u => k0 (ldX harg1 x0 u) (ldC harg2 x1 0) (ldC harg2 x1 1) (ldG harg3 x2) (ldL harg5 x4) (ldP harg6 x5) (ldB
        harg7 x6) (arg13.view.readCov [copyPiece harg4 x3] (rowRect 1).toLoadRect)) (fun u => k1 (ldX harg1 x0 u) (ldC harg2 x1 0) (ldC
        harg2 x1 1) (ldG harg3 x2) (ldL harg5 x4) (ldP harg6 x5) (ldB harg7 x6) (arg13.view.readCov [copyPiece harg4 x3] (rowRect
        1).toLoadRect))
      ∧ R.2.2.1 = halves (fun u => k0_pay24 (hs (ldX harg1 x0 u) (ldC harg2 x1 0) (ldC harg2 x1 1) (ldG harg3 x2)) (arg13.view.readCov
        [copyPiece harg4 x3] (wideRect 1).toLoadRect))
      ∧ R.2.2.2.1 = halves (fun u => k0_pay25 (hs (ldX harg1 x0 u) (ldC harg2 x1 0) (ldC harg2 x1 1) (ldG harg3 x2)) (arg13.view.readCov
        [copyPiece harg4 x3] (wideRect 2).toLoadRect))
      ∧ R.2.2.2.2.1 = eighths (fun u => dec (ldX harg1 x0 u) (ldC harg2 x1 0) (ldC harg2 x1 1) (ldG harg3 x2) (ldL harg5 x4) (ldP harg6 x5)
        (ldB harg7 x6))
      ∧ R.2.2.2.2.2.val = [copyPiece harg4 x3] := by
  unfold kernelRun0_A
  dsimp only
  exact ⟨rfl, rfl, rfl, rfl, rfl, rfl⟩

set_option maxRecDepth 100000 in
set_option maxHeartbeats 4000000 in
/-- What the body writes at every later point. -/
theorem run_B
    (c : Dev nD) (i : grid0.Coords) (arg1 : Memref sig .tc .vmem S1024x1024 .f32) (harg1 : arg1.IsWhole) (arg2 : Memref sig .tc .vmem
    S1x1x3072 .f32) (harg2 : arg2.IsWhole) (arg3 : Memref sig .tc .vmem S1x1024 .f32) (harg3 : arg3.IsWhole) (arg4 : Memref sig .tc .vmem
    S3088x1024 .f32) (harg4 : arg4.IsWhole) (arg5 : Memref sig .tc .vmem S128x1024 .bf16) (harg5 : arg5.IsWhole) (arg6 : Memref sig .tc
    .vmem S128x512 .bf16) (harg6 : arg6.IsWhole) (arg7 : Memref sig .tc .vmem S1x512 .f32) (harg7 : arg7.IsWhole) (arg8 : Memref sig .tc
    .vmem S1024x512 .bf16) (harg8 : arg8.IsWhole) (arg9 : Memref sig .tc .vmem S1024x512 .bf16) (harg9 : arg9.IsWhole) (arg10 : Memref sig
    .tc .vmem S1024x1024 .bf16) (harg10 : arg10.IsWhole) (arg11 : Memref sig .tc .vmem S1024x1024 .bf16) (harg11 : arg11.IsWhole) (arg12 :
    Memref sig .tc .vmem S16x512 .f32) (harg12 : arg12.IsWhole) (arg13 : Memref sig .tc .vmem S3072x1024 .bf16) (harg13 : arg13.IsWhole)
    (hc0 : ¬cond0_0 i)
    (x0 : Vec F S1024x1024 .f32) (x1 : Vec F S1x1x3072 .f32) (x2 : Vec F S1x1024 .f32) (x3 : Vec F S3088x1024 .f32) (x4 : Vec F S128x1024
    .bf16) (x5 : Vec F S128x512 .bf16) (x6 : Vec F S1x512 .f32) (xs0 : Vec F S3072x1024 .bf16) :
    let R := kernelRun0_B c i arg1 harg1 arg2 harg2 arg3 harg3 arg4 harg4 arg5 harg5 arg6 harg6 arg7 harg7 arg8 harg8 arg9 harg9 arg10 harg10
        arg11 harg11 arg12 harg12 arg13 harg13 hc0 x0 x1 x2 x3 x4 x5 x6 xs0
    R.1 = quarters (fun u => q0 (ldX harg1 x0 u) (ldC harg2 x1 0) (ldC harg2 x1 1) (ldG harg3 x2) (ldL harg5 x4) (ldP harg6 x5) (ldB
        harg7 x6) (View.readAt (Elt F) arg13.view (rowRect 0).toLoadRect (harg13.unread xs0))) (fun u => q1 (ldX harg1 x0 u) (ldC harg2 x1
        0) (ldC harg2 x1 1) (ldG harg3 x2) (ldL harg5 x4) (ldP harg6 x5) (ldB harg7 x6) (View.readAt (Elt F) arg13.view (rowRect
        0).toLoadRect (harg13.unread xs0)))
      ∧ R.2.1 = quarters (fun u => k0 (ldX harg1 x0 u) (ldC harg2 x1 0) (ldC harg2 x1 1) (ldG harg3 x2) (ldL harg5 x4) (ldP harg6 x5) (ldB
        harg7 x6) (View.readAt (Elt F) arg13.view (rowRect 1).toLoadRect (harg13.unread xs0))) (fun u => k1 (ldX harg1 x0 u) (ldC harg2 x1
        0) (ldC harg2 x1 1) (ldG harg3 x2) (ldL harg5 x4) (ldP harg6 x5) (ldB harg7 x6) (View.readAt (Elt F) arg13.view (rowRect
        1).toLoadRect (harg13.unread xs0)))
      ∧ R.2.2.1 = halves (fun u => k0_pay24 (hs (ldX harg1 x0 u) (ldC harg2 x1 0) (ldC harg2 x1 1) (ldG harg3 x2)) (View.readAt (Elt F)
        arg13.view (wideRect 1).toLoadRect (harg13.unread xs0)))
      ∧ R.2.2.2.1 = halves (fun u => k0_pay25 (hs (ldX harg1 x0 u) (ldC harg2 x1 0) (ldC harg2 x1 1) (ldG harg3 x2)) (View.readAt (Elt F)
        arg13.view (wideRect 2).toLoadRect (harg13.unread xs0)))
      ∧ R.2.2.2.2.1 = eighths (fun u => dec (ldX harg1 x0 u) (ldC harg2 x1 0) (ldC harg2 x1 1) (ldG harg3 x2) (ldL harg5 x4) (ldP harg6 x5)
        (ldB harg7 x6)) := by
  unfold kernelRun0_B
  dsimp only
  exact ⟨rfl, rfl, rfl, rfl, rfl⟩

end Cert.Kernel3Ideal.Gp

end
-- ==== Proof.GpMask.lean ====
/-
The third kernel's 0-1 matrices at an index.
-/
module

public import proofs.«01_k».proof.Proof.GpRun

@[expose] public section

noncomputable section

open scoped BigOperators

namespace Cert.Kernel3Ideal.Gp

open Cert.Kernel3Ideal Cert.Kernel3Ideal.Gen Idealize.ShloMosaic Idealize.ShloMosaic.TcCoe Idealize.SL.Sem

/-- The chunk of a row. -/
theorem rowChunk_apply (i j : Fin 256) : k0_pay5 (ix2 i j) = BitVec.ofNat 32 (i.val / 64) := by
  pointwise [k0_pay5]
  revert i
  decide +kernel

/-- The kernel's division by 64, rounded down, on the words of the numbers below 512. -/
theorem chunk_word (n : Fin 512) :
    Scalar.select (IntOp.andi (IntOp.cmpi .ne (IntOp.subi (BitVec.setWidth 32 (IntOp.cmpi .sgt (BitVec.ofNat 32 n.val) 0#32))
        (BitVec.setWidth 32 (IntOp.cmpi .slt (BitVec.ofNat 32 n.val) 0#32)))
        (Scalar.subi (Scalar.extui (Scalar.cmpi .sgt 64#32 0#32)) (Scalar.extui (Scalar.cmpi .slt 64#32 0#32))))
        (IntOp.cmpi .ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by
  revert n
  decide +kernel

/-- Whether two small numbers' words agree. -/
theorem eq_word (a b : ℕ) (ha : a < 512) (hb : b < 512) :
    IntOp.cmpi .eq (BitVec.ofNat 32 a) (BitVec.ofNat 32 b) = BitVec.ofBool (decide (a = b)) := by
  rw [WordCmp.cmpi_eq_eq_toNat, BitVec.toNat_ofNat, BitVec.toNat_ofNat, Nat.mod_eq_of_lt (by omega), Nat.mod_eq_of_lt (by omega)]

theorem tril_word (i k : ℕ) (hi : i < 256) (hk : k < 256) (a b : EReal) :
    Scalar.select (IntOp.andi (IntOp.cmpi .eq (BitVec.ofNat 32 (i / 64)) (BitVec.ofNat 32 (k / 64)))
      (IntOp.cmpi .sle (BitVec.ofNat 32 k) (BitVec.ofNat 32 i))) a b = if i / 64 = k / 64 ∧ k ≤ i then a else b := by
  rw [eq_word _ _ (by omega) (by omega), WordCmp.cmpi_sle_ofNat (by omega) (by omega)]
  by_cases h1 : i / 64 = k / 64 <;> by_cases h2 : k ≤ i <;> simp [h1, h2, Scalar.select, IntOp.andi]

/-- The lower triangles of the chunks, twice side by side. -/
theorem tril2_apply (i : Fin 256) (k : Fin 512) : tril2 (F := Ideal) (ix2 i k)
    = if i.val / 64 = k.val % 256 / 64 ∧ k.val % 256 ≤ i.val then 1 else 0 := by
  pointwise [tril2, k0_pay9, k0_pay6, k0_pay7, k0_pay8]
  split
  · rename_i h
    rw [rowChunk_apply, chunk_word k, tril_word _ _ i.isLt h, Nat.mod_eq_of_lt h]
  · rename_i h
    have e : k.val % 256 = k.val - 256 := by omega
    rw [rowChunk_apply, chunk_word ⟨k.val - 256, by omega⟩, tril_word i.val (k.val - 256) i.isLt (by omega), e]

/-- Which rows belong to chunk `i`. -/
theorem sel_apply (i : Fin 8) (k : Fin 512) : sel (F := Ideal) (ix2 i k) = if k.val / 64 = i.val then 1 else 0 := by
  pointwise [sel, k0_pay12, k0_pay11, k0_pay10]
  rw [chunk_word k, eq_word _ _ (by omega) (by omega)]
  by_cases h : k.val / 64 = i.val <;> simp [h, Scalar.select]

end Cert.Kernel3Ideal.Gp

end
-- ==== Proof.GpPoint.lean ====
/-
What a grid point of the third kernel computes, against the specification.
-/
module

public import proofs.«01_k».proof.Proof.GpMask
public import Idealize.ShloMosaic.Lib.Pipeline.CanonAppend
public import Idealize.ShloMosaic.Lib.Pipeline.ValueKit.Tiles

@[expose] public section

noncomputable section

open scoped BigOperators

namespace Cert.Kernel3Ideal.Gp

open Cert.Kernel3Ideal Cert.Kernel3Ideal.Gen Idealize.ShloMosaic Idealize.ShloMosaic.TcCoe Idealize.SL.Sem
open Cert.Spec (at2 at3 at2_at at3_at modul irms modulated proj softplus gate pre cum)

/-- The modulated rows at an index. -/
theorem hs_apply (x : Vec Ideal S512x1024 .f32) (sh sc : Vec Ideal S1x1x1024 .f32) (g : Vec Ideal S1x1024 .f32) (i : Fin 512) (d : Fin 1024) :
    hs x sh sc g (ix2 i d)
      = modul (x (ix2 i d)) (irms fun e => x (ix2 i e)) (g (ix2 0 d)) (sc (ix3 0 0 d)) (sh (ix3 0 0 d)) := by
  pointwise [hs, k0_pay13, k0_pay3, k0_pay4, modul, irms]

/-- The first factor's product at an index. -/
theorem lows_apply (x : Vec Ideal S512x1024 .f32) (sh sc : Vec Ideal S1x1x1024 .f32) (g : Vec Ideal S1x1024 .f32) (wl : Vec Ideal S128x1024 .bf16)
    (i : Fin 512) (j : Fin 128) : lows x sh sc g wl (ix2 i j) = ∑ d : Fin 1024, hs x sh sc g (ix2 i d) * wl (ix2 j d) := by
  show k0_pay14 _ _ _ _ _ _ _ = ∑ d : Fin 1024, k0_pay13 _ _ _ _ _ * _
  unfold k0_pay14
  generalize k0_pay13 (k0_pay3 sh) (k0_pay4 sc) x g = h
  pointwise
  split
  · rfl
  · rename_i hi
    have e : (⟨256 + (i.val - 256), by omega⟩ : Fin 512) = i := Fin.ext (by show 256 + (i.val - 256) = i.val; omega)
    exact Finset.sum_congr rfl fun d _ => congrArg (fun q => h (ix2 q d) * wl (ix2 j d)) e

/-- A gate at an index. -/
theorem gate_apply (lo : FVec Ideal S512x128 .bf16) (wp : FVec Ideal S128x512 .bf16) (b : Vec Ideal S1x512 .f32) (i l : Fin 512) :
    k0_pay18 lo wp b (ix2 i l) = gate ((∑ j : Fin 128, lo (ix2 i j) * wp (ix2 j l)) + b (ix2 0 l)) := by
  pointwise [k0_pay18]
  rw [if_neg (by simp)]
  unfold gate softplus
  simp only [zero_sub]
  rfl

theorem his_apply (lo : FVec Ideal S512x128 .bf16) (wp : FVec Ideal S128x512 .bf16) (b : Vec Ideal S1x512 .f32) (i l : Fin 512) :
    k0_pay19 lo wp b (ix2 i l) = k0_pay18 lo wp b (ix2 i l) := by
  unfold k0_pay19
  pointwise

theorem los_apply (lo : FVec Ideal S512x128 .bf16) (wp : FVec Ideal S128x512 .bf16) (b : Vec Ideal S1x512 .f32) (i l : Fin 512) :
    k0_pay20 lo wp b (ix2 i l) = k0_pay18 lo wp b (ix2 i l) - k0_pay18 lo wp b (ix2 i l) := by
  unfold k0_pay20
  pointwise [k0_pay19]

/-- The product with the triangles' columns, for the last 256 rows. -/
theorem b1_apply (T : FVec Ideal S256x512 .bf16) (hi lo : FVec Ideal S512x512 .bf16) (i : Fin 256) (l : Fin 512) :
    k0_pay23 T hi lo (ix2 i l) = (∑ j : Fin 256, T (ix2 i ⟨j.val, by omega⟩) * hi (ix2 ⟨256 + j.val, by omega⟩ l))
      + ∑ j : Fin 256, T (ix2 i ⟨256 + j.val, by omega⟩) * lo (ix2 ⟨256 + j.val, by omega⟩ l) := by
  pointwise [k0_pay23]

theorem b0_apply (T : FVec Ideal S256x512 .bf16) (lo : FVec Ideal S512x128 .bf16) (wp : FVec Ideal S128x512 .bf16) (b : Vec Ideal S1x512 .f32)
    (i : Fin 256) (l : Fin 512) :
    k0_pay22 T lo wp b (ix2 i l) = (∑ j : Fin 256, T (ix2 i ⟨j.val, by omega⟩) * k0_pay19 lo wp b (ix2 ⟨j.val, by omega⟩ l))
      + ∑ j : Fin 256, T (ix2 i ⟨256 + j.val, by omega⟩) * k0_pay20 lo wp b (ix2 ⟨j.val, by omega⟩ l) := by
  unfold k0_pay22
  generalize k0_pay19 lo wp b = hi
  generalize k0_pay20 lo wp b = lo
  pointwise

theorem dec_apply (T : FVec Ideal S8x512 .bf16) (lo : FVec Ideal S512x128 .bf16) (wp : FVec Ideal S128x512 .bf16) (b : Vec Ideal S1x512 .f32)
    (i : Fin 8) (l : Fin 512) :
    k0_pay21 T lo wp b (ix2 i l) = Ideal.exp ((∑ j : Fin 512, T (ix2 i j) * k0_pay19 lo wp b (ix2 j l))
      + ∑ j : Fin 512, T (ix2 i j) * k0_pay20 lo wp b (ix2 j l)) := by
  unfold k0_pay21
  generalize k0_pay19 lo wp b = hi
  generalize k0_pay20 lo wp b = lo
  pointwise

/-- The products with the transposed weights. -/
theorem pay16_apply (h : FVec Ideal S512x1024 .bf16) (w : Vec Ideal S512x1024 .bf16) (i l : Fin 512) :
    k0_pay16 h w (ix2 i l) = ∑ d : Fin 1024, h (ix2 i d) * w (ix2 l d) := by
  pointwise [k0_pay16]

theorem pay17_apply (h : FVec Ideal S512x1024 .bf16) (w : Vec Ideal S512x1024 .bf16) (i l : Fin 512) :
    k0_pay17 h w (ix2 i l) = ∑ d : Fin 1024, h (ix2 i d) * w (ix2 l d) := by
  pointwise [k0_pay17]

theorem pay24_apply (h : FVec Ideal S512x1024 .bf16) (w : Vec Ideal S1024x1024 .bf16) (i : Fin 512) (l : Fin 1024) :
    k0_pay24 h w (ix2 i l) = ∑ d : Fin 1024, h (ix2 i d) * w (ix2 l d) := by
  pointwise [k0_pay24]

theorem pay25_apply (h : FVec Ideal S512x1024 .bf16) (w : Vec Ideal S1024x1024 .bf16) (i : Fin 512) (l : Fin 1024) :
    k0_pay25 h w (ix2 i l) = ∑ d : Fin 1024, h (ix2 i d) * w (ix2 l d) := by
  pointwise [k0_pay25]

theorem pay26_apply (p : FVec Ideal S512x512 .f32) (b : FVec Ideal S256x512 .f32) (i : Fin 256) (l : Fin 512) :
    k0_pay26 p b (ix2 i l) = p (ix2 ⟨i.val, by omega⟩ l) * Ideal.ofBits .f32 0x3DB504F3#32 * Ideal.exp (b (ix2 i l)) := by
  pointwise [k0_pay26]

theorem pay27_apply (p : FVec Ideal S512x512 .f32) (b : FVec Ideal S256x512 .f32) (i : Fin 256) (l : Fin 512) :
    k0_pay27 p b (ix2 i l) = p (ix2 ⟨i.val, by omega⟩ l) * Ideal.exp (-b (ix2 i l)) := by
  pointwise [k0_pay27]
  rw [zero_sub]

theorem pay28_apply (T : FVec Ideal S256x512 .bf16) (p : FVec Ideal S512x512 .f32) (hi lo : FVec Ideal S512x512 .bf16) (i : Fin 256) (l : Fin 512) :
    k0_pay28 T p hi lo (ix2 i l)
      = p (ix2 ⟨256 + i.val, by omega⟩ l) * Ideal.ofBits .f32 0x3DB504F3#32 * Ideal.exp (k0_pay23 T hi lo (ix2 i l)) := by
  unfold k0_pay28
  generalize k0_pay23 T hi lo = b
  pointwise

theorem pay30_apply (p : FVec Ideal S512x512 .f32) (b : FVec Ideal S256x512 .f32) (i : Fin 256) (l : Fin 512) :
    k0_pay30 b (k0_pay29 p) (Scalar.ofBits .f32 0x00000000#32) (ix2 i l) = p (ix2 ⟨256 + i.val, by omega⟩ l) * Ideal.exp (-b (ix2 i l)) := by
  pointwise [k0_pay30, k0_pay29]
  rw [zero_sub]

/-! ## Half of a block's rows, against the specification -/

/-- What half of the rows read, from row `r0` on, is the specification's. -/
structure Rows (X G C W A B : ℕ → ℕ → EReal) (r0 : ℕ) (x : Vec Ideal S512x1024 .f32) (sh sc : Vec Ideal S1x1x1024 .f32) (g : Vec Ideal S1x1024 .f32)
    (wl : Vec Ideal S128x1024 .bf16) (wp : Vec Ideal S128x512 .bf16) (b : Vec Ideal S1x512 .f32) : Prop where
  al : r0 % 512 = 0
  x : ∀ i d, x (ix2 i d) = X (r0 + i.val) d.val
  sh : ∀ d, sh (ix3 0 0 d) = C (r0 / 2048) d.val
  sc : ∀ d, sc (ix3 0 0 d) = C (r0 / 2048) (1024 + d.val)
  g : ∀ d, g (ix2 0 d) = G 0 d.val
  wl : ∀ j d, j.val < 16 → wl (ix2 j d) = W d.val (3072 + j.val)
  wp : ∀ j l, wp (ix2 j l) = if j.val < 16 then A j.val l.val else 0
  b : ∀ l, b (ix2 0 l) = B 0 l.val

section
variable {X G C W A B : ℕ → ℕ → EReal} {r0 : ℕ} {x : Vec Ideal S512x1024 .f32} {sh sc : Vec Ideal S1x1x1024 .f32} {g : Vec Ideal S1x1024 .f32}
  {wl : Vec Ideal S128x1024 .bf16} {wp : Vec Ideal S128x512 .bf16} {b : Vec Ideal S1x512 .f32}

theorem hs_rows (h : Rows X G C W A B r0 x sh sc g wl wp b) (i : Fin 512) (d : Fin 1024) :
    hs x sh sc g (ix2 i d) = modulated X G C (r0 + i.val) d.val := by
  have al := h.al
  rw [hs_apply, h.sh, h.sc, h.g]
  simp only [h.x]
  unfold modulated
  rw [show (r0 + i.val) / 2048 = r0 / 2048 by omega]

theorem lows_rows (h : Rows X G C W A B r0 x sh sc g wl wp b) (i : Fin 512) (j : Fin 128) (hj : j.val < 16) :
    lows x sh sc g wl (ix2 i j) = proj X G C W 3072 (r0 + i.val) j.val := by
  rw [lows_apply]
  unfold proj
  exact Finset.sum_congr rfl fun d _ => by rw [hs_rows h, h.wl j d hj]

/-- Only the first 16 of 128 terms count. -/
theorem sum_first (f : ℕ → EReal) : ∑ j : Fin 128, (if j.val < 16 then f j.val else 0) = ∑ j : Fin 16, f j.val := by
  rw [Fin.sum_univ_eq_sum_range (fun j => if j < 16 then f j else 0) 128, Fin.sum_univ_eq_sum_range f 16, ← Finset.sum_filter]
  refine Finset.sum_congr ?_ fun _ _ => rfl
  ext j
  rw [Finset.mem_filter, Finset.mem_range, Finset.mem_range]
  omega

theorem gate_rows (h : Rows X G C W A B r0 x sh sc g wl wp b) (i l : Fin 512) :
    k0_pay18 (lows x sh sc g wl) (k0_pay15 wp) b (ix2 i l) = gate (pre X G C W A B (r0 + i.val) l.val) := by
  have hp : k0_pay15 wp = wp := by
    funext y
    rw [ValueIdx.eq_ix2 y]
    pointwise [k0_pay15]
  rw [hp, gate_apply, h.b]
  unfold pre
  rw [← sum_first fun j => proj X G C W 3072 (r0 + i.val) j * A j l.val]
  refine congrArg (fun t => gate (t + _)) (Finset.sum_congr rfl fun j _ => ?_)
  rw [h.wp]
  split
  · rename_i hj
    rw [lows_rows h i j hj]
  · exact mul_zero _

theorem his_rows (h : Rows X G C W A B r0 x sh sc g wl wp b) (i l : Fin 512) :
    his x sh sc g wl wp b (ix2 i l) = gate (pre X G C W A B (r0 + i.val) l.val) := by
  show k0_pay19 _ _ _ _ = _
  rw [his_apply, gate_rows h]

theorem los_rows (h : Rows X G C W A B r0 x sh sc g wl wp b) (i l : Fin 512) :
    los x sh sc g wl wp b (ix2 i l)
      = gate (pre X G C W A B (r0 + i.val) l.val) - gate (pre X G C W A B (r0 + i.val) l.val) := by
  show k0_pay20 _ _ _ _ = _
  rw [los_apply, gate_rows h]

/-- The triangles' product with the gates' rounding and rest is the running sum. -/
theorem tril_sum (X G C W A B : ℕ → ℕ → EReal) (q : ℕ) (hq : q % 64 = 0) (i : Fin 256) (l : ℕ) :
    (∑ j : Fin 256, tril2 (F := Ideal) (ix2 i ⟨j.val, by omega⟩) * gate (pre X G C W A B (q + j.val) l))
      + ∑ j : Fin 256, tril2 (F := Ideal) (ix2 i ⟨256 + j.val, by omega⟩)
          * (gate (pre X G C W A B (q + j.val) l) - gate (pre X G C W A B (q + j.val) l)) = cum X G C W A B (q + i.val) l := by
  have e0 (j : Fin 256) : tril2 (F := Ideal) (ix2 i ⟨j.val, by omega⟩) = if i.val / 64 = j.val / 64 ∧ j.val ≤ i.val then 1 else 0 := by
    rw [tril2_apply]
    show (if i.val / 64 = j.val % 256 / 64 ∧ j.val % 256 ≤ i.val then (1 : EReal) else 0) = _
    rw [Nat.mod_eq_of_lt j.isLt]
  have e1 (j : Fin 256) : tril2 (F := Ideal) (ix2 i ⟨256 + j.val, by omega⟩) = if i.val / 64 = j.val / 64 ∧ j.val ≤ i.val then 1 else 0 := by
    rw [tril2_apply]
    show (if i.val / 64 = (256 + j.val) % 256 / 64 ∧ (256 + j.val) % 256 ≤ i.val then (1 : EReal) else 0) = _
    rw [show (256 + j.val) % 256 = j.val by omega]
  simp only [e0, e1]
  rw [Cert.Spec.sum_split (fun j : Fin 256 => if i.val / 64 = j.val / 64 ∧ j.val ≤ i.val then (1 : EReal) else 0)
    (fun j => gate (pre X G C W A B (q + j.val) l)) (fun j => by split <;> simp) (fun j => Cert.Spec.gate_ne_top _),
    Cert.Spec.sum_tril i.val i.isLt fun j => gate (pre X G C W A B (q + j) l)]
  unfold cum
  rw [show (q + i.val) % 64 = i.val % 64 by omega]
  refine Finset.sum_congr rfl fun j _ => ?_
  rw [show q + (64 * (i.val / 64) + j) = 64 * ((q + i.val) / 64) + j by omega]

theorem b0_rows (h : Rows X G C W A B r0 x sh sc g wl wp b) (i : Fin 256) (l : Fin 512) :
    b0 x sh sc g wl wp b (ix2 i l) = cum X G C W A B (r0 + i.val) l.val := by
  have al := h.al
  rw [← tril_sum X G C W A B r0 (by omega) i l.val]
  show k0_pay22 _ _ _ _ _ = _
  rw [b0_apply]
  refine congrArg₂ (· + ·) (Finset.sum_congr rfl fun j _ => congrArg (_ * ·) (his_rows h ⟨j.val, _⟩ l))
    (Finset.sum_congr rfl fun j _ => congrArg (_ * ·) (los_rows h ⟨j.val, _⟩ l))

theorem b1_rows (h : Rows X G C W A B r0 x sh sc g wl wp b) (i : Fin 256) (l : Fin 512) :
    b1 x sh sc g wl wp b (ix2 i l) = cum X G C W A B (r0 + 256 + i.val) l.val := by
  have al := h.al
  rw [← tril_sum X G C W A B (r0 + 256) (by omega) i l.val]
  show k0_pay23 _ _ _ _ = _
  rw [b1_apply]
  refine congrArg₂ (· + ·) (Finset.sum_congr rfl fun j _ => congrArg (_ * ·) ?_) (Finset.sum_congr rfl fun j _ => congrArg (_ * ·) ?_)
  · rw [his_rows h, Nat.add_assoc]
  · rw [los_rows h, Nat.add_assoc]

theorem dec_rows (h : Rows X G C W A B r0 x sh sc g wl wp b) (i : Fin 8) (l : Fin 512) :
    dec x sh sc g wl wp b (ix2 i l) = Ideal.exp (cum X G C W A B (r0 + 64 * i.val + 63) l.val) := by
  have al := h.al
  show k0_pay21 _ _ _ _ _ = _
  rw [dec_apply]
  have e1 (j : Fin 512) : k0_pay19 (lows x sh sc g wl) (k0_pay15 wp) b (ix2 j l) = gate (pre X G C W A B (r0 + j.val) l.val) := his_rows h j l
  have e2 (j : Fin 512) : k0_pay20 (lows x sh sc g wl) (k0_pay15 wp) b (ix2 j l)
      = gate (pre X G C W A B (r0 + j.val) l.val) - gate (pre X G C W A B (r0 + j.val) l.val) := los_rows h j l
  simp only [sel_apply, e1, e2]
  rw [Cert.Spec.sum_split (fun j : Fin 512 => if j.val / 64 = i.val then (1 : EReal) else 0)
    (fun j => gate (pre X G C W A B (r0 + j.val) l.val)) (fun j => by split <;> simp) (fun j => Cert.Spec.gate_ne_top _),
    Cert.Spec.sum_sel i.val (by omega) fun j => gate (pre X G C W A B (r0 + j) l.val)]
  unfold cum
  rw [show (r0 + 64 * i.val + 63) % 64 + 1 = 64 by omega]
  refine congrArg Ideal.exp (Finset.sum_congr rfl fun j hj => ?_)
  rw [show r0 + (64 * i.val + j) = 64 * ((r0 + 64 * i.val + 63) / 64) + j by omega]

/-- A scaled product of a row, times the exponential of its running sum. -/
theorem q0_rows (h : Rows X G C W A B r0 x sh sc g wl wp b) (w : Vec Ideal S512x1024 .bf16) (o : ℕ)
    (hw : ∀ l d, w (ix2 l d) = W d.val (o + l.val)) (i : Fin 256) (l : Fin 512) :
    q0 x sh sc g wl wp b w (ix2 i l) = proj X G C W o (r0 + i.val) l.val * Ideal.ofBits .f32 0x3DB504F3#32
      * Ideal.exp (cum X G C W A B (r0 + i.val) l.val) := by
  show k0_pay26 _ _ _ = _
  rw [pay26_apply, b0_rows h, pay16_apply]
  unfold proj
  simp only [hs_rows h, hw]

theorem q1_rows (h : Rows X G C W A B r0 x sh sc g wl wp b) (w : Vec Ideal S512x1024 .bf16) (o : ℕ)
    (hw : ∀ l d, w (ix2 l d) = W d.val (o + l.val)) (i : Fin 256) (l : Fin 512) :
    q1 x sh sc g wl wp b w (ix2 i l) = proj X G C W o (r0 + 256 + i.val) l.val * Ideal.ofBits .f32 0x3DB504F3#32
      * Ideal.exp (cum X G C W A B (r0 + 256 + i.val) l.val) := by
  show k0_pay28 _ _ _ _ _ = _
  have hb : k0_pay23 tril2 (his x sh sc g wl wp b) (los x sh sc g wl wp b) (ix2 i l) = _ := b1_rows h i l
  rw [pay28_apply, hb, pay16_apply]
  unfold proj
  simp only [hs_rows h, hw, Nat.add_assoc]

/-- A product of a row, over the exponential of its running sum. -/
theorem k0_rows (h : Rows X G C W A B r0 x sh sc g wl wp b) (w : Vec Ideal S512x1024 .bf16) (o : ℕ)
    (hw : ∀ l d, w (ix2 l d) = W d.val (o + l.val)) (i : Fin 256) (l : Fin 512) :
    k0 x sh sc g wl wp b w (ix2 i l) = proj X G C W o (r0 + i.val) l.val * Ideal.exp (-cum X G C W A B (r0 + i.val) l.val) := by
  show k0_pay27 _ _ _ = _
  rw [pay27_apply, b0_rows h, pay17_apply]
  unfold proj
  simp only [hs_rows h, hw]

theorem k1_rows (h : Rows X G C W A B r0 x sh sc g wl wp b) (w : Vec Ideal S512x1024 .bf16) (o : ℕ)
    (hw : ∀ l d, w (ix2 l d) = W d.val (o + l.val)) (i : Fin 256) (l : Fin 512) :
    k1 x sh sc g wl wp b w (ix2 i l)
      = proj X G C W o (r0 + 256 + i.val) l.val * Ideal.exp (-cum X G C W A B (r0 + 256 + i.val) l.val) := by
  show k0_pay30 _ _ _ _ = _
  rw [pay30_apply, b1_rows h, pay17_apply]
  unfold proj
  simp only [hs_rows h, hw, Nat.add_assoc]

/-- A product of a row. -/
theorem v_rows (h : Rows X G C W A B r0 x sh sc g wl wp b) (w : Vec Ideal S1024x1024 .bf16) (o : ℕ)
    (hw : ∀ l d, w (ix2 l d) = W d.val (o + l.val)) (i : Fin 512) (l : Fin 1024) :
    k0_pay24 (hs x sh sc g) w (ix2 i l) = proj X G C W o (r0 + i.val) l.val := by
  rw [pay24_apply]
  unfold proj
  simp only [hs_rows h, hw]

theorem g_rows (h : Rows X G C W A B r0 x sh sc g wl wp b) (w : Vec Ideal S1024x1024 .bf16) (o : ℕ)
    (hw : ∀ l d, w (ix2 l d) = W d.val (o + l.val)) (i : Fin 512) (l : Fin 1024) :
    k0_pay25 (hs x sh sc g) w (ix2 i l) = proj X G C W o (r0 + i.val) l.val := by
  rw [pay25_apply]
  unfold proj
  simp only [hs_rows h, hw]

end

end Cert.Kernel3Ideal.Gp

end
-- ==== Proof.GpTile.lean ====
/-
The third kernel's blocks, assembled from their halves and quarters, and what its loads read.
-/
module

public import proofs.«01_k».proof.Proof.GpPoint

@[expose] public section

noncomputable section

open scoped BigOperators

namespace Cert.Kernel3Ideal.Gp

open Cert.Kernel3Ideal Cert.Kernel3Ideal.Gen Idealize.ShloMosaic Idealize.ShloMosaic.TcCoe Idealize.SL.Sem
open Cert.Spec (at2 at3 at2_at at3_at modul irms modulated proj softplus gate pre cum)

theorem zero2 : (![0, 0] : Fin 2 → ℕ) = fun _ => 0 := by decide

/-- A block written half by half, at an index. -/
theorem halves_apply (f : Fin 2 → Vec Ideal S512x1024 .bf16) (G : ℕ → ℕ → EReal)
    (hf : ∀ (u : Fin 2) (i : Fin 512) (l : Fin 1024), f u (ix2 i l) = G (512 * u + i) l) (r l : Fin 1024) :
    View.canon (halves f) (ix2 r l) = G r l := by
  have key (u : Fin 2) (x : (⟨2, ![512, 1024]⟩ : Shape).Idx) :
      f u x = G (((halfRect u).emb x) 0).val (((halfRect u).emb x) 1).val := by
    have e0 : (((halfRect u).emb x) 0).val = 512 * u.val + (x 0).val := Rect.idx_unit_val (s := S1024x1024) _ _ (inb_half u) x 0
    have e1 : (((halfRect u).emb x) 1).val = (x 1).val :=
      (Rect.idx_unit_val (s := S1024x1024) _ _ (inb_half u) x 1).trans (Nat.zero_add _)
    rw [e0, e1]
    exact (congrArg (f u) (ValueIdx.eq_ix2 x)).trans (hf u (x 0) (x 1))
  refine View.canon_apply_of_pieces (fun y : S1024x1024.Idx => G (y 0).val (y 1).val) (halves f) ?_ (ix2 r l) ?_
  · intro p hp x
    rcases List.mem_cons.mp hp with rfl | hp
    · exact key 1 x
    · rcases List.mem_cons.mp hp with rfl | hp
      · exact key 0 x
      · exact absurd hp (List.not_mem_nil)
  · have hm (u : Fin 2) (h0 : 512 * u.val ≤ r.val) (h1 : r.val < 512 * u.val + 512) : (ix2 r l : S1024x1024.Idx) ∈ (halfRect u).set := by
      refine (Rect.mem_set_unit (inb := inb_half _)).mpr fun x => ?_
      fin_cases x
      · exact ⟨h0, h1⟩
      · show 0 ≤ l.val ∧ l.val < 0 + 1024
        omega
    by_cases hr : r.val < 512
    · exact ⟨_, List.mem_cons_of_mem _ (List.mem_cons_self ..), hm 0 (Nat.zero_le _) hr⟩
    · exact ⟨_, List.mem_cons_self .., hm 1 (by show 512 * 1 ≤ _; omega) (by show _ < 512 * 1 + 512; omega)⟩

/-- A block of decays, at an index. -/
theorem eighths_apply (f : Fin 2 → Vec Ideal S8x512 .f32) (G : ℕ → ℕ → EReal)
    (hf : ∀ (u : Fin 2) (i : Fin 8) (l : Fin 512), f u (ix2 i l) = G (8 * u + i) l) (r : Fin 16) (l : Fin 512) :
    View.canon (eighths f) (ix2 r l) = G r l := by
  have key (u : Fin 2) (x : (⟨2, ![8, 512]⟩ : Shape).Idx) :
      f u x = G (((eighthRect u).emb x) 0).val (((eighthRect u).emb x) 1).val := by
    have e0 : (((eighthRect u).emb x) 0).val = 8 * u.val + (x 0).val := Rect.idx_unit_val (s := S16x512) _ _ (inb_eighth u) x 0
    have e1 : (((eighthRect u).emb x) 1).val = (x 1).val :=
      (Rect.idx_unit_val (s := S16x512) _ _ (inb_eighth u) x 1).trans (Nat.zero_add _)
    rw [e0, e1]
    exact (congrArg (f u) (ValueIdx.eq_ix2 x)).trans (hf u (x 0) (x 1))
  refine View.canon_apply_of_pieces (fun y : S16x512.Idx => G (y 0).val (y 1).val) (eighths f) ?_ (ix2 r l) ?_
  · intro p hp x
    rcases List.mem_cons.mp hp with rfl | hp
    · exact key 1 x
    · rcases List.mem_cons.mp hp with rfl | hp
      · exact key 0 x
      · exact absurd hp (List.not_mem_nil)
  · have hm (u : Fin 2) (h0 : 8 * u.val ≤ r.val) (h1 : r.val < 8 * u.val + 8) : (ix2 r l : S16x512.Idx) ∈ (eighthRect u).set := by
      refine (Rect.mem_set_unit (inb := inb_eighth _)).mpr fun x => ?_
      fin_cases x
      · exact ⟨h0, h1⟩
      · show 0 ≤ l.val ∧ l.val < 0 + 512
        omega
    by_cases hr : r.val < 8
    · exact ⟨_, List.mem_cons_of_mem _ (List.mem_cons_self ..), hm 0 (Nat.zero_le _) hr⟩
    · exact ⟨_, List.mem_cons_self .., hm 1 (by show 8 * 1 ≤ _; omega) (by show _ < 8 * 1 + 8; omega)⟩

/-- A block written quarter by quarter, at an index. -/
theorem quarters_apply (f g : Fin 2 → Vec Ideal S256x512 .bf16) (G : ℕ → ℕ → EReal)
    (hf : ∀ (u : Fin 2) (i : Fin 256) (l : Fin 512), f u (ix2 i l) = G (512 * u + i) l)
    (hg : ∀ (u : Fin 2) (i : Fin 256) (l : Fin 512), g u (ix2 i l) = G (512 * u + 256 + i) l) (r : Fin 1024) (l : Fin 512) :
    View.canon (quarters f g) (ix2 r l) = G r l := by
  have key (u s : Fin 2) (w : Vec Ideal S256x512 .bf16) (hw : ∀ (i : Fin 256) (l : Fin 512), w (ix2 i l) = G (512 * u + 256 * s + i) l)
      (x : (⟨2, ![256, 512]⟩ : Shape).Idx) : w x = G (((quarterRect u s).emb x) 0).val (((quarterRect u s).emb x) 1).val := by
    have e0 : (((quarterRect u s).emb x) 0).val = 512 * u.val + 256 * s.val + (x 0).val :=
      Rect.idx_unit_val (s := S1024x512) _ _ (inb_quarter u s) x 0
    have e1 : (((quarterRect u s).emb x) 1).val = (x 1).val :=
      (Rect.idx_unit_val (s := S1024x512) _ _ (inb_quarter u s) x 1).trans (Nat.zero_add _)
    rw [e0, e1]
    exact (congrArg w (ValueIdx.eq_ix2 x)).trans (hw (x 0) (x 1))
  refine View.canon_apply_of_pieces (fun y : S1024x512.Idx => G (y 0).val (y 1).val) (quarters f g) ?_ (ix2 r l) ?_
  · intro p hp x
    rcases List.mem_cons.mp hp with rfl | hp
    · exact key 1 1 _ (hg 1) x
    · rcases List.mem_cons.mp hp with rfl | hp
      · exact key 1 0 _ (hf 1) x
      · rcases List.mem_cons.mp hp with rfl | hp
        · exact key 0 1 _ (hg 0) x
        · rcases List.mem_cons.mp hp with rfl | hp
          · exact key 0 0 _ (hf 0) x
          · exact absurd hp (List.not_mem_nil)
  · have hm (u s : Fin 2) (h0 : 512 * u.val + 256 * s.val ≤ r.val) (h1 : r.val < 512 * u.val + 256 * s.val + 256) :
        (ix2 r l : S1024x512.Idx) ∈ (quarterRect u s).set := by
      refine (Rect.mem_set_unit (inb := inb_quarter _ _)).mpr fun x => ?_
      fin_cases x
      · exact ⟨h0, h1⟩
      · show 0 ≤ l.val ∧ l.val < 0 + 512
        omega
    by_cases h1 : r.val < 256
    · exact ⟨_, List.mem_cons_of_mem _ (List.mem_cons_of_mem _ (List.mem_cons_of_mem _ (List.mem_cons_self ..))),
        hm 0 0 (by show 512 * 0 + 256 * 0 ≤ _; omega) (by show _ < 512 * 0 + 256 * 0 + 256; omega)⟩
    · by_cases h2 : r.val < 512
      · exact ⟨_, List.mem_cons_of_mem _ (List.mem_cons_of_mem _ (List.mem_cons_self ..)),
          hm 0 1 (by show 512 * 0 + 256 * 1 ≤ _; omega) (by show _ < 512 * 0 + 256 * 1 + 256; omega)⟩
      · by_cases h3 : r.val < 768
        · exact ⟨_, List.mem_cons_of_mem _ (List.mem_cons_self ..),
            hm 1 0 (by show 512 * 1 + 256 * 0 ≤ _; omega) (by show _ < 512 * 1 + 256 * 0 + 256; omega)⟩
        · exact ⟨_, List.mem_cons_self ..,
            hm 1 1 (by show 512 * 1 + 256 * 1 ≤ _; omega) (by show _ < 512 * 1 + 256 * 1 + 256; omega)⟩

/-- The blocks of grid point `t` are the specification's arguments. -/
structure Blocks (X G C W A B : ℕ → ℕ → EReal) (t : ℕ) (x0 : Vec Ideal S1024x1024 .f32) (x1 : Vec Ideal S1x1x3072 .f32)
    (x2 : Vec Ideal S1x1024 .f32) (x3 : Vec Ideal S3088x1024 .f32) (x4 : Vec Ideal S128x1024 .bf16) (x5 : Vec Ideal S128x512 .bf16)
    (x6 : Vec Ideal S1x512 .f32) : Prop where
  x : ∀ r c, x0 (ix2 r c) = X (1024 * t + r.val) c.val
  c : ∀ c, x1 (ix3 0 0 c) = C (t / 2) c.val
  g : ∀ c, x2 (ix2 0 c) = G 0 c.val
  w : ∀ l d, x3 (ix2 l d) = W d.val l.val
  wl : ∀ j d, j.val < 16 → x4 (ix2 j d) = W d.val (3072 + j.val)
  wp : ∀ j l, x5 (ix2 j l) = if j.val < 16 then A j.val l.val else 0
  b : ∀ l, x6 (ix2 0 l) = B 0 l.val

/-- A half of the rows as its load finds it. -/
theorem ldX_apply {arg : Memref sig .tc .vmem S1024x1024 .f32} (harg : arg.IsWhole) (x : Vec Ideal S1024x1024 .f32) (u : Fin 2)
    (i : Fin 512) (d : Fin 1024) : ldX harg x u (ix2 i d) = x (ix2 ⟨512 * u.val + i.val, by omega⟩ d) := by
  rw [ldX, View.readAt_eq_ld, harg.read_unread]
  exact View.ld_unit_apply_of (S := S1024x1024) x _ _ (inb_half u) (ix2 i d) (ix2 ⟨512 * u.val + i.val, by omega⟩ d)
    fun x => by fin_cases x <;> simp

theorem ldC_apply {arg : Memref sig .tc .vmem S1x1x3072 .f32} (harg : arg.IsWhole) (x : Vec Ideal S1x1x3072 .f32) (u : Fin 2) (d : Fin 1024) :
    ldC harg x u (ix3 0 0 d) = x (ix3 0 0 ⟨1024 * u.val + d.val, by omega⟩) := by
  rw [ldC, View.readAt_eq_ld, harg.read_unread]
  exact View.ld_unit_apply_of (S := S1x1x3072) x _ _ (inb_cond u) (ix3 0 0 d) (ix3 0 0 ⟨1024 * u.val + d.val, by omega⟩)
    fun x => by fin_cases x <;> simp

theorem ldG_eq {arg : Memref sig .tc .vmem S1x1024 .f32} (harg : arg.IsWhole) (x : Vec Ideal S1x1024 .f32) : ldG harg x = x := by
  rw [ldG, View.readAt_eq_ld, harg.read_unread, View.ld_unit_zero (S := S1x1024) zero2]

theorem ldL_eq {arg : Memref sig .tc .vmem S128x1024 .bf16} (harg : arg.IsWhole) (x : Vec Ideal S128x1024 .bf16) : ldL harg x = x := by
  rw [ldL, View.readAt_eq_ld, harg.read_unread, View.ld_unit_zero (S := S128x1024) zero2]

theorem ldP_eq {arg : Memref sig .tc .vmem S128x512 .bf16} (harg : arg.IsWhole) (x : Vec Ideal S128x512 .bf16) : ldP harg x = x := by
  rw [ldP, View.readAt_eq_ld, harg.read_unread, View.ld_unit_zero (S := S128x512) zero2]

theorem ldB_eq {arg : Memref sig .tc .vmem S1x512 .f32} (harg : arg.IsWhole) (x : Vec Ideal S1x512 .f32) : ldB harg x = x := by
  rw [ldB, View.readAt_eq_ld, harg.read_unread, View.ld_unit_zero (S := S1x512) zero2]

variable {X G C W A B : ℕ → ℕ → EReal} {t : ℕ} {x0 : Vec Ideal S1024x1024 .f32} {x1 : Vec Ideal S1x1x3072 .f32}
  {x2 : Vec Ideal S1x1024 .f32} {x3 : Vec Ideal S3088x1024 .f32} {x4 : Vec Ideal S128x1024 .bf16} {x5 : Vec Ideal S128x512 .bf16}
  {x6 : Vec Ideal S1x512 .f32}

/-- What half `u` of the rows reads is the specification's from row `1024 t + 512 u` on. -/
theorem rows_of (hx : Blocks X G C W A B t x0 x1 x2 x3 x4 x5 x6) {arg1 : Memref sig .tc .vmem S1024x1024 .f32} (harg1 : arg1.IsWhole)
    {arg2 : Memref sig .tc .vmem S1x1x3072 .f32} (harg2 : arg2.IsWhole) {arg3 : Memref sig .tc .vmem S1x1024 .f32} (harg3 : arg3.IsWhole)
    {arg5 : Memref sig .tc .vmem S128x1024 .bf16} (harg5 : arg5.IsWhole) {arg6 : Memref sig .tc .vmem S128x512 .bf16} (harg6 : arg6.IsWhole)
    {arg7 : Memref sig .tc .vmem S1x512 .f32} (harg7 : arg7.IsWhole) (u : Fin 2) :
    Rows X G C W A B (1024 * t + 512 * u.val) (ldX harg1 x0 u) (ldC harg2 x1 0) (ldC harg2 x1 1) (ldG harg3 x2) (ldL harg5 x4)
      (ldP harg6 x5) (ldB harg7 x6) where
  al := by omega
  x i d := by rw [ldX_apply, hx.x, Nat.add_assoc]
  sh d := by
    rw [ldC_apply, hx.c, show (1024 * t + 512 * u.val) / 2048 = t / 2 by omega]
    exact congrArg (C (t / 2)) (by show 1024 * 0 + d.val = d.val; omega)
  sc d := by
    rw [ldC_apply, hx.c, show (1024 * t + 512 * u.val) / 2048 = t / 2 by omega]
    exact congrArg (C (t / 2)) (by show 1024 * 1 + d.val = 1024 + d.val; omega)
  g d := by rw [ldG_eq, hx.g]
  wl j d hj := by rw [ldL_eq, hx.wl j d hj]
  wp j l := by rw [ldP_eq, hx.wp]
  b l := by rw [ldB_eq, hx.b]

/-- The weights' copy holds the weights' first 3072 rows. -/
theorem copy_apply {arg : Memref sig .tc .vmem S3088x1024 .f32} (harg : arg.IsWhole) (w : Vec Ideal S3088x1024 .f32) (k : Fin 3072) (m : Fin 1024) :
    View.canon [copyPiece harg w] (ix2 k m) = w (ix2 ⟨k.val, by omega⟩ m) := by
  unfold copyPiece
  rw [View.canon_unit_zero (S := S3072x1024) zero2, View.readAt_eq_ld, harg.read_unread]
  have e : View.ld w (Rect.unit (s := S3088x1024) ![0, 0] S3072x1024.size inb_S3088x1024_S3072x1024_0_0) (ix2 k m)
      = w (ix2 ⟨k.val, by omega⟩ m) :=
    View.ld_unit_apply_of (S := S3088x1024) w _ _ inb_S3088x1024_S3072x1024_0_0 (ix2 k m) (ix2 ⟨k.val, by omega⟩ m)
      fun x => by fin_cases x <;> simp
  rw [← e]
  unfold k0_pay2
  pointwise

/-- A load of the queries or keys' weights from the copy that the point has just made. -/
theorem copied_row (arg13 : Memref sig .tc .vmem S3072x1024 .bf16) {arg : Memref sig .tc .vmem S3088x1024 .f32} (harg : arg.IsWhole)
    (w : Vec Ideal S3088x1024 .f32) (u : Fin 2) (k : Fin 512) (m : Fin 1024) :
    arg13.view.readCov [copyPiece harg w] (rowRect u).toLoadRect (ix2 k m) = w (ix2 ⟨512 * u.val + k.val, by omega⟩ m) := by
  rw [View.readCov_eq_canon']
  refine (congrArg (View.canon [copyPiece harg w]) (?_ : _ = ix2 ⟨512 * u.val + k.val, by omega⟩ m)).trans (copy_apply harg w _ _)
  funext x
  fin_cases x
  · exact Fin.ext (Rect.idx_unit_val (s := S3072x1024) _ _ (inb_row u) (ix2 k m) 0)
  · exact Fin.ext ((Rect.idx_unit_val (s := S3072x1024) _ _ (inb_row u) (ix2 k m) 1).trans (Nat.zero_add _))

/-- A load of the queries or keys' weights from the copy that an earlier point has made. -/
theorem kept_row {arg13 : Memref sig .tc .vmem S3072x1024 .bf16} (harg13 : arg13.IsWhole) (w : Vec Ideal S3072x1024 .bf16) (u : Fin 2)
    (k : Fin 512) (m : Fin 1024) :
    View.readAt (Elt Ideal) arg13.view (rowRect u).toLoadRect (harg13.unread w) (ix2 k m) = w (ix2 ⟨512 * u.val + k.val, by omega⟩ m) := by
  rw [View.readAt_eq_ld, harg13.read_unread]
  exact View.ld_unit_apply_of (S := S3072x1024) w _ _ (inb_row u) (ix2 k m) (ix2 ⟨512 * u.val + k.val, by omega⟩ m)
    fun x => by fin_cases x <;> simp

/-- A load of the values or gate' weights from the copy that the point has just made. -/
theorem copied_wide (arg13 : Memref sig .tc .vmem S3072x1024 .bf16) {arg : Memref sig .tc .vmem S3088x1024 .f32} (harg : arg.IsWhole)
    (w : Vec Ideal S3088x1024 .f32) (u : Fin 3) (k : Fin 1024) (m : Fin 1024) :
    arg13.view.readCov [copyPiece harg w] (wideRect u).toLoadRect (ix2 k m) = w (ix2 ⟨1024 * u.val + k.val, by omega⟩ m) := by
  rw [View.readCov_eq_canon']
  refine (congrArg (View.canon [copyPiece harg w]) (?_ : _ = ix2 ⟨1024 * u.val + k.val, by omega⟩ m)).trans (copy_apply harg w _ _)
  funext x
  fin_cases x
  · exact Fin.ext (Rect.idx_unit_val (s := S3072x1024) _ _ (inb_wide u) (ix2 k m) 0)
  · exact Fin.ext ((Rect.idx_unit_val (s := S3072x1024) _ _ (inb_wide u) (ix2 k m) 1).trans (Nat.zero_add _))

/-- A load of the values or gate' weights from the copy that an earlier point has made. -/
theorem kept_wide {arg13 : Memref sig .tc .vmem S3072x1024 .bf16} (harg13 : arg13.IsWhole) (w : Vec Ideal S3072x1024 .bf16) (u : Fin 3)
    (k : Fin 1024) (m : Fin 1024) :
    View.readAt (Elt Ideal) arg13.view (wideRect u).toLoadRect (harg13.unread w) (ix2 k m) = w (ix2 ⟨1024 * u.val + k.val, by omega⟩ m) := by
  rw [View.readAt_eq_ld, harg13.read_unread]
  exact View.ld_unit_apply_of (S := S3072x1024) w _ _ (inb_wide u) (ix2 k m) (ix2 ⟨1024 * u.val + k.val, by omega⟩ m)
    fun x => by fin_cases x <;> simp

end Cert.Kernel3Ideal.Gp

end
-- ==== Proof.GpFold.lean ====
/-
The third kernel's grid, point after point, against the specification.
-/
module

public import proofs.«01_k».proof.Proof.GpTile

@[expose] public section

noncomputable section

open scoped BigOperators

namespace Cert.Kernel3Ideal.Gp

open Cert.Kernel3Ideal Cert.Kernel3Ideal.Gen Idealize.ShloMosaic Idealize.ShloMosaic.TcCoe Idealize.SL.Sem
open Cert.Spec (at2 at3 at2_at at3_at at2_eq modul irms modulated proj softplus gate pre cum)

/-- What a point leaves: the five blocks, and the weights' copy. -/
abbrev Acc := Vec Ideal S1024x512 .bf16 × Vec Ideal S1024x512 .bf16 × Vec Ideal S1024x1024 .bf16 × Vec Ideal S1024x1024 .bf16
  × Vec Ideal S16x512 .f32 × Vec Ideal S3072x1024 .bf16

/-- A query: scaled, times the exponential of the gates' running sum. -/
def query (X G C W A B : ℕ → ℕ → EReal) (r l : ℕ) : EReal :=
  proj X G C W 0 r l * Ideal.ofBits .f32 0x3DB504F3#32 * Ideal.exp (cum X G C W A B r l)

/-- A key, over the exponential of the gates' running sum. -/
def key (X G C W A B : ℕ → ℕ → EReal) (r l : ℕ) : EReal := proj X G C W 512 r l * Ideal.exp (-cum X G C W A B r l)

/-- A chunk's decay: the exponential of the sum of its gates. -/
def decay (X G C W A B : ℕ → ℕ → EReal) (n l : ℕ) : EReal := Ideal.exp (cum X G C W A B (64 * n + 63) l)

/-- What holds after grid point `t`. -/
structure After (X G C W A B : ℕ → ℕ → EReal) (t : ℕ) (acc : Acc) : Prop where
  q : ∀ r l, acc.1 (ix2 r l) = query X G C W A B (1024 * t + r.val) l.val
  k : ∀ r l, acc.2.1 (ix2 r l) = key X G C W A B (1024 * t + r.val) l.val
  v : ∀ r l, acc.2.2.1 (ix2 r l) = proj X G C W 1024 (1024 * t + r.val) l.val
  g : ∀ r l, acc.2.2.2.1 (ix2 r l) = proj X G C W 2048 (1024 * t + r.val) l.val
  d : ∀ n l, acc.2.2.2.2.1 (ix2 n l) = decay X G C W A B (16 * t + n.val) l.val
  w : ∀ l d, acc.2.2.2.2.2 (ix2 l d) = W d.val l.val

/-! ## The blocks a point writes -/

section
variable {X G C W A B : ℕ → ℕ → EReal} {t : ℕ} {x : Fin 2 → Vec Ideal S512x1024 .f32} {sh sc : Vec Ideal S1x1x1024 .f32} {g : Vec Ideal S1x1024 .f32}
  {wl : Vec Ideal S128x1024 .bf16} {wp : Vec Ideal S128x512 .bf16} {b : Vec Ideal S1x512 .f32}

theorem blockq_apply (h : ∀ u : Fin 2, Rows X G C W A B (1024 * t + 512 * u.val) (x u) sh sc g wl wp b) (w : Vec Ideal S512x1024 .bf16)
    (hw : ∀ l d, w (ix2 l d) = W d.val (0 + l.val)) (r : Fin 1024) (l : Fin 512) :
    View.canon (quarters (fun u => q0 (x u) sh sc g wl wp b w) fun u => q1 (x u) sh sc g wl wp b w) (ix2 r l)
      = query X G C W A B (1024 * t + r.val) l.val :=
  quarters_apply _ _ (fun r l => query X G C W A B (1024 * t + r) l)
    (fun u i l => (q0_rows (h u) w 0 hw i l).trans (by unfold query; simp only [Nat.add_assoc]))
    (fun u i l => (q1_rows (h u) w 0 hw i l).trans (by unfold query; simp only [Nat.add_assoc])) r l

theorem blockk_apply (h : ∀ u : Fin 2, Rows X G C W A B (1024 * t + 512 * u.val) (x u) sh sc g wl wp b) (w : Vec Ideal S512x1024 .bf16)
    (hw : ∀ l d, w (ix2 l d) = W d.val (512 + l.val)) (r : Fin 1024) (l : Fin 512) :
    View.canon (quarters (fun u => k0 (x u) sh sc g wl wp b w) fun u => k1 (x u) sh sc g wl wp b w) (ix2 r l)
      = key X G C W A B (1024 * t + r.val) l.val :=
  quarters_apply _ _ (fun r l => key X G C W A B (1024 * t + r) l)
    (fun u i l => (k0_rows (h u) w 512 hw i l).trans (by unfold key; simp only [Nat.add_assoc]))
    (fun u i l => (k1_rows (h u) w 512 hw i l).trans (by unfold key; simp only [Nat.add_assoc])) r l

theorem blockv_apply (h : ∀ u : Fin 2, Rows X G C W A B (1024 * t + 512 * u.val) (x u) sh sc g wl wp b) (w : Vec Ideal S1024x1024 .bf16)
    (hw : ∀ l d, w (ix2 l d) = W d.val (1024 + l.val)) (r l : Fin 1024) :
    View.canon (halves fun u => k0_pay24 (hs (x u) sh sc g) w) (ix2 r l) = proj X G C W 1024 (1024 * t + r.val) l.val :=
  halves_apply _ (fun r l => proj X G C W 1024 (1024 * t + r) l)
    (fun u i l => (v_rows (h u) w 1024 hw i l).trans (by rw [Nat.add_assoc])) r l

theorem blockg_apply (h : ∀ u : Fin 2, Rows X G C W A B (1024 * t + 512 * u.val) (x u) sh sc g wl wp b) (w : Vec Ideal S1024x1024 .bf16)
    (hw : ∀ l d, w (ix2 l d) = W d.val (2048 + l.val)) (r l : Fin 1024) :
    View.canon (halves fun u => k0_pay25 (hs (x u) sh sc g) w) (ix2 r l) = proj X G C W 2048 (1024 * t + r.val) l.val :=
  halves_apply _ (fun r l => proj X G C W 2048 (1024 * t + r) l)
    (fun u i l => (g_rows (h u) w 2048 hw i l).trans (by rw [Nat.add_assoc])) r l

theorem blockd_apply (h : ∀ u : Fin 2, Rows X G C W A B (1024 * t + 512 * u.val) (x u) sh sc g wl wp b) (r : Fin 16) (l : Fin 512) :
    View.canon (eighths fun u => dec (x u) sh sc g wl wp b) (ix2 r l) = decay X G C W A B (16 * t + r.val) l.val :=
  eighths_apply _ (fun r l => decay X G C W A B (16 * t + r) l)
    (fun u i l => (dec_rows (h u) i l).trans (by
      unfold decay
      rw [show 1024 * t + 512 * u.val + 64 * i.val + 63 = 64 * (16 * t + (8 * u.val + i.val)) + 63 by omega])) r l

end

variable {X G C W A B : ℕ → ℕ → EReal} (m : (ℓ : Loc nD τ sig) → Buf (Elt Ideal) ℓ) (c : Dev nD)

/-- The blocks of point `t`, as the pipeline cuts them from the arguments, are the specification's. -/
abbrev Staged (X G C W A B : ℕ → ℕ → EReal) (t : Fin cfg0.N) : Prop :=
  Blocks X G C W A B t.val (iblk m c 0 t) (iblk m c 1 t) (iblk m c 2 t) (iblk m c 3 t) (iblk m c 4 t) (iblk m c 5 t) (iblk m c 6 t)

/-- The first point. -/
theorem after_A (t : Fin cfg0.N) (hx : Staged m c X G C W A B t) (acc : Acc) (h0 : t.val % 16 = 0) :
    After X G C W A B t.val (Value.stAt0 m c t.val t.isLt acc) := by
  rw [Value.stAt0_A m c t acc h0]
  constructor
  · intro r l
    dsimp only
    unfold out0_A_7
    rw [View.read_writes_junk_eq_canon, (run_A ..).1]
    exact blockq_apply (rows_of hx _ _ _ (hs0_4 t) (hs0_5 t) (hs0_6 t)) _ (fun l d => (copied_row _ _ _ 0 l d).trans (hx.w _ d)) r l
  · intro r l
    dsimp only
    unfold out0_A_8
    rw [View.read_writes_junk_eq_canon, (run_A ..).2.1]
    exact blockk_apply (rows_of hx _ _ _ (hs0_4 t) (hs0_5 t) (hs0_6 t)) _ (fun l d => (copied_row _ _ _ 1 l d).trans (hx.w _ d)) r l
  · intro r l
    dsimp only
    unfold out0_A_9
    rw [View.read_writes_junk_eq_canon, (run_A ..).2.2.1]
    exact blockv_apply (rows_of hx _ _ _ (hs0_4 t) (hs0_5 t) (hs0_6 t)) _ (fun l d => (copied_wide _ _ _ 1 l d).trans (hx.w _ d)) r l
  · intro r l
    dsimp only
    unfold out0_A_10
    rw [View.read_writes_junk_eq_canon, (run_A ..).2.2.2.1]
    exact blockg_apply (rows_of hx _ _ _ (hs0_4 t) (hs0_5 t) (hs0_6 t)) _ (fun l d => (copied_wide _ _ _ 2 l d).trans (hx.w _ d)) r l
  · intro r l
    dsimp only
    unfold out0_A_11
    rw [View.read_writes_junk_eq_canon, (run_A ..).2.2.2.2.1]
    exact blockd_apply (rows_of hx _ _ _ (hs0_4 t) (hs0_5 t) (hs0_6 t)) r l
  · intro l d
    dsimp only
    unfold sout0_A_0
    rw [View.read_writes_junk_eq_canon, (run_A ..).2.2.2.2.2]
    exact (copy_apply _ _ l d).trans (hx.w _ d)

/-- Every later point. -/
theorem after_B (t : Fin cfg0.N) (hx : Staged m c X G C W A B t) (acc : Acc) (h0 : ¬t.val % 16 = 0) (n : ℕ)
    (hacc : After X G C W A B n acc) : After X G C W A B t.val (Value.stAt0 m c t.val t.isLt acc) := by
  rw [Value.stAt0_B m c t acc h0]
  constructor
  · intro r l
    dsimp only
    unfold out0_B_7
    rw [View.read_writes_junk_eq_canon, (run_B ..).1]
    exact blockq_apply (rows_of hx _ _ _ (hs0_4 t) (hs0_5 t) (hs0_6 t)) _ (fun l d => (kept_row _ _ 0 l d).trans (hacc.w _ d)) r l
  · intro r l
    dsimp only
    unfold out0_B_8
    rw [View.read_writes_junk_eq_canon, (run_B ..).2.1]
    exact blockk_apply (rows_of hx _ _ _ (hs0_4 t) (hs0_5 t) (hs0_6 t)) _ (fun l d => (kept_row _ _ 1 l d).trans (hacc.w _ d)) r l
  · intro r l
    dsimp only
    unfold out0_B_9
    rw [View.read_writes_junk_eq_canon, (run_B ..).2.2.1]
    exact blockv_apply (rows_of hx _ _ _ (hs0_4 t) (hs0_5 t) (hs0_6 t)) _ (fun l d => (kept_wide _ _ 1 l d).trans (hacc.w _ d)) r l
  · intro r l
    dsimp only
    unfold out0_B_10
    rw [View.read_writes_junk_eq_canon, (run_B ..).2.2.2.1]
    exact blockg_apply (rows_of hx _ _ _ (hs0_4 t) (hs0_5 t) (hs0_6 t)) _ (fun l d => (kept_wide _ _ 2 l d).trans (hacc.w _ d)) r l
  · intro r l
    dsimp only
    unfold out0_B_11
    rw [View.read_writes_junk_eq_canon, (run_B ..).2.2.2.2]
    exact blockd_apply (rows_of hx _ _ _ (hs0_4 t) (hs0_5 t) (hs0_6 t)) r l
  · exact hacc.w

/-- After every point the specification's values hold. -/
theorem after (hx : ∀ t, Staged m c X G C W A B t) : ∀ (n : ℕ) (hn : 0 + n < cfg0.N),
    After X G C W A B n (Pipeline.accAt (fun n h => Value.stAt0 m c n h Value.junk0) (Value.stAt0 m c) 0 n hn)
  | 0, hn => after_A m c ⟨0, hn⟩ (hx _) _ rfl
  | n + 1, hn => by
    have ih := after hx n (Nat.lt_of_succ_lt hn)
    have hN : n + 1 < 16 := (Nat.zero_add _).symm.trans_lt (lt_of_lt_of_eq hn (show cfg0.N = 16 from N_0))
    have hn' : n + 1 < cfg0.N := by omega
    rw [Pipeline.accAt_succ]
    have e : ∀ j (hj : j < cfg0.N) acc, j = n + 1 → Value.stAt0 m c j hj acc = Value.stAt0 m c (n + 1) hn' acc := by
      intro j hj acc e; subst e; rfl
    rw [e _ _ _ (Nat.zero_add _)]
    exact after_B m c ⟨n + 1, hn'⟩ (hx _) _ (by show ¬(n + 1) % 16 = 0; omega) n ih

/-! ## The arguments' blocks -/

/-- The weights as the host code lays them out: transposed. -/
theorem V_w : V m c main_v0 = transpose S3088x1024 [1, 0] (m ((c : Thread nD τ).loc main_arg3)) transposes_S1024x3088_S3088x1024_1_0 := by
  unfold V
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

/-- The gates' first weights as the host code lays them out: 16 transposed columns, padded with rows of zeros. -/
theorem V_wl : V m c main_v3 = truncf (F := Ideal) .bf16 (pad S128x1024 ![0, 0] ![112, 0] ![0, 0]
    (extractStridedSlice S16x1024 ![3072, 0] (transpose S3088x1024 [1, 0] (m ((c : Thread nD τ).loc main_arg3)) transposes_S1024x3088_S3088x1024_1_0)
      slices_S3088x1024_S16x1024_3072_0) (sitofp .f32 (constantI S_ 32 0#32)) pads_S16x1024_S128x1024_01120_000 h_S_) bitsLt_bf16_f32 := by
  unfold V
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

/-- The gates' second weights as the host code lays them out: padded with rows of zeros. -/
theorem V_wp : V m c main_v5 = truncf (F := Ideal) .bf16 (pad S128x512 ![0, 0] ![112, 0] ![0, 0] (m ((c : Thread nD τ).loc main_arg4))
    (sitofp .f32 (constantI S_ 32 0#32)) pads_S16x512_S128x512_01120_000 h_S_) bitsLt_bf16_f32 := by
  unfold V
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

/-- A zero word converted is zero. -/
theorem zero_word : (FloatOps.sitofp (F := Ideal) .f32 0#32 : EReal) = 0 := by
  show ((BitVec.toInt (0#32) : ℝ) : EReal) = 0
  simp

theorem low_apply (w : Vec Ideal S1024x3088 .f32) (j : Fin 128) (d : Fin 1024) (hj : j.val < 16) :
    (truncf (F := Ideal) .bf16 (pad S128x1024 ![0, 0] ![112, 0] ![0, 0]
      (extractStridedSlice S16x1024 ![3072, 0] (transpose S3088x1024 [1, 0] w transposes_S1024x3088_S3088x1024_1_0)
        slices_S3088x1024_S16x1024_3072_0) (sitofp .f32 (constantI S_ 32 0#32)) pads_S16x1024_S128x1024_01120_000 h_S_) bitsLt_bf16_f32)
      (ix2 j d) = at2 w d (3072 + j.val) := by
  refine Eq.trans ?_ (at2_eq w (a := d) (b := ⟨3072 + j.val, by omega⟩) rfl rfl)
  pointwise
  rw [dif_pos hj]

theorem padded_apply (w : Vec Ideal S16x512 .f32) (j : Fin 128) (l : Fin 512) :
    (truncf (F := Ideal) .bf16 (pad S128x512 ![0, 0] ![112, 0] ![0, 0] w
      (sitofp .f32 (constantI S_ 32 0#32)) pads_S16x512_S128x512_01120_000 h_S_) bitsLt_bf16_f32) (ix2 j l)
      = if j.val < 16 then at2 w j l else 0 := by
  by_cases hj : j.val < 16
  · rw [if_pos hj]
    refine Eq.trans ?_ (at2_eq w (a := ⟨j.val, hj⟩) (b := l) rfl rfl)
    pointwise
    rw [dif_pos hj]
  · rw [if_neg hj]
    pointwise
    rw [dif_neg hj]
    exact zero_word

theorem V_w_apply (l : Fin 3088) (d : Fin 1024) : V m c main_v0 (ix2 l d) = at2 (m ((c : Thread nD τ).loc main_arg3)) d l := by
  rw [V_w]
  generalize m ((c : Thread nD τ).loc main_arg3) = w
  refine Eq.trans ?_ (at2_eq w (a := d) (b := l) rfl rfl)
  pointwise

theorem V_wl_apply (j : Fin 128) (d : Fin 1024) (hj : j.val < 16) :
    V m c main_v3 (ix2 j d) = at2 (m ((c : Thread nD τ).loc main_arg3)) d (3072 + j.val) := by
  rw [V_wl]
  exact low_apply _ j d hj

theorem V_wp_apply (j : Fin 128) (l : Fin 512) :
    V m c main_v5 (ix2 j l) = if j.val < 16 then at2 (m ((c : Thread nD τ).loc main_arg4)) j l else 0 := by
  rw [V_wp]
  exact padded_apply _ j l

/-- Where the windows stand at each point. -/
theorem index_facts : ∀ t : Fin cfg0.N,
    win0_0.index t 0 = t.val ∧ win0_0.index t 1 = 0 ∧ win0_1.index t 0 = t.val / 2 ∧ win0_1.index t 2 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0 :=
  (by decide +kernel : ∀ t : Fin grid0.N, _)

/-- Every window's block is its argument's at the window's place. -/
theorem staged (t : Fin cfg0.N) : Staged m c (at2 (m ((c : Thread nD τ).loc main_arg0))) (at2 (m ((c : Thread nD τ).loc main_arg2)))
    (at3 (m ((c : Thread nD τ).loc main_arg1))) (at2 (m ((c : Thread nD τ).loc main_arg3))) (at2 (m ((c : Thread nD τ).loc main_arg4)))
    (at2 (m ((c : Thread nD τ).loc main_arg5))) t := by
  obtain ⟨a0, b0, a1, b1, a2, b2, a3, b3, a4, b4, a5, b5, a6, b6⟩ := index_facts t
  constructor
  · intro r l
    unfold iblk
    rw [View.read_apply]
    refine at2_at (m ((c : Thread nD τ).loc main_arg0)) _ ?_ ?_
    · show win0_0.index t 0 * 1024 + 1 * r.val = _; rw [a0]; omega
    · show win0_0.index t 1 * 1024 + 1 * l.val = _; rw [b0]; omega
  · intro l
    unfold iblk
    rw [View.read_apply]
    refine at3_at (m ((c : Thread nD τ).loc main_arg1)) _ ?_ ?_
    · show win0_1.index t 0 * 1 + 1 * 0 = _; rw [a1]; omega
    · show win0_1.index t 2 * 3072 + 1 * l.val = _; rw [b1]; omega
  · intro l
    unfold iblk
    rw [View.read_apply]
    refine at2_at (m ((c : Thread nD τ).loc main_arg2)) _ ?_ ?_
    · show win0_2.index t 0 * 1 + 1 * 0 = _; rw [a2]
    · show win0_2.index t 1 * 1024 + 1 * l.val = _; rw [b2]; omega
  · intro l d
    unfold iblk
    rw [View.read_apply]
    refine Eq.trans (congrArg (V m c main_v0) (?_ : _ = ix2 l d)) (V_w_apply m c l d)
    funext x
    fin_cases x
    · refine Fin.ext ?_; show win0_3.index t 0 * 3088 + 1 * l.val = l.val; rw [a3]; omega
    · refine Fin.ext ?_; show win0_3.index t 1 * 1024 + 1 * d.val = d.val; rw [b3]; omega
  · intro j d hj
    unfold iblk
    rw [View.read_apply]
    refine Eq.trans (congrArg (V m c main_v3) (?_ : _ = ix2 j d)) (V_wl_apply m c j d hj)
    funext x
    fin_cases x
    · refine Fin.ext ?_; show win0_4.index t 0 * 128 + 1 * j.val = j.val; rw [a4]; omega
    · refine Fin.ext ?_; show win0_4.index t 1 * 1024 + 1 * d.val = d.val; rw [b4]; omega
  · intro j l
    unfold iblk
    rw [View.read_apply]
    refine Eq.trans (congrArg (V m c main_v5) (?_ : _ = ix2 j l)) (V_wp_apply m c j l)
    funext x
    fin_cases x
    · refine Fin.ext ?_; show win0_5.index t 0 * 128 + 1 * j.val = j.val; rw [a5]; omega
    · refine Fin.ext ?_; show win0_5.index t 1 * 512 + 1 * l.val = l.val; rw [b5]; omega
  · intro l
    unfold iblk
    rw [View.read_apply]
    refine at2_at (m ((c : Thread nD τ).loc main_arg5)) _ ?_ ?_
    · show win0_6.index t 0 * 1 + 1 * 0 = _; rw [a6]
    · show win0_6.index t 1 * 512 + 1 * l.val = _; rw [b6]; omega

/-- The kernel's queries are the specification's. -/
theorem q_apply (r : Fin 16384) (l : Fin 512) : Value.G7 m c (ix2 r l)
    = query (at2 (m ((c : Thread nD τ).loc main_arg0))) (at2 (m ((c : Thread nD τ).loc main_arg2))) (at3 (m ((c : Thread nD τ).loc main_arg1))) (at2 (m ((c : Thread nD τ).loc main_arg3))) (at2 (m ((c : Thread nD τ).loc main_arg4)))
        (at2 (m ((c : Thread nD τ).loc main_arg5))) r l := by
  have hr := r.isLt
  have hl := l.isLt
  have hp : Value.pt7Of (ix2 r l) = r.val / 1024 := by
    show 1 * (r.val / 1024 - 0) + 1 * (l.val / 512 - 0) = _
    omega
  have hN : Value.pt7Of (ix2 r l) < cfg0.N := by
    rw [hp, show cfg0.N = 16 from N_0]
    omega
  unfold Value.G7
  rw [dif_pos hN]
  have hloc : Value.loc7Of (ix2 r l) = ix2 ⟨r.val % 1024, by omega⟩ l := by
    funext x
    fin_cases x
    · rfl
    · exact Fin.ext (Nat.mod_eq_of_lt hl)
  rw [hloc]
  refine ((after m c (staged m c) _ (by omega)).q ⟨r.val % 1024, by omega⟩ l).trans ?_
  rw [hp]
  show query _ _ _ _ _ _ (1024 * (r.val / 1024) + r.val % 1024) _ = _
  rw [show 1024 * (r.val / 1024) + r.val % 1024 = r.val by omega]

/-- The kernel's keys are the specification's. -/
theorem k_apply (r : Fin 16384) (l : Fin 512) : Value.G8 m c (ix2 r l)
    = key (at2 (m ((c : Thread nD τ).loc main_arg0))) (at2 (m ((c : Thread nD τ).loc main_arg2))) (at3 (m ((c : Thread nD τ).loc main_arg1))) (at2 (m ((c : Thread nD τ).loc main_arg3))) (at2 (m ((c : Thread nD τ).loc main_arg4)))
        (at2 (m ((c : Thread nD τ).loc main_arg5))) r l := by
  have hr := r.isLt
  have hl := l.isLt
  have hp : Value.pt8Of (ix2 r l) = r.val / 1024 := by
    show 1 * (r.val / 1024 - 0) + 1 * (l.val / 512 - 0) = _
    omega
  have hN : Value.pt8Of (ix2 r l) < cfg0.N := by
    rw [hp, show cfg0.N = 16 from N_0]
    omega
  unfold Value.G8
  rw [dif_pos hN]
  have hloc : Value.loc8Of (ix2 r l) = ix2 ⟨r.val % 1024, by omega⟩ l := by
    funext x
    fin_cases x
    · rfl
    · exact Fin.ext (Nat.mod_eq_of_lt hl)
  rw [hloc]
  refine ((after m c (staged m c) _ (by omega)).k ⟨r.val % 1024, by omega⟩ l).trans ?_
  rw [hp]
  show key _ _ _ _ _ _ (1024 * (r.val / 1024) + r.val % 1024) _ = _
  rw [show 1024 * (r.val / 1024) + r.val % 1024 = r.val by omega]

/-- The kernel's values are the specification's. -/
theorem v_apply (r : Fin 16384) (l : Fin 1024) : Value.G9 m c (ix2 r l)
    = proj (at2 (m ((c : Thread nD τ).loc main_arg0))) (at2 (m ((c : Thread nD τ).loc main_arg2))) (at3 (m ((c : Thread nD τ).loc main_arg1))) (at2 (m ((c : Thread nD τ).loc main_arg3))) 1024 r l := by
  have hr := r.isLt
  have hl := l.isLt
  have hp : Value.pt9Of (ix2 r l) = r.val / 1024 := by
    show 1 * (r.val / 1024 - 0) + 1 * (l.val / 1024 - 0) = _
    omega
  have hN : Value.pt9Of (ix2 r l) < cfg0.N := by
    rw [hp, show cfg0.N = 16 from N_0]
    omega
  unfold Value.G9
  rw [dif_pos hN]
  have hloc : Value.loc9Of (ix2 r l) = ix2 ⟨r.val % 1024, by omega⟩ l := by
    funext x
    fin_cases x
    · rfl
    · exact Fin.ext (Nat.mod_eq_of_lt hl)
  rw [hloc]
  refine ((after m c (staged m c) _ (by omega)).v ⟨r.val % 1024, by omega⟩ l).trans ?_
  rw [hp]
  show proj _ _ _ _ _ (1024 * (r.val / 1024) + r.val % 1024) _ = _
  rw [show 1024 * (r.val / 1024) + r.val % 1024 = r.val by omega]

/-- The kernel's output gate are the specification's. -/
theorem g_apply (r : Fin 16384) (l : Fin 1024) : Value.G10 m c (ix2 r l)
    = proj (at2 (m ((c : Thread nD τ).loc main_arg0))) (at2 (m ((c : Thread nD τ).loc main_arg2))) (at3 (m ((c : Thread nD τ).loc main_arg1))) (at2 (m ((c : Thread nD τ).loc main_arg3))) 2048 r l := by
  have hr := r.isLt
  have hl := l.isLt
  have hp : Value.pt10Of (ix2 r l) = r.val / 1024 := by
    show 1 * (r.val / 1024 - 0) + 1 * (l.val / 1024 - 0) = _
    omega
  have hN : Value.pt10Of (ix2 r l) < cfg0.N := by
    rw [hp, show cfg0.N = 16 from N_0]
    omega
  unfold Value.G10
  rw [dif_pos hN]
  have hloc : Value.loc10Of (ix2 r l) = ix2 ⟨r.val % 1024, by omega⟩ l := by
    funext x
    fin_cases x
    · rfl
    · exact Fin.ext (Nat.mod_eq_of_lt hl)
  rw [hloc]
  refine ((after m c (staged m c) _ (by omega)).g ⟨r.val % 1024, by omega⟩ l).trans ?_
  rw [hp]
  show proj _ _ _ _ _ (1024 * (r.val / 1024) + r.val % 1024) _ = _
  rw [show 1024 * (r.val / 1024) + r.val % 1024 = r.val by omega]

/-- The kernel's chunk decays are the specification's. -/
theorem d_apply (r : Fin 256) (l : Fin 512) : Value.G11 m c (ix2 r l)
    = decay (at2 (m ((c : Thread nD τ).loc main_arg0))) (at2 (m ((c : Thread nD τ).loc main_arg2))) (at3 (m ((c : Thread nD τ).loc main_arg1))) (at2 (m ((c : Thread nD τ).loc main_arg3))) (at2 (m ((c : Thread nD τ).loc main_arg4)))
        (at2 (m ((c : Thread nD τ).loc main_arg5))) r l := by
  have hr := r.isLt
  have hl := l.isLt
  have hp : Value.pt11Of (ix2 r l) = r.val / 16 := by
    show 1 * (r.val / 16 - 0) + 1 * (l.val / 512 - 0) = _
    omega
  have hN : Value.pt11Of (ix2 r l) < cfg0.N := by
    rw [hp, show cfg0.N = 16 from N_0]
    omega
  unfold Value.G11
  rw [dif_pos hN]
  have hloc : Value.loc11Of (ix2 r l) = ix2 ⟨r.val % 16, by omega⟩ l := by
    funext x
    fin_cases x
    · rfl
    · exact Fin.ext (Nat.mod_eq_of_lt hl)
  rw [hloc]
  refine ((after m c (staged m c) _ (by omega)).d ⟨r.val % 16, by omega⟩ l).trans ?_
  rw [hp]
  show decay _ _ _ _ _ _ (16 * (r.val / 16) + r.val % 16) _ = _
  rw [show 16 * (r.val / 16) + r.val % 16 = r.val by omega]

end Cert.Kernel3Ideal.Gp

end
-- ==== Proof.GpRef.lean ====
/-
The reference of the third kernel, read at an index.
-/
module

public import proofs.«01_k».proof.Proof.GpSpec
public import proofs.«01_k».proof.Proof.Gen.Reference3Ideal.Run
public import Idealize.ShloMosaic.Lib.Pipeline.Value

@[expose] public section

noncomputable section

open scoped BigOperators

namespace Cert.Reference3Ideal.Gp

open Cert.Reference3Ideal Cert.Reference3Ideal.Gen Idealize.ShloMosaic Idealize.SL.Sem
open Cert.Spec (at2 at3 at2_eq at3_eq modul irms modulated proj softplus gate pre cum)

variable {F : FTy → Type} [FloatOps F]

/-- An array, by shape. -/
abbrev Arr (F : FTy → Type) [FloatOps F] (s : Shape) (e : EltTy) := (⟨s, e⟩ : BufTy).Contents (Elt F)

/-- The rows over their root mean square. -/
def norms (x : Arr F S16384x1024 .f32) : Arr F S8x2048x1024 .f32 :=
  mulf (shapeCast _ x shapeCasts_S16384x1024_S8x2048x1024) (broadcastInDim S8x2048x1024 ![0, 1, 2] bcast_S8x2048x1_S8x2048x1024_0_1_2
    (Host.rsqrt (addf (Host.divf (broadcastInDim S8x2048x1 ![0, 1] bcast_S8x2048_S8x2048x1_0_1
      (Host.reduceAdd (mulf (shapeCast _ x shapeCasts_S16384x1024_S8x2048x1024) (shapeCast _ x shapeCasts_S16384x1024_S8x2048x1024))
        (constant S_ .f32 0x00000000#32) reducesTo_S8x2048x1024_S8x2048_d2 h_S_))
      (broadcastInDim S8x2048x1 ![] bcast_S_S8x2048x1 (constant S_ .f32 0x44800000#32)))
      (broadcastInDim S8x2048x1 ![] bcast_S_S8x2048x1 (constant S_ .f32 0x358637BD#32)))))

/-- The normalised rows with their gain, scale and shift. -/
def mods (n : Arr F S8x2048x1024 .f32) (g : Arr F S1x1024 .f32) (sc sh : Arr F S8x1x1024 .f32) : Arr F S8x2048x1024 .f32 :=
  addf (mulf (mulf n (broadcastInDim S8x2048x1024 ![0, 1, 2] bcast_S1x1x1024_S8x2048x1024_0_1_2
      (broadcastInDim S1x1x1024 ![1, 2] bcast_S1x1024_S1x1x1024_1_2 g)))
    (broadcastInDim S8x2048x1024 ![0, 1, 2] bcast_S8x1x1024_S8x2048x1024_0_1_2
      (addf (broadcastInDim S8x1x1024 ![] bcast_S_S8x1x1024 (constant S_ .f32 0x3F800000#32)) sc)))
    (broadcastInDim S8x2048x1024 ![0, 1, 2] bcast_S8x1x1024_S8x2048x1024_0_1_2 sh)

/-- The product with all the weights. -/
def prods (y : Arr F S8x2048x1024 .f32) (w : Arr F S1024x3088 .f32) : Arr F S8x2048x3088 .f32 :=
  Host.dotGeneral dot_S8x2048x1024_S1024x3088_S8x2048x3088_2_0_01_1_n_n none y w

/-- The gates before the logistic function: the last 16 columns times the second weights, with the bias. -/
def pres (p : Arr F S8x2048x3088 .f32) (a : Arr F S16x512 .f32) (b : Arr F S1x512 .f32) : Arr F S8x2048x512 .f32 :=
  addf (Host.dotGeneral dot_S8x2048x16_S16x512_S8x2048x512_2_0_01_1_n_n none
      (extractStridedSlice S8x2048x16 ![0, 0, 3072] p slices_S8x2048x3088_S8x2048x16_0_0_3072) a)
    (broadcastInDim S8x2048x512 ![0, 1, 2] bcast_S1x1x512_S8x2048x512_0_1_2 (broadcastInDim S1x1x512 ![1, 2] bcast_S1x512_S1x1x512_1_2 b))

/-- Zeros. -/
def zeros : Arr F S8x2048x512 .f32 := broadcastInDim S8x2048x512 ![] bcast_S_S8x2048x512 (constant S_ .f32 0x00000000#32)

/-- The softplus function, as a larger of two plus a logarithm. -/
def softs (z : Arr F S8x2048x512 .f32) : Arr F S8x2048x512 .f32 :=
  select (cmpf .une (subf z zeros) (subf z zeros)) (addf z zeros)
    (addf (maximumf z zeros) (Host.log1p (Host.exp (Host.negf (Host.absf (subf z zeros))))))

/-- The logarithm of the logistic function. -/
def logs (y : Arr F S8x2048x512 .f32) : Arr F S8x2048x512 .f32 := Host.negf (softs (Host.negf y))

/-- The gates, by chunks of 64 rows. -/
def gates (y : Arr F S8x2048x512 .f32) : Arr F S8x32x64x512 .f32 :=
  shapeCast _ (Host.divf (logs y)
    (broadcastInDim S8x2048x512 ![] bcast_S_S8x2048x512 (constant S_ .f32 0x41800000#32))) shapeCasts_S8x2048x512_S8x32x64x512

/-- The gates' running sums in each chunk. -/
def sums (g : Arr F S8x32x64x512 .f32) : Arr F S8x32x64x512 .f32 :=
  Host.reduceWindowAdd ![1, 1, 64, 1] ![1, 1, 1, 1] ![0, 0, 63, 0] ![0, 0, 0, 0] g
    (broadcastInDim S_ ![] bcast_S_S_ (constant S_ .f32 0x00000000#32)) reduceWindows_S8x32x64x512_S8x32x64x512_w1s1p0_0_w1s1p0_0_w64s1p63_0_w1s1p0_0 h_S_

/-- The chunks' decays. -/
def decays (s : Arr F S8x32x64x512 .f32) : Arr F S256x512 .f32 :=
  shapeCast _ (Host.exp (shapeCast _ (extractStridedSlice S8x32x1x512 ![0, 0, 63, 0] s slices_S8x32x64x512_S8x32x1x512_0_0_63_0)
    shapeCasts_S8x32x1x512_S8x32x512)) shapeCasts_S8x32x512_S256x512

/-- The queries: scaled, times the exponential of the running sums. -/
def queries (p : Arr F S8x2048x3088 .f32) (s : Arr F S8x32x64x512 .f32) : Arr F S16384x512 .bf16 :=
  truncf .bf16 (shapeCast _ (mulf (mulf (extractStridedSlice S8x2048x512 ![0, 0, 0] p slices_S8x2048x3088_S8x2048x512_0_0_0)
      (broadcastInDim S8x2048x512 ![] bcast_S_S8x2048x512 (constant S_ .f32 0x3DB504F3#32)))
    (Host.exp (shapeCast _ s shapeCasts_S8x32x64x512_S8x2048x512))) shapeCasts_S8x2048x512_S16384x512) bitsLt_bf16_f32

/-- The keys, times the exponential of the running sums' negatives. -/
def keys (p : Arr F S8x2048x3088 .f32) (s : Arr F S8x32x64x512 .f32) : Arr F S16384x512 .bf16 :=
  truncf .bf16 (shapeCast _ (mulf (extractStridedSlice S8x2048x512 ![0, 0, 512] p slices_S8x2048x3088_S8x2048x512_0_0_512)
    (Host.exp (Host.negf (shapeCast _ s shapeCasts_S8x32x64x512_S8x2048x512)))) shapeCasts_S8x2048x512_S16384x512) bitsLt_bf16_f32

/-- The values. -/
def values (p : Arr F S8x2048x3088 .f32) : Arr F S16384x1024 .bf16 :=
  truncf .bf16 (shapeCast _ (extractStridedSlice S8x2048x1024 ![0, 0, 1024] p slices_S8x2048x3088_S8x2048x1024_0_0_1024)
    shapeCasts_S8x2048x1024_S16384x1024) bitsLt_bf16_f32

/-- The output gate. -/
def outs (p : Arr F S8x2048x3088 .f32) : Arr F S16384x1024 .bf16 :=
  truncf .bf16 (shapeCast _ (extractStridedSlice S8x2048x1024 ![0, 0, 2048] p slices_S8x2048x3088_S8x2048x1024_0_0_2048)
    shapeCasts_S8x2048x1024_S16384x1024) bitsLt_bf16_f32

/-- All the products. -/
def bigs (a0 : Arr F S16384x1024 .f32) (a1 : Arr F S8x1x3072 .f32) (a2 : Arr F S1x1024 .f32) (a3 : Arr F S1024x3088 .f32) :
    Arr F S8x2048x3088 .f32 :=
  prods (mods (norms a0) a2 (extractStridedSlice S8x1x1024 ![0, 0, 1024] a1 slices_S8x1x3072_S8x1x1024_0_0_1024)
    (extractStridedSlice S8x1x1024 ![0, 0, 0] a1 slices_S8x1x3072_S8x1x1024_0_0_0)) a3

theorem norms_apply (x : Arr Ideal S16384x1024 .f32) (b : Fin 8) (s : Fin 2048) (d : Fin 1024) :
    norms x (ix3 b s d) = at2 x (2048 * b + s) d * irms fun e => at2 x (2048 * b + s) e := by
  have h (e : Fin 1024) : x (ix2 ⟨b.val * 2048 + s.val, by omega⟩ e) = at2 x (2048 * b + s) e :=
    at2_eq _ (by show b.val * 2048 + s.val = _; omega) rfl
  pointwise [norms, irms]
  simp only [h]

theorem mods_apply (n : Arr Ideal S8x2048x1024 .f32) (g : Arr Ideal S1x1024 .f32) (sc sh : Arr Ideal S8x1x1024 .f32)
    (b : Fin 8) (s : Fin 2048) (d : Fin 1024) :
    mods n g sc sh (ix3 b s d)
      = n (ix3 b s d) * g (ix2 0 d) * (1 + sc (ix3 b 0 d)) + sh (ix3 b 0 d) := by
  pointwise [mods]

theorem prods_apply (y : Arr Ideal S8x2048x1024 .f32) (w : Arr Ideal S1024x3088 .f32) (b : Fin 8) (s : Fin 2048) (l : Fin 3088) :
    prods y w (ix3 b s l) = ∑ d : Fin 1024, y (ix3 b s d) * w (ix2 d l) := by
  pointwise [prods]

theorem pres_apply (p : Arr Ideal S8x2048x3088 .f32) (a : Arr Ideal S16x512 .f32) (b : Arr Ideal S1x512 .f32) (n : Fin 8) (s : Fin 2048)
    (l : Fin 512) : pres p a b (ix3 n s l) = (∑ j : Fin 16, p (ix3 n s ⟨3072 + j.val, by omega⟩) * a (ix2 j l)) + b (ix2 0 l) := by
  pointwise [pres]

theorem softs_apply (z : Arr Ideal S8x2048x512 .f32) (b : Fin 8) (s : Fin 2048) (l : Fin 512) :
    softs z (ix3 b s l) = softplus (z (ix3 b s l)) := by
  pointwise [softs, zeros]
  rw [if_neg (by simp)]
  rfl

theorem logs_apply (y : Arr Ideal S8x2048x512 .f32) (b : Fin 8) (s : Fin 2048) (l : Fin 512) :
    logs y (ix3 b s l) = -softplus (-y (ix3 b s l)) := by
  show -softs (F := Ideal) (Host.negf (F := Ideal) (s := S8x2048x512) (φ := .f32) y) (ix3 b s l) = _
  rw [softs_apply]
  rfl

theorem gates_apply (y : Arr Ideal S8x2048x512 .f32) (b : Fin 8) (n : Fin 32) (i : Fin 64) (l : Fin 512) :
    gates y (ix4 b n i l) = gate (y (ix3 b ⟨n.val * 64 + i.val, by omega⟩ l)) := by
  have e := logs_apply y b ⟨n.val * 64 + i.val, by omega⟩ l
  unfold gates gate
  generalize logs y = u at e
  rw [← e, ← Cert.Spec.div_sixteen]
  pointwise

theorem foldl_add {ι : Type} (g : ι → EReal) : ∀ (L : List ι) (v : EReal), L.foldl (fun r n => r + g n) v = v + (L.map g).sum
  | [], v => by simp
  | a :: L, v => by rw [List.foldl_cons, foldl_add g L, List.map_cons, List.sum_cons, add_assoc]

/-- A sum over a window that ends at `i` is the sum up to `i`. -/
theorem sum_window (f : ℕ → EReal) (i : ℕ) (hi : i < 64) :
    (∑ n : Fin 64, if 63 ≤ i + n.val then f (i + n.val - 63) else 0) = ∑ j ∈ Finset.range (i + 1), f j := by
  rw [Fin.sum_univ_eq_sum_range (fun n => if 63 ≤ i + n then f (i + n - 63) else 0) 64, show 64 = (63 - i) + (i + 1) by omega,
    Finset.sum_range_add, Finset.sum_eq_zero (fun n hn => if_neg (by have := Finset.mem_range.mp hn; omega)), zero_add]
  refine Finset.sum_congr rfl fun j hj => ?_
  rw [if_pos (by omega)]
  exact congrArg f (by omega)

/-- The place in a window of 64. -/
theorem place : ∀ n : Fin (Shape.numel ⟨4, ![1, 1, 64, 1]⟩), ((Shape.rowMajor ⟨4, ![1, 1, 64, 1]⟩).symm n 2).val = n.val := by
  decide +kernel

/-- The running sums are sums over the chunk's rows so far. -/
theorem sums_apply (g : Arr Ideal S8x32x64x512 .f32) (b : Fin 8) (n : Fin 32) (i : Fin 64) (l : Fin 512) (f : ℕ → EReal)
    (hf : ∀ j : Fin 64, g (ix4 b n j l) = f j.val) : sums g (ix4 b n i l) = ∑ j ∈ Finset.range (i.val + 1), f j := by
  have hi := i.isLt
  rw [← sum_window f i.val hi]
  unfold sums
  show Host.reduceWindow (· + ·) ![1, 1, 64, 1] ![1, 1, 1, 1] ![0, 0, 63, 0] ![0, 0, 0, 0] g (fun _ => Ideal.ofBits .f32 0x00000000#32)
    reduceWindows_S8x32x64x512_S8x32x64x512_w1s1p0_0_w1s1p0_0_w64s1p63_0_w1s1p0_0 h_S_ _ = _
  unfold Host.reduceWindow
  refine (foldl_add _ _ _).trans ?_
  have hv : Ideal.ofBits .f32 0x00000000#32 = 0 := by simp
  dsimp only
  rw [hv, zero_add, ← Fin.sum_univ_def]
  refine Fintype.sum_equiv (finCongr (show Shape.numel ⟨4, ![1, 1, 64, 1]⟩ = 64 by decide +kernel)) _ _ fun w => ?_
  have p0 : ((Shape.rowMajor ⟨4, ![1, 1, 64, 1]⟩).symm w 0).val = 0 := Nat.lt_one_iff.mp ((Shape.rowMajor ⟨4, ![1, 1, 64, 1]⟩).symm w 0).isLt
  have p1 : ((Shape.rowMajor ⟨4, ![1, 1, 64, 1]⟩).symm w 1).val = 0 := Nat.lt_one_iff.mp ((Shape.rowMajor ⟨4, ![1, 1, 64, 1]⟩).symm w 1).isLt
  have p2 := place w
  have p3 : ((Shape.rowMajor ⟨4, ![1, 1, 64, 1]⟩).symm w 3).val = 0 := Nat.lt_one_iff.mp ((Shape.rowMajor ⟨4, ![1, 1, 64, 1]⟩).symm w 3).isLt
  have hw : w.val < 64 := (finCongr (show Shape.numel ⟨4, ![1, 1, 64, 1]⟩ = 64 by decide +kernel) w).isLt
  show _ = if 63 ≤ i.val + w.val then f (i.val + w.val - 63) else 0
  by_cases h : 63 ≤ i.val + w.val
  · rw [if_pos h, dif_pos]
    · refine Eq.trans (congrArg g (?_ : _ = ix4 b n ⟨i.val + w.val - 63, by omega⟩ l)) (hf _)
      funext a
      refine Fin.ext ?_
      fin_cases a
      · show b.val * 1 + ((Shape.rowMajor ⟨4, ![1, 1, 64, 1]⟩).symm w 0).val - 0 = b.val
        omega
      · show n.val * 1 + ((Shape.rowMajor ⟨4, ![1, 1, 64, 1]⟩).symm w 1).val - 0 = n.val
        omega
      · show i.val * 1 + ((Shape.rowMajor ⟨4, ![1, 1, 64, 1]⟩).symm w 2).val - 63 = i.val + w.val - 63
        omega
      · show l.val * 1 + ((Shape.rowMajor ⟨4, ![1, 1, 64, 1]⟩).symm w 3).val - 0 = l.val
        omega
    · intro a
      fin_cases a
      · show 0 ≤ b.val * 1 + ((Shape.rowMajor ⟨4, ![1, 1, 64, 1]⟩).symm w 0).val
          ∧ b.val * 1 + ((Shape.rowMajor ⟨4, ![1, 1, 64, 1]⟩).symm w 0).val - 0 < 8
        omega
      · show 0 ≤ n.val * 1 + ((Shape.rowMajor ⟨4, ![1, 1, 64, 1]⟩).symm w 1).val
          ∧ n.val * 1 + ((Shape.rowMajor ⟨4, ![1, 1, 64, 1]⟩).symm w 1).val - 0 < 32
        omega
      · show 63 ≤ i.val * 1 + ((Shape.rowMajor ⟨4, ![1, 1, 64, 1]⟩).symm w 2).val
          ∧ i.val * 1 + ((Shape.rowMajor ⟨4, ![1, 1, 64, 1]⟩).symm w 2).val - 63 < 64
        omega
      · show 0 ≤ l.val * 1 + ((Shape.rowMajor ⟨4, ![1, 1, 64, 1]⟩).symm w 3).val
          ∧ l.val * 1 + ((Shape.rowMajor ⟨4, ![1, 1, 64, 1]⟩).symm w 3).val - 0 < 512
        omega
  · rw [if_neg h, dif_neg]
    intro hin
    have h2 : 63 ≤ i.val * 1 + ((Shape.rowMajor ⟨4, ![1, 1, 64, 1]⟩).symm w 2).val := (hin 2).1
    omega

theorem decays_apply (s : Arr Ideal S8x32x64x512 .f32) (r : Fin 256) (l : Fin 512) :
    decays s (ix2 r l) = Ideal.exp (s (ix4 ⟨r.val / 32, by omega⟩ ⟨r.val % 32, by omega⟩ 63 l)) := by
  pointwise [decays]

theorem queries_apply (p : Arr Ideal S8x2048x3088 .f32) (s : Arr Ideal S8x32x64x512 .f32) (r : Fin 16384) (l : Fin 512) :
    queries p s (ix2 r l) = p (ix3 ⟨r.val / 2048, by omega⟩ ⟨r.val % 2048, by omega⟩ ⟨l.val, by omega⟩) * Ideal.ofBits .f32 0x3DB504F3#32
      * Ideal.exp (s (ix4 ⟨r.val / 2048, by omega⟩ ⟨r.val % 2048 / 64, by omega⟩ ⟨r.val % 2048 % 64, by omega⟩ l)) := by
  pointwise [queries]

theorem keys_apply (p : Arr Ideal S8x2048x3088 .f32) (s : Arr Ideal S8x32x64x512 .f32) (r : Fin 16384) (l : Fin 512) :
    keys p s (ix2 r l) = p (ix3 ⟨r.val / 2048, by omega⟩ ⟨r.val % 2048, by omega⟩ ⟨512 + l.val, by omega⟩)
      * Ideal.exp (-s (ix4 ⟨r.val / 2048, by omega⟩ ⟨r.val % 2048 / 64, by omega⟩ ⟨r.val % 2048 % 64, by omega⟩ l)) := by
  pointwise [keys]

theorem values_apply (p : Arr Ideal S8x2048x3088 .f32) (r : Fin 16384) (l : Fin 1024) :
    values p (ix2 r l) = p (ix3 ⟨r.val / 2048, by omega⟩ ⟨r.val % 2048, by omega⟩ ⟨1024 + l.val, by omega⟩) := by
  pointwise [values]

theorem outs_apply (p : Arr Ideal S8x2048x3088 .f32) (r : Fin 16384) (l : Fin 1024) :
    outs p (ix2 r l) = p (ix3 ⟨r.val / 2048, by omega⟩ ⟨r.val % 2048, by omega⟩ ⟨2048 + l.val, by omega⟩) := by
  pointwise [outs]

section
variable (a0 : Arr Ideal S16384x1024 .f32) (a1 : Arr Ideal S8x1x3072 .f32) (a2 : Arr Ideal S1x1024 .f32) (a3 : Arr Ideal S1024x3088 .f32)
  (a4 : Arr Ideal S16x512 .f32) (a5 : Arr Ideal S1x512 .f32)

/-- The products are the specification's. -/
theorem bigs_apply (b : Fin 8) (s : Fin 2048) (o l c r : ℕ) (hc : c < 3088) (hl : c = o + l) (hr : 2048 * b.val + s.val = r) :
    bigs a0 a1 a2 a3 (ix3 b s ⟨c, hc⟩) = proj (at2 a0) (at2 a2) (at3 a1) (at2 a3) o r l := by
  have hsc (b : Fin 8) (d : Fin 1024) : extractStridedSlice S8x1x1024 ![0, 0, 1024] a1 slices_S8x1x3072_S8x1x1024_0_0_1024 (ix3 b 0 d)
      = at3 a1 b (1024 + d) := by
    pointwise
    exact at3_eq _ rfl rfl
  have hsh (b : Fin 8) (d : Fin 1024) : extractStridedSlice S8x1x1024 ![0, 0, 0] a1 slices_S8x1x3072_S8x1x1024_0_0_0 (ix3 b 0 d)
      = at3 a1 b d := by
    pointwise
    exact at3_eq _ rfl rfl
  unfold bigs proj modulated
  rw [prods_apply]
  refine Finset.sum_congr rfl fun d _ => ?_
  rw [mods_apply, norms_apply, hsc, hsh, at2_eq a3 (a := d) (b := ⟨c, hc⟩) rfl hl, at2_eq a2 (a := (0 : Fin 1)) (b := d) rfl rfl]
  rw [hr, show b.val = r / 2048 by omega]
  rfl

/-- The gates before the logistic function are the specification's. -/
theorem pres_spec (b : Fin 8) (s : Fin 2048) (l : Fin 512) (r : ℕ) (hr : 2048 * b.val + s.val = r) :
    pres (bigs a0 a1 a2 a3) a4 a5 (ix3 b s l) = pre (at2 a0) (at2 a2) (at3 a1) (at2 a3) (at2 a4) (at2 a5) r l := by
  rw [pres_apply]
  unfold pre
  rw [at2_eq a5 (a := (0 : Fin 1)) (b := l) rfl rfl]
  refine congrArg (· + _) (Finset.sum_congr rfl fun j _ => ?_)
  rw [bigs_apply a0 a1 a2 a3 b s 3072 j.val _ r _ rfl hr, at2_eq a4 (a := j) (b := l) rfl rfl]

/-- The running sums are the specification's. -/
theorem sums_spec (b : Fin 8) (n : Fin 32) (i : Fin 64) (l : Fin 512) (r : ℕ) (hr : 2048 * b.val + 64 * n.val + i.val = r) :
    sums (gates (pres (bigs a0 a1 a2 a3) a4 a5)) (ix4 b n i l) = cum (at2 a0) (at2 a2) (at3 a1) (at2 a3) (at2 a4) (at2 a5) r l := by
  have hi := i.isLt
  unfold cum
  rw [show r % 64 = i.val by omega]
  refine sums_apply _ b n i l (fun j => gate (pre (at2 a0) (at2 a2) (at3 a1) (at2 a3) (at2 a4) (at2 a5) (64 * (r / 64) + j) l)) fun j => ?_
  rw [gates_apply, pres_spec a0 a1 a2 a3 a4 a5 b _ l (64 * (r / 64) + j.val) (by show 2048 * b.val + (n.val * 64 + j.val) = _; omega)]

end

/-- The five results of the reference by stages. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      let p := bigs (m ((c.tc : Thread nD τ).loc main_arg0)) (m ((c.tc : Thread nD τ).loc main_arg1)) (m ((c.tc : Thread nD τ).loc main_arg2))
        (m ((c.tc : Thread nD τ).loc main_arg3))
      let s := sums (gates (pres p (m ((c.tc : Thread nD τ).loc main_arg4)) (m ((c.tc : Thread nD τ).loc main_arg5))))
      r.2.mem ((c.tc : Thread nD τ).loc main_v50) = queries p s
      ∧ r.2.mem ((c.tc : Thread nD τ).loc main_v52) = keys p s
      ∧ r.2.mem ((c.tc : Thread nD τ).loc main_v54) = values p
      ∧ r.2.mem ((c.tc : Thread nD τ).loc main_v56) = outs p
      ∧ r.2.mem ((c.tc : Thread nD τ).loc main_v40) = decays s
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

end Cert.Reference3Ideal.Gp

end
-- ==== Proof.GpAlgebra.lean ====
/-
The claims about the third kernel, from the two runs and the specification.
-/
module

public import proofs.«01_k».proof.Defs
public import proofs.«01_k».proof.Proof.GpFold
public import proofs.«01_k».proof.Proof.GpRef
public import Idealize.ShloMosaic.Lib.Quiescent
public import Idealize.ShloMosaic.Lib.Claim

@[expose] public section

noncomputable section

namespace Cert.GpAlgebra

open Idealize.ShloMosaic Idealize.SL.Sem

/-- Over the extended reals the kernel and the reference return the same queries, keys, values, output gate and chunk decays. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Value.G7 m c, fun c => Cert.Kernel3Ideal.Value.G8 m c, fun c => Cert.Kernel3Ideal.Value.G9 m c,
    fun c => Cert.Kernel3Ideal.Value.G10 m c, fun c => Cert.Kernel3Ideal.Value.G11 m c, Cert.Kernel3Ideal.Value.run m g, ?_⟩
  refine (θ_run Cert.Reference3Ideal.defs _ _).mono (fun r hr c => ?_) (Cert.Reference3Ideal.Gp.run_stages m' g')
  obtain ⟨h0, h1, h2, h3, h4, h5⟩ := hagree c
  obtain ⟨e0, e1, e2, e3, e4, e⟩ := hr c
  refine ⟨e0.trans ?_, e1.trans ?_, e2.trans ?_, e3.trans ?_, e4.trans ?_, e⟩
  · rw [h0, h1, h2, h3, h4, h5]
    funext i
    rw [ValueIdx.eq_ix2 i]
    refine ((Cert.Reference3Ideal.Gp.queries_apply _ _ (i 0) (i 1)).trans ?_).trans (Cert.Kernel3Ideal.Gp.q_apply m c (i 0) (i 1)).symm
    have hr : (i 0).val < 16384 := (i 0).isLt
    rw [Cert.Reference3Ideal.Gp.bigs_apply _ _ _ _ _ _ 0 (i 1).val _ (i 0).val _ (Nat.zero_add _).symm
        (by show 2048 * ((i 0).val / 2048) + (i 0).val % 2048 = _; omega),
      Cert.Reference3Ideal.Gp.sums_spec _ _ _ _ _ _ _ _ _ (i 1) (i 0).val
        (by show 2048 * ((i 0).val / 2048) + 64 * ((i 0).val % 2048 / 64) + (i 0).val % 2048 % 64 = _; omega)]
    rfl
  · rw [h0, h1, h2, h3, h4, h5]
    funext i
    rw [ValueIdx.eq_ix2 i]
    refine ((Cert.Reference3Ideal.Gp.keys_apply _ _ (i 0) (i 1)).trans ?_).trans (Cert.Kernel3Ideal.Gp.k_apply m c (i 0) (i 1)).symm
    have hr : (i 0).val < 16384 := (i 0).isLt
    rw [Cert.Reference3Ideal.Gp.bigs_apply _ _ _ _ _ _ 512 (i 1).val _ (i 0).val _ rfl
        (by show 2048 * ((i 0).val / 2048) + (i 0).val % 2048 = _; omega),
      Cert.Reference3Ideal.Gp.sums_spec _ _ _ _ _ _ _ _ _ (i 1) (i 0).val
        (by show 2048 * ((i 0).val / 2048) + 64 * ((i 0).val % 2048 / 64) + (i 0).val % 2048 % 64 = _; omega)]
    rfl
  · rw [h0, h1, h2, h3]
    funext i
    rw [ValueIdx.eq_ix2 i]
    have hr : (i 0).val < 16384 := (i 0).isLt
    exact ((Cert.Reference3Ideal.Gp.values_apply _ (i 0) (i 1)).trans
      (Cert.Reference3Ideal.Gp.bigs_apply _ _ _ _ _ _ 1024 (i 1).val _ (i 0).val _ rfl
        (by show 2048 * ((i 0).val / 2048) + (i 0).val % 2048 = _; omega))).trans
      (Cert.Kernel3Ideal.Gp.v_apply m c (i 0) (i 1)).symm
  · rw [h0, h1, h2, h3]
    funext i
    rw [ValueIdx.eq_ix2 i]
    have hr : (i 0).val < 16384 := (i 0).isLt
    exact ((Cert.Reference3Ideal.Gp.outs_apply _ (i 0) (i 1)).trans
      (Cert.Reference3Ideal.Gp.bigs_apply _ _ _ _ _ _ 2048 (i 1).val _ (i 0).val _ rfl
        (by show 2048 * ((i 0).val / 2048) + (i 0).val % 2048 = _; omega))).trans
      (Cert.Kernel3Ideal.Gp.g_apply m c (i 0) (i 1)).symm
  · rw [h0, h1, h2, h3, h4, h5]
    funext i
    rw [ValueIdx.eq_ix2 i]
    have hr : (i 0).val < 256 := (i 0).isLt
    refine ((Cert.Reference3Ideal.Gp.decays_apply _ (i 0) (i 1)).trans ?_).trans (Cert.Kernel3Ideal.Gp.d_apply m c (i 0) (i 1)).symm
    rw [Cert.Reference3Ideal.Gp.sums_spec _ _ _ _ _ _ _ _ _ (i 1) (64 * (i 0).val + 63)
        (by show 2048 * ((i 0).val / 32) + 64 * ((i 0).val % 32) + 63 = _; omega)]
    rfl

/-- The reference runs and leaves its arguments; it declares no semaphore. -/
theorem frame_reference : Cert.quiescent_Reference3Ideal (hReference3Ideal := Cert.Reference3Ideal.Gen.facts) := fun m g _ =>
  (θ_run Cert.Reference3Ideal.defs _ _).mono
    (fun r h => ⟨fun c => (h c).2.2.2.2.2, sem_eq_zero_of_no_sems (by decide) r.2⟩)
    (Cert.Reference3Ideal.Gp.run_stages (F := Ideal) m g)

end Cert.GpAlgebra

end
-- ==== Proof.OutSpec.lean ====
/-
What the last projection computes, over the extended reals and with natural numbers for indices: the attention's output times
the gate's silu, multiplied with the weights, scaled by the conditioning, added to the residual, and normalised.
-/
module

public import proofs.«01_k».proof.Proof.SpecRows

@[expose] public section

noncomputable section

open scoped BigOperators

namespace Cert.Spec

open Idealize.ShloMosaic

/-- The attention's output of row `r` at column `e`, gated. -/
def gated (O Y : ℕ → ℕ → EReal) (r e : ℕ) : EReal := O r e * (Y r e * Ideal.logistic (Y r e))

/-- The residual plus the scaled projection; the conditioning holds the scale from lane 2048 on. -/
def added (O Y X C W : ℕ → ℕ → EReal) (r d : ℕ) : EReal :=
  X r d + C (r / 2048) (2048 + d) * ∑ e : Fin 1024, gated O Y r e * W e d

/-- The result: the sum over its root mean square, times the gain. -/
def final (O Y X C G W : ℕ → ℕ → EReal) (r d : ℕ) : EReal :=
  added O Y X C W r d * irms (fun e => added O Y X C W r e) * G 0 d

end Cert.Spec

end
-- ==== Proof.OutPoint.lean ====
/-
The last kernel: gate, projection, residual and normalisation.  What a grid point reads and writes.
-/
module

public import proofs.«01_k».proof.Proof.OutSpec
public import proofs.«01_k».proof.Proof.Gen.Kernel4Ideal.Value
public import Idealize.ShloMosaic.Lib.Pipeline.CanonAppend
public import Idealize.ShloMosaic.Lib.Pipeline.ValueKit.Tiles

@[expose] public section

noncomputable section

open scoped BigOperators

namespace Cert.Kernel4Ideal.Out

open Cert.Kernel4Ideal Cert.Kernel4Ideal.Gen Idealize.ShloMosaic Idealize.ShloMosaic.TcCoe Idealize.SL.Sem
open Cert.Spec (irms gated added final)

theorem zero2 : (![0, 0] : Fin 2 → ℕ) = fun _ => 0 := by decide

section Run

variable {F : FTy → Type} [FloatOps F]

/-- The whole of a block. -/
abbrev wholeRect : Rect S1024x1024 := Rect.unit (s := S1024x1024) ![0, 0] S1024x1024.size inb_S1024x1024_S1024x1024_0_0

/-- The weights' copy. -/
abbrev copyPiece {arg : Memref sig .tc .vmem S1024x1024 .f32} (harg : arg.IsWhole) (w : Vec F S1024x1024 .f32) :
    View.Piece (Elt F) S1024x1024 .bf16 :=
  ⟨wholeRect, k0_pay1 (View.readAt (Elt F) arg.view wholeRect.toLoadRect (harg.unread w))⟩

/-- A whole block as its load finds it. -/
abbrev ld {e : EltTy} {arg : Memref sig .tc .vmem S1024x1024 e} (harg : arg.IsWhole) (x : Vec F S1024x1024 e) : Vec F S1024x1024 e :=
  View.readAt (Elt F) arg.view wholeRect.toLoadRect (harg.unread x)

/-- The third part of the conditioning as its load finds it. -/
abbrev ldC {arg : Memref sig .tc .vmem S1x1x3072 .f32} (harg : arg.IsWhole) (x : Vec F S1x1x3072 .f32) : Vec F S1x1x1024 .f32 :=
  View.readAt (Elt F) arg.view (Rect.unit (s := S1x1x3072) ![0, 0, 2048] S1x1x1024.size inb_S1x1x3072_S1x1x1024_0_0_2048).toLoadRect
    (harg.unread x)

/-- The gain as its load finds it. -/
abbrev ldG {arg : Memref sig .tc .vmem S1x1024 .f32} (harg : arg.IsWhole) (x : Vec F S1x1024 .f32) : Vec F S1x1024 .f32 :=
  View.readAt (Elt F) arg.view (Rect.unit (s := S1x1024) ![0, 0] S1x1024.size inb_S1x1024_S1x1024_0_0).toLoadRect (harg.unread x)

set_option maxRecDepth 100000 in
set_option maxHeartbeats 4000000 in
/-- What the body writes at the first point. -/
theorem run_A (c : Dev nD) (i : grid0.Coords) (arg1 : Memref sig .tc .vmem S1024x1024 .bf16) (harg1 : arg1.IsWhole)
    (arg2 : Memref sig .tc .vmem S1024x1024 .bf16) (harg2 : arg2.IsWhole) (arg3 : Memref sig .tc .vmem S1024x1024 .f32) (harg3 : arg3.IsWhole)
    (arg4 : Memref sig .tc .vmem S1x1x3072 .f32) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (arg8 : Memref sig .tc .vmem S1024x1024 .bf16) (harg8 : arg8.IsWhole) (hc0 : cond0_0 i)
    (x0 x1 : Vec F S1024x1024 .bf16) (x2 : Vec F S1024x1024 .f32) (x3 : Vec F S1x1x3072 .f32) (x4 : Vec F S1x1024 .f32)
    (x5 : Vec F S1024x1024 .f32) :
    let R := kernelRun0_A c i arg1 harg1 arg2 harg2 arg3 harg3 arg4 harg4 arg5 harg5 arg6 harg6 arg7 harg7 arg8 harg8 hc0 x0 x1 x2 x3 x4 x5
    R.1 = [⟨wholeRect, k0_pay2 (ldC harg4 x3) (ld harg1 x0) (ld harg2 x1) (ld harg3 x2)
        (arg8.view.readCov [copyPiece harg6 x5] wholeRect.toLoadRect) (ldG harg5 x4)⟩]
      ∧ R.2.val = [copyPiece harg6 x5] := by
  unfold kernelRun0_A
  dsimp only
  exact ⟨rfl, rfl⟩

set_option maxRecDepth 100000 in
set_option maxHeartbeats 4000000 in
/-- What the body writes at every later point. -/
theorem run_B (c : Dev nD) (i : grid0.Coords) (arg1 : Memref sig .tc .vmem S1024x1024 .bf16) (harg1 : arg1.IsWhole)
    (arg2 : Memref sig .tc .vmem S1024x1024 .bf16) (harg2 : arg2.IsWhole) (arg3 : Memref sig .tc .vmem S1024x1024 .f32) (harg3 : arg3.IsWhole)
    (arg4 : Memref sig .tc .vmem S1x1x3072 .f32) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (arg8 : Memref sig .tc .vmem S1024x1024 .bf16) (harg8 : arg8.IsWhole) (hc0 : ¬cond0_0 i)
    (x0 x1 : Vec F S1024x1024 .bf16) (x2 : Vec F S1024x1024 .f32) (x3 : Vec F S1x1x3072 .f32) (x4 : Vec F S1x1024 .f32)
    (x5 : Vec F S1024x1024 .f32) (xs0 : Vec F S1024x1024 .bf16) :
    (kernelRun0_B c i arg1 harg1 arg2 harg2 arg3 harg3 arg4 harg4 arg5 harg5 arg6 harg6 arg7 harg7 arg8 harg8 hc0 x0 x1 x2 x3 x4 x5 xs0).1
      = [⟨wholeRect, k0_pay2 (ldC harg4 x3) (ld harg1 x0) (ld harg2 x1) (ld harg3 x2) (ld harg8 xs0) (ldG harg5 x4)⟩] := by
  unfold kernelRun0_B
  rfl

end Run

/-! ## Over the extended reals -/

/-- The sum before the normalisation, from a point's loads. -/
def sums (cd : Vec Ideal S1x1x1024 .f32) (o y : Vec Ideal S1024x1024 .bf16) (x : Vec Ideal S1024x1024 .f32) (w : Vec Ideal S1024x1024 .bf16)
    (r d : Fin 1024) : EReal :=
  x (ix2 r d) + cd (ix3 0 0 d) * ∑ e : Fin 1024, (o (ix2 r e) * (y (ix2 r e) * Ideal.logistic (y (ix2 r e)))) * w (ix2 e d)

/-- What a point stores, at an index. -/
theorem store_apply (cd : Vec Ideal S1x1x1024 .f32) (o y : Vec Ideal S1024x1024 .bf16) (x : Vec Ideal S1024x1024 .f32)
    (w : Vec Ideal S1024x1024 .bf16) (g : Vec Ideal S1x1024 .f32) (r d : Fin 1024) :
    k0_pay2 cd o y x w g (ix2 r d) = sums cd o y x w r d * irms (fun e => sums cd o y x w r e) * g (ix2 0 d) := by
  pointwise [k0_pay2, sums, irms]

theorem ld_eq {e : EltTy} {arg : Memref sig .tc .vmem S1024x1024 e} (harg : arg.IsWhole) (x : Vec Ideal S1024x1024 e) : ld harg x = x := by
  rw [ld, View.readAt_eq_ld, harg.read_unread, View.ld_unit_zero (S := S1024x1024) zero2]

theorem ldG_eq {arg : Memref sig .tc .vmem S1x1024 .f32} (harg : arg.IsWhole) (x : Vec Ideal S1x1024 .f32) : ldG harg x = x := by
  rw [ldG, View.readAt_eq_ld, harg.read_unread, View.ld_unit_zero (S := S1x1024) zero2]

theorem ldC_apply {arg : Memref sig .tc .vmem S1x1x3072 .f32} (harg : arg.IsWhole) (x : Vec Ideal S1x1x3072 .f32) (d : Fin 1024) :
    ldC harg x (ix3 0 0 d) = x (ix3 0 0 ⟨2048 + d.val, by omega⟩) := by
  rw [ldC, View.readAt_eq_ld, harg.read_unread]
  exact View.ld_unit_apply_of (S := S1x1x3072) x _ _ inb_S1x1x3072_S1x1x1024_0_0_2048 (ix3 0 0 d) (ix3 0 0 ⟨2048 + d.val, by omega⟩)
    fun x => by fin_cases x <;> simp

/-- The weights' copy holds the weights. -/
theorem copy_apply {arg : Memref sig .tc .vmem S1024x1024 .f32} (harg : arg.IsWhole) (w : Vec Ideal S1024x1024 .f32) (k l : Fin 1024) :
    View.canon [copyPiece harg w] (ix2 k l) = w (ix2 k l) := by
  unfold copyPiece
  rw [View.canon_unit_zero (S := S1024x1024) zero2]
  show k0_pay1 (ld harg w) (ix2 k l) = _
  rw [ld_eq]
  unfold k0_pay1
  pointwise

/-- The load of the copy that the point has just made. -/
theorem copied_apply (arg8 : Memref sig .tc .vmem S1024x1024 .bf16) {arg : Memref sig .tc .vmem S1024x1024 .f32} (harg : arg.IsWhole)
    (w : Vec Ideal S1024x1024 .f32) (k l : Fin 1024) :
    arg8.view.readCov [copyPiece harg w] wholeRect.toLoadRect (ix2 k l) = w (ix2 k l) := by
  rw [View.readCov_eq_canon']
  refine (congrArg (View.canon [copyPiece harg w]) (?_ : _ = ix2 k l)).trans (copy_apply harg w _ _)
  funext x
  fin_cases x
  · exact Fin.ext ((Rect.idx_unit_val (s := S1024x1024) _ _ inb_S1024x1024_S1024x1024_0_0 (ix2 k l) 0).trans (Nat.zero_add _))
  · exact Fin.ext ((Rect.idx_unit_val (s := S1024x1024) _ _ inb_S1024x1024_S1024x1024_0_0 (ix2 k l) 1).trans (Nat.zero_add _))

/-- The blocks of grid point `t` are the specification's arguments. -/
structure Blocks (O Y X C G W : ℕ → ℕ → EReal) (t : ℕ) (x0 x1 : Vec Ideal S1024x1024 .bf16) (x2 : Vec Ideal S1024x1024 .f32)
    (x3 : Vec Ideal S1x1x3072 .f32) (x4 : Vec Ideal S1x1024 .f32) (x5 : Vec Ideal S1024x1024 .f32) : Prop where
  o : ∀ r c, x0 (ix2 r c) = O (1024 * t + r.val) c.val
  y : ∀ r c, x1 (ix2 r c) = Y (1024 * t + r.val) c.val
  x : ∀ r c, x2 (ix2 r c) = X (1024 * t + r.val) c.val
  c : ∀ c, x3 (ix3 0 0 c) = C (t / 2) c.val
  g : ∀ c, x4 (ix2 0 c) = G 0 c.val
  w : ∀ r c, x5 (ix2 r c) = W r.val c.val

/-- What a point stores is the specification's, when the weights it loads are. -/
theorem block_apply {O Y X C G W : ℕ → ℕ → EReal} {t : ℕ} {x0 x1 : Vec Ideal S1024x1024 .bf16} {x2 : Vec Ideal S1024x1024 .f32}
    {x3 : Vec Ideal S1x1x3072 .f32} {x4 : Vec Ideal S1x1024 .f32} {x5 : Vec Ideal S1024x1024 .f32}
    (hx : Blocks O Y X C G W t x0 x1 x2 x3 x4 x5)
    {arg1 : Memref sig .tc .vmem S1024x1024 .bf16} (harg1 : arg1.IsWhole)
    {arg2 : Memref sig .tc .vmem S1024x1024 .bf16} (harg2 : arg2.IsWhole) {arg3 : Memref sig .tc .vmem S1024x1024 .f32} (harg3 : arg3.IsWhole)
    {arg4 : Memref sig .tc .vmem S1x1x3072 .f32} (harg4 : arg4.IsWhole) {arg5 : Memref sig .tc .vmem S1x1024 .f32} (harg5 : arg5.IsWhole)
    (w : Vec Ideal S1024x1024 .bf16) (hw : ∀ k l, w (ix2 k l) = W k.val l.val) (r d : Fin 1024) :
    View.canon ([⟨wholeRect, k0_pay2 (ldC harg4 x3) (ld harg1 x0) (ld harg2 x1) (ld harg3 x2) w (ldG harg5 x4)⟩] :
        List (View.Piece (Elt Ideal) S1024x1024 .f32)) (ix2 r d)
      = final O Y X C G W (1024 * t + r.val) d.val := by
  rw [View.canon_unit_zero (S := S1024x1024) zero2]
  show k0_pay2 (ldC harg4 x3) (ld harg1 x0) (ld harg2 x1) (ld harg3 x2) w (ldG harg5 x4) (ix2 r d) = _
  have hs (d : Fin 1024) : sums (ldC harg4 x3) (ld harg1 x0) (ld harg2 x1) (ld harg3 x2) w r d = added O Y X C W (1024 * t + r.val) d.val := by
    unfold sums added gated
    rw [ldC_apply, ld_eq, ld_eq, ld_eq, hx.x, hx.c, show (1024 * t + r.val) / 2048 = t / 2 by omega]
    simp only [hx.o, hx.y, hw]
  rw [store_apply, ldG_eq, hx.g]
  simp only [hs]
  rfl

end Cert.Kernel4Ideal.Out

end
-- ==== Proof.OutFold.lean ====
/-
The last kernel's grid, point after point, against the specification.
-/
module

public import proofs.«01_k».proof.Proof.OutPoint

@[expose] public section

noncomputable section

open scoped BigOperators

namespace Cert.Kernel4Ideal.Out

open Cert.Kernel4Ideal Cert.Kernel4Ideal.Gen Idealize.ShloMosaic Idealize.ShloMosaic.TcCoe Idealize.SL.Sem
open Cert.Spec (at2 at3 at2_at at3_at final)

/-- What a point leaves: the block, and the copy of the weights. -/
abbrev Acc := Vec Ideal S1024x1024 .f32 × Vec Ideal S1024x1024 .bf16

/-- What holds after grid point `t`. -/
structure After (O Y X C G W : ℕ → ℕ → EReal) (t : ℕ) (acc : Acc) : Prop where
  out : ∀ r l, acc.1 (ix2 r l) = final O Y X C G W (1024 * t + r.val) l.val
  w : ∀ k l, acc.2 (ix2 k l) = W k.val l.val

variable {O Y X C G W : ℕ → ℕ → EReal} (m : (ℓ : Loc nD τ sig) → Buf (Elt Ideal) ℓ) (c : Dev nD)

/-- The blocks of point `t`, as the pipeline cuts them from the arguments, are the specification's. -/
abbrev Staged (O Y X C G W : ℕ → ℕ → EReal) (t : Fin cfg0.N) : Prop :=
  Blocks O Y X C G W t.val (iblk m c 0 t) (iblk m c 1 t) (iblk m c 2 t) (iblk m c 3 t) (iblk m c 4 t) (iblk m c 5 t)

/-- The first point. -/
theorem after_A (t : Fin cfg0.N) (hx : Staged m c O Y X C G W t) (acc : Acc) (h0 : t.val % 16 = 0) :
    After O Y X C G W t.val (Value.stAt0 m c t.val t.isLt acc) := by
  rw [Value.stAt0_A m c t acc h0]
  constructor
  · intro r l
    dsimp only
    unfold out0_A_6
    rw [View.read_writes_junk_eq_canon, (run_A ..).1]
    exact block_apply hx (hs0_0 t) (hs0_1 t) (hs0_2 t) (hs0_3 t) (hs0_4 t) _ (fun k l => (copied_apply _ _ _ k l).trans (hx.w k l)) r l
  · intro k l
    dsimp only
    unfold sout0_A_0
    rw [View.read_writes_junk_eq_canon, (run_A ..).2]
    exact (copy_apply _ _ k l).trans (hx.w k l)

/-- Every later point. -/
theorem after_B (t : Fin cfg0.N) (hx : Staged m c O Y X C G W t) (acc : Acc) (h0 : ¬t.val % 16 = 0) (n : ℕ)
    (hacc : After O Y X C G W n acc) : After O Y X C G W t.val (Value.stAt0 m c t.val t.isLt acc) := by
  rw [Value.stAt0_B m c t acc h0]
  constructor
  · intro r l
    dsimp only
    unfold out0_B_6
    rw [View.read_writes_junk_eq_canon, run_B]
    exact block_apply hx (hs0_0 t) (hs0_1 t) (hs0_2 t) (hs0_3 t) (hs0_4 t) _ (fun k l => (congrFun (ld_eq _ _) _).trans (hacc.w k l)) r l
  · exact hacc.w

/-- After every point the specification's values hold. -/
theorem after (hx : ∀ t, Staged m c O Y X C G W t) : ∀ (n : ℕ) (hn : 0 + n < cfg0.N),
    After O Y X C G W n (Pipeline.accAt (fun n h => Value.stAt0 m c n h Value.junk0) (Value.stAt0 m c) 0 n hn)
  | 0, hn => after_A m c ⟨0, hn⟩ (hx _) _ rfl
  | n + 1, hn => by
    have ih := after hx n (Nat.lt_of_succ_lt hn)
    have hN : n + 1 < 16 := (Nat.zero_add _).symm.trans_lt (lt_of_lt_of_eq hn (show cfg0.N = 16 from N_0))
    have hn' : n + 1 < cfg0.N := by omega
    rw [Pipeline.accAt_succ]
    have e : ∀ j (hj : j < cfg0.N) acc, j = n + 1 → Value.stAt0 m c j hj acc = Value.stAt0 m c (n + 1) hn' acc := by
      intro j hj acc e; subst e; rfl
    rw [e _ _ _ (Nat.zero_add _)]
    exact after_B m c ⟨n + 1, hn'⟩ (hx _) _ (by show ¬(n + 1) % 16 = 0; omega) n ih

/-! ## The arguments' blocks -/

/-- Where the windows stand at each point. -/
theorem index_facts : ∀ t : Fin cfg0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = t.val / 2 ∧ win0_3.index t 2 = 0
    ∧ win0_4.index t 0 = 0 ∧ win0_4.index t 1 = 0 ∧ win0_5.index t 0 = 0 ∧ win0_5.index t 1 = 0 :=
  (by decide +kernel : ∀ t : Fin grid0.N, _)

/-- Every window's block is its argument's at the window's place. -/
theorem staged (t : Fin cfg0.N) : Staged m c (at2 (m ((c : Thread nD τ).loc main_arg0))) (at2 (m ((c : Thread nD τ).loc main_arg1)))
    (at2 (m ((c : Thread nD τ).loc main_arg2))) (at3 (m ((c : Thread nD τ).loc main_arg3))) (at2 (m ((c : Thread nD τ).loc main_arg4)))
    (at2 (m ((c : Thread nD τ).loc main_arg5))) t := by
  obtain ⟨a0, b0, a1, b1, a2, b2, a3, b3, a4, b4, a5, b5⟩ := index_facts t
  constructor
  · intro r l
    unfold iblk
    rw [View.read_apply]
    refine at2_at (m ((c : Thread nD τ).loc main_arg0)) _ ?_ ?_
    · show win0_0.index t 0 * 1024 + 1 * r.val = _; rw [a0]; omega
    · show win0_0.index t 1 * 1024 + 1 * l.val = _; rw [b0]; omega
  · intro r l
    unfold iblk
    rw [View.read_apply]
    refine at2_at (m ((c : Thread nD τ).loc main_arg1)) _ ?_ ?_
    · show win0_1.index t 0 * 1024 + 1 * r.val = _; rw [a1]; omega
    · show win0_1.index t 1 * 1024 + 1 * l.val = _; rw [b1]; omega
  · intro r l
    unfold iblk
    rw [View.read_apply]
    refine at2_at (m ((c : Thread nD τ).loc main_arg2)) _ ?_ ?_
    · show win0_2.index t 0 * 1024 + 1 * r.val = _; rw [a2]; omega
    · show win0_2.index t 1 * 1024 + 1 * l.val = _; rw [b2]; omega
  · intro l
    unfold iblk
    rw [View.read_apply]
    refine at3_at (m ((c : Thread nD τ).loc main_arg3)) _ ?_ ?_
    · show win0_3.index t 0 * 1 + 1 * 0 = _; rw [a3]; omega
    · show win0_3.index t 2 * 3072 + 1 * l.val = _; rw [b3]; omega
  · intro l
    unfold iblk
    rw [View.read_apply]
    refine at2_at (m ((c : Thread nD τ).loc main_arg4)) _ ?_ ?_
    · show win0_4.index t 0 * 1 + 1 * 0 = _; rw [a4]
    · show win0_4.index t 1 * 1024 + 1 * l.val = _; rw [b4]; omega
  · intro r l
    unfold iblk
    rw [View.read_apply]
    refine at2_at (m ((c : Thread nD τ).loc main_arg5)) _ ?_ ?_
    · show win0_5.index t 0 * 1024 + 1 * r.val = _; rw [a5]; omega
    · show win0_5.index t 1 * 1024 + 1 * l.val = _; rw [b5]; omega

/-- The kernel's result is the specification's. -/
theorem out_apply (r : Fin 16384) (l : Fin 1024) : Value.G6 m c (ix2 r l)
    = final (at2 (m ((c : Thread nD τ).loc main_arg0))) (at2 (m ((c : Thread nD τ).loc main_arg1))) (at2 (m ((c : Thread nD τ).loc main_arg2)))
        (at3 (m ((c : Thread nD τ).loc main_arg3))) (at2 (m ((c : Thread nD τ).loc main_arg4))) (at2 (m ((c : Thread nD τ).loc main_arg5))) r l := by
  have hr := r.isLt
  have hl := l.isLt
  have hp : Value.pt6Of (ix2 r l) = r.val / 1024 := by
    show 1 * (r.val / 1024 - 0) + 1 * (l.val / 1024 - 0) = _
    omega
  have hN : Value.pt6Of (ix2 r l) < cfg0.N := by
    rw [hp, show cfg0.N = 16 from N_0]
    omega
  unfold Value.G6
  rw [dif_pos hN]
  have hloc : Value.loc6Of (ix2 r l) = ix2 ⟨r.val % 1024, by omega⟩ l := by
    funext x
    fin_cases x
    · rfl
    · exact Fin.ext (Nat.mod_eq_of_lt hl)
  rw [hloc]
  refine ((after m c (staged m c) _ (by omega)).out ⟨r.val % 1024, by omega⟩ l).trans ?_
  rw [hp]
  show final _ _ _ _ _ _ (1024 * (r.val / 1024) + r.val % 1024) _ = _
  rw [show 1024 * (r.val / 1024) + r.val % 1024 = r.val by omega]

end Cert.Kernel4Ideal.Out

end
-- ==== Proof.OutRef.lean ====
/-
The reference of the last kernel, read at an index.
-/
module

public import proofs.«01_k».proof.Proof.OutSpec
public import proofs.«01_k».proof.Proof.Gen.Reference4Ideal.Run
public import Idealize.ShloMosaic.Lib.Pipeline.Value

@[expose] public section

noncomputable section

open scoped BigOperators

namespace Cert.Reference4Ideal.Out

open Cert.Reference4Ideal Cert.Reference4Ideal.Gen Idealize.ShloMosaic Idealize.SL.Sem
open Cert.Spec (at2 at3 at2_eq at3_eq irms gated added final)

variable {F : FTy → Type} [FloatOps F]

/-- An array, by shape. -/
abbrev Arr (F : FTy → Type) [FloatOps F] (s : Shape) (e : EltTy) := (⟨s, e⟩ : BufTy).Contents (Elt F)

/-- The attention's output, gated. -/
def gates (o y : Arr F S16384x1024 .bf16) : Arr F S8x2048x1024 .f32 :=
  shapeCast _ (mulf (extf .f32 o bitsLt_bf16_f32) (mulf (extf .f32 y bitsLt_bf16_f32)
    (Host.divf (broadcastInDim S16384x1024 ![] bcast_S_S16384x1024 (constant S_ .f32 0x3F800000#32))
      (addf (broadcastInDim S16384x1024 ![] bcast_S_S16384x1024 (constant S_ .f32 0x3F800000#32))
        (Host.exp (Host.negf (extf .f32 y bitsLt_bf16_f32))))))) shapeCasts_S16384x1024_S8x2048x1024

/-- The residual plus the scaled projection. -/
def adds (p : Arr F S8x2048x1024 .f32) (x : Arr F S16384x1024 .f32) (cd : Arr F S8x1x3072 .f32) (w : Arr F S1024x1024 .f32) :
    Arr F S8x2048x1024 .f32 :=
  addf (shapeCast _ x shapeCasts_S16384x1024_S8x2048x1024) (mulf (broadcastInDim S8x2048x1024 ![0, 1, 2] bcast_S8x1x1024_S8x2048x1024_0_1_2
    (extractStridedSlice S8x1x1024 ![0, 0, 2048] cd slices_S8x1x3072_S8x1x1024_0_0_2048))
    (Host.dotGeneral dot_S8x2048x1024_S1024x1024_S8x2048x1024_2_0_01_1_n_n none p w))

/-- The rows over their root mean square, times the gain, laid out as rows. -/
def norms (z : Arr F S8x2048x1024 .f32) (g : Arr F S1x1024 .f32) : Arr F S16384x1024 .f32 :=
  shapeCast _ (mulf (mulf z (broadcastInDim S8x2048x1024 ![0, 1, 2] bcast_S8x2048x1_S8x2048x1024_0_1_2
    (Host.rsqrt (addf (Host.divf (broadcastInDim S8x2048x1 ![0, 1] bcast_S8x2048_S8x2048x1_0_1
      (Host.reduceAdd (mulf z z) (constant S_ .f32 0x00000000#32) reducesTo_S8x2048x1024_S8x2048_d2 h_S_))
      (broadcastInDim S8x2048x1 ![] bcast_S_S8x2048x1 (constant S_ .f32 0x44800000#32)))
      (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![1, 2] bcast_S1x1024_S1x1x1024_1_2 g))) shapeCasts_S8x2048x1024_S16384x1024

/-- The gated output is the specification's. -/
theorem gates_apply (o y : Arr Ideal S16384x1024 .bf16) (b : Fin 8) (s : Fin 2048) (e : Fin 1024) :
    gates o y (ix3 b s e) = gated (at2 o) (at2 y) (2048 * b + s) e := by
  have ho : o (ix2 ⟨b.val * 2048 + s.val, by omega⟩ e) = at2 o (2048 * b + s) e :=
    at2_eq _ (by show b.val * 2048 + s.val = _; omega) rfl
  have hy : y (ix2 ⟨b.val * 2048 + s.val, by omega⟩ e) = at2 y (2048 * b + s) e :=
    at2_eq _ (by show b.val * 2048 + s.val = _; omega) rfl
  pointwise [gates]
  rw [ho, hy]
  rfl

/-- The residual plus the projection is the specification's. -/
theorem adds_apply (o y : Arr Ideal S16384x1024 .bf16) (x : Arr Ideal S16384x1024 .f32) (cd : Arr Ideal S8x1x3072 .f32)
    (w : Arr Ideal S1024x1024 .f32) (b : Fin 8) (s : Fin 2048) (d : Fin 1024) :
    adds (gates o y) x cd w (ix3 b s d) = added (at2 o) (at2 y) (at2 x) (at3 cd) (at2 w) (2048 * b + s) d := by
  have key (p : Arr Ideal S8x2048x1024 .f32) : adds p x cd w (ix3 b s d)
      = x (ix2 ⟨b.val * 2048 + s.val, by omega⟩ d)
        + cd (ix3 b 0 ⟨2048 + d.val, by omega⟩) * ∑ e : Fin 1024, p (ix3 b s e) * w (ix2 e d) := by
    pointwise [adds]
  rw [key]
  unfold added
  refine congr (congrArg _ (at2_eq _ (by show b.val * 2048 + s.val = _; omega) rfl))
    (congr (congrArg _ (at3_eq _ (by show b.val = _; omega) rfl)) (Finset.sum_congr rfl fun e _ => ?_))
  rw [gates_apply, at2_eq w (a := e) (b := d) rfl rfl]

theorem norms_apply (z : Arr Ideal S8x2048x1024 .f32) (g : Arr Ideal S1x1024 .f32) (r : Fin 16384) (d : Fin 1024) :
    norms z g (ix2 r d) = z (ix3 ⟨r.val / 2048, by omega⟩ ⟨r.val % 2048, by omega⟩ d)
      * irms (fun e => z (ix3 ⟨r.val / 2048, by omega⟩ ⟨r.val % 2048, by omega⟩ e)) * g (ix2 0 d) := by
  pointwise [norms, irms]

/-- The reference's result is the specification's. -/
theorem result_apply (a0 a1 : Arr Ideal S16384x1024 .bf16) (a2 : Arr Ideal S16384x1024 .f32) (a3 : Arr Ideal S8x1x3072 .f32)
    (a4 : Arr Ideal S1x1024 .f32) (a5 : Arr Ideal S1024x1024 .f32) (r : Fin 16384) (d : Fin 1024) :
    norms (adds (gates a0 a1) a2 a3 a5) a4 (ix2 r d) = final (at2 a0) (at2 a1) (at2 a2) (at3 a3) (at2 a4) (at2 a5) r d := by
  have hr : 2048 * (r.val / 2048) + r.val % 2048 = r.val := by omega
  rw [norms_apply]
  unfold final
  simp only [adds_apply, hr]
  rw [at2_eq a4 (a := (0 : Fin 1)) (b := d) rfl rfl]
  rfl

/-- The result of the reference by stages. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
        = norms (adds (gates (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg5)))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

end Cert.Reference4Ideal.Out

end
-- ==== Proof.OutAlgebra.lean ====
/-
The claims about the last kernel, from the two runs and the specification.
-/
module

public import proofs.«01_k».proof.Defs
public import proofs.«01_k».proof.Proof.OutFold
public import proofs.«01_k».proof.Proof.OutRef
public import Idealize.ShloMosaic.Lib.Quiescent
public import Idealize.ShloMosaic.Lib.Claim

@[expose] public section

noncomputable section

namespace Cert.OutAlgebra

open Idealize.ShloMosaic Idealize.SL.Sem

/-- Over the extended reals the kernel and the reference return the same result. -/
theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Kernel4Ideal.Value.G6 m c, Cert.Kernel4Ideal.Value.run m g, ?_⟩
  refine (θ_run Cert.Reference4Ideal.defs _ _).mono (fun r hr c => ?_) (Cert.Reference4Ideal.Out.run_stages m' g')
  obtain ⟨h0, h1, h2, h3, h4, h5⟩ := hagree c
  obtain ⟨e0, e⟩ := hr c
  refine ⟨e0.trans ?_, e⟩
  rw [h0, h1, h2, h3, h4, h5]
  funext i
  rw [ValueIdx.eq_ix2 i]
  exact (Cert.Reference4Ideal.Out.result_apply _ _ _ _ _ _ (i 0) (i 1)).trans (Cert.Kernel4Ideal.Out.out_apply m c (i 0) (i 1)).symm

/-- The reference runs and leaves its arguments; it declares no semaphore. -/
theorem frame_reference : Cert.quiescent_Reference4Ideal (hReference4Ideal := Cert.Reference4Ideal.Gen.facts) := fun m g _ =>
  (θ_run Cert.Reference4Ideal.defs _ _).mono
    (fun r h => ⟨fun c => (h c).2, sem_eq_zero_of_no_sems (by decide) r.2⟩)
    (Cert.Reference4Ideal.Out.run_stages (F := Ideal) m g)

end Cert.OutAlgebra

end
-- ==== Proof.AdaSpec.lean ====
/-
What the conditioning products compute, over the extended reals: the silu of the conditioning vector times the weights of a
layer, plus that layer's bias.
-/
module

public import Idealize.ShloMosaic.Lib.Pointwise
public import Idealize.ShloMosaic.Lib.Pipeline.Value

@[expose] public section

noncomputable section

open scoped BigOperators

namespace Cert.Spec

open Idealize.ShloMosaic

/-- `x` times its logistic. -/
def silu (x : EReal) : EReal := x * Ideal.logistic x

/-- The conditioning of layer `l` for sequence `b` at column `n`. -/
def modulation (C : (⟨2, ![8, 1024]⟩ : Shape).Idx → EReal) (W : (⟨3, ![2, 1024, 3072]⟩ : Shape).Idx → EReal)
    (B : (⟨2, ![2, 3072]⟩ : Shape).Idx → EReal) (l : Fin 2) (b : Fin 8) (n : Fin 3072) : EReal :=
  (∑ d : Fin 1024, silu (C (ix2 b d)) * W (ix3 l d n)) + B (ix2 l n)

/-- The conditioning of the keys and values for sequence `b` at column `n`. -/
def modulationKv (C : (⟨2, ![8, 1024]⟩ : Shape).Idx → EReal) (W : (⟨2, ![1024, 2048]⟩ : Shape).Idx → EReal)
    (B : (⟨1, ![2048]⟩ : Shape).Idx → EReal) (b : Fin 8) (n : Fin 2048) : EReal :=
  (∑ d : Fin 1024, silu (C (ix2 b d)) * W (ix2 d n)) + B (ix1 n)

/-- Below infinity the silu is finite: at minus infinity it is 0. -/
theorem silu_real (x : EReal) (h : x ≠ ⊤) : ∃ r : ℝ, silu x = (r : EReal) := by
  induction x using EReal.rec with
  | bot =>
    refine ⟨0, ?_⟩
    show ⊥ * Ideal.div 1 (1 + Ideal.exp (-⊥)) = _
    have e : Ideal.div 1 (1 + Ideal.exp (-⊥)) = 0 := by
      rw [EReal.neg_bot]
      show Ideal.div 1 (1 + ⊤) = 0
      rw [EReal.add_top_of_ne_bot (by decide)]
      unfold Ideal.div
      rw [if_neg EReal.top_ne_zero, EReal.inv_top, mul_zero]
    rw [e, mul_zero]
    rfl
  | coe r =>
    refine ⟨r * (1 + Real.exp (-r))⁻¹, ?_⟩
    show (r : EReal) * Ideal.div 1 (1 + Ideal.exp (-(r : EReal))) = _
    have e : (1 : EReal) + Ideal.exp (-(r : EReal)) = ((1 + Real.exp (-r) : ℝ) : EReal) := by
      rw [← EReal.coe_neg, EReal.coe_add]
      rfl
    have hp : (1 + Real.exp (-r) : ℝ) ≠ 0 := by positivity
    rw [e]
    unfold Ideal.div
    rw [if_neg (by exact_mod_cast hp), one_mul, ← EReal.coe_inv, ← EReal.coe_mul]
  | top => exact absurd rfl h

/-- So the silu less itself is 0. -/
theorem silu_sub (x : EReal) (h : x ≠ ⊤) : silu x - silu x = 0 := by
  obtain ⟨r, e⟩ := silu_real x h
  rw [e, ← EReal.coe_sub, sub_self]
  rfl

end Cert.Spec

end
-- ==== Proof.AdaPoint.lean ====
/-
The conditioning products: what a grid point writes, and the array after the run.
-/
module

public import proofs.«01_k».proof.Proof.AdaSpec
public import proofs.«01_k».proof.Proof.Gen.Kernel5Ideal.Value

@[expose] public section

noncomputable section

open scoped BigOperators

namespace Cert.Kernel5Ideal.Ada

open Cert.Kernel5Ideal Cert.Kernel5Ideal.Gen Idealize.ShloMosaic Idealize.ShloMosaic.TcCoe Idealize.SL.Sem
open Cert.Spec (silu modulation silu_sub)

variable (m : (ℓ : Loc nD τ sig) → Buf (Elt Ideal) ℓ) (c : Dev nD)

theorem zero2 : (![0, 0] : Fin 2 → ℕ) = fun _ => 0 := by decide
theorem zero3 : (![0, 0, 0] : Fin 3 → ℕ) = fun _ => 0 := by decide

/-- The stored value: the product of the silu, the product of what its rounding left, and the bias. -/
theorem pay_raw (x0 : Vec Ideal S8x1024 .f32) (x1 : Vec Ideal S1x1024x1024 .f32) (x2 : Vec Ideal S1x1x1024 .f32) (b : Fin 8) (n : Fin 1024) :
    k0_pay1 x0 x1 x2 (ix3 0 b n) = (∑ d : Fin 1024, silu (x0 (ix2 b d)) * x1 (ix3 0 d n))
      + (∑ d : Fin 1024, (silu (x0 (ix2 b d)) - silu (x0 (ix2 b d))) * x1 (ix3 0 d n)) + x2 (ix3 0 0 n) := by
  pointwise [k0_pay1, silu]

/-- Below infinity the rounding leaves nothing. -/
theorem pay_apply (x0 : Vec Ideal S8x1024 .f32) (x1 : Vec Ideal S1x1024x1024 .f32) (x2 : Vec Ideal S1x1x1024 .f32) (b : Fin 8) (n : Fin 1024)
    (hx : ∀ d : Fin 1024, x0 (ix2 b d) ≠ ⊤) :
    k0_pay1 x0 x1 x2 (ix3 0 b n) = (∑ d : Fin 1024, silu (x0 (ix2 b d)) * x1 (ix3 0 d n)) + x2 (ix3 0 0 n) := by
  have e : (∑ d : Fin 1024, (silu (x0 (ix2 b d)) - silu (x0 (ix2 b d))) * x1 (ix3 0 d n)) = 0 :=
    Finset.sum_eq_zero fun d _ => by rw [silu_sub _ (hx d), zero_mul]
  rw [pay_raw, e, add_zero]

/-- The body's result for its blocks is the stored value. -/
theorem out_eq (x0 : Vec Ideal S8x1024 .f32) (x1 : Vec Ideal S1x1024x1024 .f32) (x2 : Vec Ideal S1x1x1024 .f32) :
    out0_3 x0 x1 x2 = k0_pay1 x0 x1 x2 := by
  unfold out0_3
  refine (View.canon_unit_zero (S := S1x8x1024) zero3 _ _).trans ?_
  rw [View.ld_unit_zero zero2, View.ld_unit_zero zero3, View.ld_unit_zero zero3]

/-- The bias as the host code lays it out: a row per layer. -/
theorem V_b : V m c main_v0 = shapeCast _ (m ((c : Thread nD τ).loc main_arg2)) shapeCasts_S2x3072_S2x1x3072 := by
  unfold V
  simp only [hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

theorem row_apply (x : Vec Ideal S2x3072 .f32) (l : Fin 2) (n : Fin 3072) :
    shapeCast S2x1x3072 x shapeCasts_S2x3072_S2x1x3072 (ix3 l 0 n) = x (ix2 l n) := by
  pointwise

/-- The blocks a point reads and writes. -/
theorem points : ∀ t : Fin cfg0.N, (cfg0.win 3).flush t = true
    ∧ win0_0.index t 0 = 0 ∧ win0_0.index t 1 = 0
    ∧ win0_1.index t 0 = t.val / 3 ∧ win0_1.index t 1 = 0 ∧ win0_1.index t 2 = t.val % 3
    ∧ win0_2.index t 0 = t.val / 3 ∧ win0_2.index t 1 = 0 ∧ win0_2.index t 2 = t.val % 3
    ∧ win0_3.index t 0 = t.val / 3 ∧ win0_3.index t 1 = 0 ∧ win0_3.index t 2 = t.val % 3 :=
  (by decide +kernel : ∀ t : Fin grid0.N, _)

/-- The array after the run is the specification's, where no entry of the vector is plus infinity. -/
theorem out_apply (hx : ∀ (b : Fin 8) (d : Fin 1024), ((m ((c : Thread nD τ).loc main_arg0) : Vec Ideal S8x1024 .f32) (ix2 b d) : EReal) ≠ (⊤ : EReal))
    (l : Fin 2) (b : Fin 8) (n : Fin 3072) :
    ((dats m 0 c).arrAt 3 cfg0.N : Vec Ideal S2x8x3072 .f32) (ix3 l b n)
      = modulation (m ((c : Thread nD τ).loc main_arg0)) (m ((c : Thread nD τ).loc main_arg1)) (m ((c : Thread nD τ).loc main_arg2)) l b n := by
  have ht : l.val * 3 + n.val / 1024 < cfg0.N := lt_of_lt_of_eq (by omega) N_0.symm
  obtain ⟨hf, a0, b0, a1, b1, c1, a2, b2, c2, a3, b3, c3⟩ := points ⟨l.val * 3 + n.val / 1024, ht⟩
  generalize ht' : (⟨l.val * 3 + n.val / 1024, ht⟩ : Fin cfg0.N) = t at *
  have hv : t.val = l.val * 3 + n.val / 1024 := by rw [← ht']
  have hq : t.val / 3 = l.val := by omega
  have hr : t.val % 3 = n.val / 1024 := by omega
  have e := congrFun ((Value.blocks3 m c t hf).trans (Value.flushed3 m c t)) (ix3 0 b ⟨n.val % 1024, by omega⟩)
  rw [View.read_apply] at e
  have he : ((cfg0.win 3).blk t).view.emb (ix3 0 b ⟨n.val % 1024, by omega⟩) = ix3 l b n := by
    funext x
    fin_cases x
    · refine Fin.ext ?_; show win0_3.index t 0 * 1 + 1 * 0 = l.val; rw [a3]; omega
    · refine Fin.ext ?_; show win0_3.index t 1 * 8 + 1 * b.val = b.val; rw [b3]; omega
    · refine Fin.ext ?_; show win0_3.index t 2 * 1024 + 1 * (n.val % 1024) = n.val; rw [c3]; omega
  rw [he] at e
  refine e.trans ?_
  have h0 : ∀ d : Fin 1024, (iblk m c 0 t : Vec Ideal S8x1024 .f32) (ix2 b d) = (m ((c : Thread nD τ).loc main_arg0) : Vec Ideal S8x1024 .f32) (ix2 b d) := by
    intro d
    unfold iblk
    rw [View.read_apply]
    refine (congrFun (V_main_arg0 m c) _).trans (congrArg (m ((c : Thread nD τ).loc main_arg0)) ?_)
    funext x
    fin_cases x
    · refine Fin.ext ?_; show win0_0.index t 0 * 8 + 1 * b.val = b.val; rw [a0]; omega
    · refine Fin.ext ?_; show win0_0.index t 1 * 1024 + 1 * d.val = d.val; rw [b0]; omega
  have h1 : ∀ d : Fin 1024, (iblk m c 1 t : Vec Ideal S1x1024x1024 .f32) (ix3 0 d ⟨n.val % 1024, by omega⟩)
      = (m ((c : Thread nD τ).loc main_arg1) : Vec Ideal S2x1024x3072 .f32) (ix3 l d n) := by
    intro d
    unfold iblk
    rw [View.read_apply]
    refine (congrFun (V_main_arg1 m c) _).trans (congrArg (m ((c : Thread nD τ).loc main_arg1)) ?_)
    funext x
    fin_cases x
    · refine Fin.ext ?_; show win0_1.index t 0 * 1 + 1 * 0 = l.val; rw [a1]; omega
    · refine Fin.ext ?_; show win0_1.index t 1 * 1024 + 1 * d.val = d.val; rw [b1]; omega
    · refine Fin.ext ?_; show win0_1.index t 2 * 1024 + 1 * (n.val % 1024) = n.val; rw [c1]; omega
  have h2 : (iblk m c 2 t : Vec Ideal S1x1x1024 .f32) (ix3 0 0 ⟨n.val % 1024, by omega⟩)
      = (m ((c : Thread nD τ).loc main_arg2) : Vec Ideal S2x3072 .f32) (ix2 l n) := by
    unfold iblk
    rw [View.read_apply]
    refine Eq.trans (congrArg (V m c main_v0) (?_ : _ = ix3 l 0 n)) ((congrFun (V_b m c) _).trans (row_apply _ l n))
    funext x
    fin_cases x
    · refine Fin.ext ?_; show win0_2.index t 0 * 1 + 1 * 0 = l.val; rw [a2]; omega
    · refine Fin.ext ?_; show win0_2.index t 1 * 1 + 1 * 0 = 0; rw [b2]
    · refine Fin.ext ?_; show win0_2.index t 2 * 1024 + 1 * (n.val % 1024) = n.val; rw [c2]; omega
  refine (congrFun (out_eq (iblk m c 0 t) (iblk m c 1 t) (iblk m c 2 t)) (ix3 0 b ⟨n.val % 1024, by omega⟩)).trans ?_
  rw [pay_apply _ _ _ b _ fun d => by rw [h0]; exact hx b d]
  unfold modulation
  simp only [h0, h1, h2]

end Cert.Kernel5Ideal.Ada

end
-- ==== Proof.AdaAlgebra.lean ====
/-
The claims about the conditioning products, from the two runs and the specification.
-/
module

public import proofs.«01_k».proof.Defs
public import proofs.«01_k».proof.Proof.AdaPoint
public import proofs.«01_k».proof.Proof.Gen.Reference5Ideal.Run
public import Idealize.ShloMosaic.Lib.Quiescent
public import Idealize.ShloMosaic.Lib.Claim

@[expose] public section

noncomputable section

open scoped BigOperators

namespace Cert.Reference5Ideal.Ada

open Cert.Reference5Ideal Cert.Reference5Ideal.Gen Idealize.ShloMosaic Idealize.SL.Sem
open Cert.Spec (silu modulation)

variable {F : FTy → Type} [FloatOps F]

/-- An array, by shape. -/
abbrev Arr (F : FTy → Type) [FloatOps F] (s : Shape) (e : EltTy) := (⟨s, e⟩ : BufTy).Contents (Elt F)

/-- The reference's result. -/
def result (a0 : Arr F S8x1024 .f32) (a1 : Arr F S2x1024x3072 .f32) (a2 : Arr F S2x3072 .f32) : Arr F S2x8x3072 .f32 :=
  addf (transpose S2x8x3072 [0, 2, 1] (Host.dotGeneral dot_S2x1024x3072_S8x1024_S2x3072x8_1_1_02_0_n_n none a1
    (mulf a0 (Host.divf (broadcastInDim S8x1024 ![] bcast_S_S8x1024 (constant S_ .f32 0x3F800000#32))
      (addf (broadcastInDim S8x1024 ![] bcast_S_S8x1024 (constant S_ .f32 0x3F800000#32)) (Host.exp (Host.negf a0))))))
    transposes_S2x3072x8_S2x8x3072_0_2_1)
    (broadcastInDim S2x8x3072 ![0, 1, 2] bcast_S2x1x3072_S2x8x3072_0_1_2 (broadcastInDim S2x1x3072 ![0, 2] bcast_S2x3072_S2x1x3072_0_2 a2))

/-- The reference's result is the specification's. -/
theorem result_apply (a0 : Arr Ideal S8x1024 .f32) (a1 : Arr Ideal S2x1024x3072 .f32) (a2 : Arr Ideal S2x3072 .f32)
    (l : Fin 2) (b : Fin 8) (n : Fin 3072) : result a0 a1 a2 (ix3 l b n) = modulation a0 a1 a2 l b n := by
  have key : result a0 a1 a2 (ix3 l b n) = (∑ d : Fin 1024, a1 (ix3 l d n) * silu (a0 (ix2 b d))) + a2 (ix2 l n) := by
    pointwise [result, silu]
    rfl
  rw [key]
  unfold modulation
  exact congrArg (· + _) (Finset.sum_congr rfl fun d _ => mul_comm _ _)

/-- The run of the reference. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Reference5Ideal.Ada

namespace Cert.AdaAlgebra

open Idealize.ShloMosaic Idealize.SL.Sem

theorem facts_pre : Cert.Pre_below_infinity.Facts where
  bcast_S_S8x1024 := by decide

/-- The precondition's bit at one element: below infinity. -/
theorem of_bit (x : EReal) (e : BitVec.ofBool (decide (x < Ideal.ofBits .f32 0x7F800000#32)) = 1#1) : x ≠ ⊤ := by
  have htop : Ideal.ofBits .f32 0x7F800000#32 = ⊤ := by simp [Ideal.ofBits, Ideal.ieee]
  rw [htop] at e
  by_cases hb : x < ⊤
  · exact ne_of_lt hb
  · rw [decide_eq_false hb] at e
    exact absurd e (by decide)

/-- Under the precondition no entry of the conditioning vector is plus infinity. -/
theorem vector_apply (m : (ℓ : Loc Cert.Kernel5Ideal.nD Cert.Kernel5Ideal.τ Cert.Kernel5Ideal.sig) → Buf (Elt Ideal) ℓ)
    (h : Cert.Pre_Kernel5Ideal_below_infinity (hPre_below_infinity := facts_pre) m) (c : Dev Cert.Kernel5Ideal.nD) (b : Fin 8) (d : Fin 1024) :
    ((m ((c.tc : Thread Cert.Kernel5Ideal.nD Cert.Kernel5Ideal.τ).loc Cert.Kernel5Ideal.main_arg0) : Vec Ideal Cert.Kernel5Ideal.S8x1024 .f32)
      (ix2 b d) : EReal) ≠ (⊤ : EReal) := by
  have e := congrFun (h c) (ix2 b d)
  revert e
  pointwise [Cert.Pre_below_infinity.fn]
  exact of_bit _

/-- Over the extended reals the kernel and the reference return the same array. -/
theorem algebraic : Cert.algebraic_Kernel5Ideal_Reference5Ideal_pre_below_infinity (hKernel5Ideal := Cert.Kernel5Ideal.Gen.facts)
    (hReference5Ideal := Cert.Reference5Ideal.Gen.facts) (hPre_below_infinity := facts_pre) := by
  intro m g m' g' h hagree
  refine ⟨fun c => (Cert.Kernel5Ideal.Gen.dats m 0 c).arrAt 3 Cert.Kernel5Ideal.cfg0.N, Cert.Kernel5Ideal.Value.run_blocks m g, ?_⟩
  refine (θ_run Cert.Reference5Ideal.defs _ _).mono (fun r hr c => ?_) (Cert.Reference5Ideal.Ada.run m' g')
  obtain ⟨h0, h1, h2⟩ := hagree c
  obtain ⟨e0, e⟩ := hr c
  refine ⟨e0.trans ?_, e⟩
  rw [h0, h1, h2]
  funext i
  rw [ValueIdx.eq_ix3 i]
  exact (Cert.Reference5Ideal.Ada.result_apply _ _ _ (i 0) (i 1) (i 2)).trans
    (Cert.Kernel5Ideal.Ada.out_apply m c (vector_apply m h c) (i 0) (i 1) (i 2)).symm

/-- The reference runs and leaves its arguments; it declares no semaphore. -/
theorem frame_reference : Cert.quiescent_Reference5Ideal (hReference5Ideal := Cert.Reference5Ideal.Gen.facts) := fun m g _ =>
  (θ_run Cert.Reference5Ideal.defs _ _).mono
    (fun r h => ⟨fun c => (h c).2, sem_eq_zero_of_no_sems (by decide) r.2⟩)
    (Cert.Reference5Ideal.Ada.run (F := Ideal) m g)

end Cert.AdaAlgebra

end
-- ==== Proof.AdaKvPoint.lean ====
/-
The conditioning products of the keys and values: what a grid point writes, and the array after the run.
-/
module

public import proofs.«01_k».proof.Proof.AdaSpec
public import proofs.«01_k».proof.Proof.Gen.Kernel6Ideal.Value

@[expose] public section

noncomputable section

open scoped BigOperators

namespace Cert.Kernel6Ideal.AdaKv

open Cert.Kernel6Ideal Cert.Kernel6Ideal.Gen Idealize.ShloMosaic Idealize.ShloMosaic.TcCoe Idealize.SL.Sem
open Cert.Spec (silu modulationKv silu_sub)

variable (m : (ℓ : Loc nD τ sig) → Buf (Elt Ideal) ℓ) (c : Dev nD)

theorem zero2 : (![0, 0] : Fin 2 → ℕ) = fun _ => 0 := by decide
theorem zero3 : (![0, 0, 0] : Fin 3 → ℕ) = fun _ => 0 := by decide

/-- The stored value: the product of the silu, the product of what its rounding left, and the bias. -/
theorem pay_raw (x0 : Vec Ideal S8x1024 .f32) (x1 : Vec Ideal S1x1024x1024 .f32) (x2 : Vec Ideal S1x1x1024 .f32) (b : Fin 8) (n : Fin 1024) :
    k0_pay1 x0 x1 x2 (ix3 0 b n) = (∑ d : Fin 1024, silu (x0 (ix2 b d)) * x1 (ix3 0 d n))
      + (∑ d : Fin 1024, (silu (x0 (ix2 b d)) - silu (x0 (ix2 b d))) * x1 (ix3 0 d n)) + x2 (ix3 0 0 n) := by
  pointwise [k0_pay1, silu]

/-- Below infinity the rounding leaves nothing. -/
theorem pay_apply (x0 : Vec Ideal S8x1024 .f32) (x1 : Vec Ideal S1x1024x1024 .f32) (x2 : Vec Ideal S1x1x1024 .f32) (b : Fin 8) (n : Fin 1024)
    (hx : ∀ d : Fin 1024, x0 (ix2 b d) ≠ ⊤) :
    k0_pay1 x0 x1 x2 (ix3 0 b n) = (∑ d : Fin 1024, silu (x0 (ix2 b d)) * x1 (ix3 0 d n)) + x2 (ix3 0 0 n) := by
  have e : (∑ d : Fin 1024, (silu (x0 (ix2 b d)) - silu (x0 (ix2 b d))) * x1 (ix3 0 d n)) = 0 :=
    Finset.sum_eq_zero fun d _ => by rw [silu_sub _ (hx d), zero_mul]
  rw [pay_raw, e, add_zero]

/-- The body's result for its blocks is the stored value. -/
theorem out_eq (x0 : Vec Ideal S8x1024 .f32) (x1 : Vec Ideal S1x1024x1024 .f32) (x2 : Vec Ideal S1x1x1024 .f32) :
    out0_3 x0 x1 x2 = k0_pay1 x0 x1 x2 := by
  unfold out0_3
  refine (View.canon_unit_zero (S := S1x8x1024) zero3 _ _).trans ?_
  rw [View.ld_unit_zero zero2, View.ld_unit_zero zero3, View.ld_unit_zero zero3]

/-- The weights as the host code lays them out: with a leading axis. -/
theorem V_w : V m c main_v0 = broadcastInDim S1x1024x2048 ![1, 2] bcast_S1024x2048_S1x1024x2048_1_2 (m ((c : Thread nD τ).loc main_arg1)) := by
  unfold V
  simp only [hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

/-- The bias as the host code lays it out: with two leading axes. -/
theorem V_b : V m c main_v2 = shapeCast _ (broadcastInDim S1x2048 ![1] bcast_S2048_S1x2048_1 (m ((c : Thread nD τ).loc main_arg2)))
    shapeCasts_S1x2048_S1x1x2048 := by
  unfold V
  simp only [hostOps0, List.flatten_cons, List.flatten_nil, List.append_nil, List.cons_append,
    List.nil_append, StableHlo.TRef.binary, StableHlo.TRef.unary, StableHlo.TRef.toBuf, StableHlo.TRef.ofBuf, cast_eq]
  after_results_simp <;> rfl

theorem weights_apply (x : Vec Ideal S1024x2048 .f32) (d : Fin 1024) (n : Fin 2048) :
    broadcastInDim S1x1024x2048 ![1, 2] bcast_S1024x2048_S1x1024x2048_1_2 x (ix3 0 d n) = x (ix2 d n) := by
  pointwise

theorem row_apply (x : Vec Ideal S2048 .f32) (n : Fin 2048) :
    shapeCast S1x1x2048 (broadcastInDim S1x2048 ![1] bcast_S2048_S1x2048_1 x) shapeCasts_S1x2048_S1x1x2048 (ix3 0 0 n) = x (ix1 n) := by
  pointwise

/-- The blocks a point reads and writes. -/
theorem points : ∀ t : Fin cfg0.N, (cfg0.win 3).flush t = true
    ∧ win0_0.index t 0 = 0 ∧ win0_0.index t 1 = 0
    ∧ win0_1.index t 0 = 0 ∧ win0_1.index t 1 = 0 ∧ win0_1.index t 2 = t.val
    ∧ win0_2.index t 0 = 0 ∧ win0_2.index t 1 = 0 ∧ win0_2.index t 2 = t.val
    ∧ win0_3.index t 0 = 0 ∧ win0_3.index t 1 = 0 ∧ win0_3.index t 2 = t.val :=
  (by decide +kernel : ∀ t : Fin grid0.N, _)

/-- The array after the run is the specification's, where no entry of the vector is plus infinity. -/
theorem out_apply (hx : ∀ (b : Fin 8) (d : Fin 1024), ((m ((c : Thread nD τ).loc main_arg0) : Vec Ideal S8x1024 .f32) (ix2 b d) : EReal) ≠ (⊤ : EReal))
    (b : Fin 8) (n : Fin 2048) :
    ((dats m 0 c).arrAt 3 cfg0.N : Vec Ideal S1x8x2048 .f32) (ix3 0 b n)
      = modulationKv (m ((c : Thread nD τ).loc main_arg0)) (m ((c : Thread nD τ).loc main_arg1)) (m ((c : Thread nD τ).loc main_arg2)) b n := by
  have ht : n.val / 1024 < cfg0.N := lt_of_lt_of_eq (by omega) N_0.symm
  obtain ⟨hf, a0, b0, a1, b1, c1, a2, b2, c2, a3, b3, c3⟩ := points ⟨n.val / 1024, ht⟩
  generalize ht' : (⟨n.val / 1024, ht⟩ : Fin cfg0.N) = t at *
  have hv : t.val = n.val / 1024 := by rw [← ht']
  have e := congrFun ((Value.blocks3 m c t hf).trans (Value.flushed3 m c t)) (ix3 0 b ⟨n.val % 1024, by omega⟩)
  rw [View.read_apply] at e
  have he : ((cfg0.win 3).blk t).view.emb (ix3 0 b ⟨n.val % 1024, by omega⟩) = ix3 0 b n := by
    funext x
    fin_cases x
    · refine Fin.ext ?_; show win0_3.index t 0 * 1 + 1 * 0 = 0; rw [a3]
    · refine Fin.ext ?_; show win0_3.index t 1 * 8 + 1 * b.val = b.val; rw [b3]; omega
    · refine Fin.ext ?_; show win0_3.index t 2 * 1024 + 1 * (n.val % 1024) = n.val; rw [c3]; omega
  rw [he] at e
  refine e.trans ?_
  have h0 : ∀ d : Fin 1024, (iblk m c 0 t : Vec Ideal S8x1024 .f32) (ix2 b d) = (m ((c : Thread nD τ).loc main_arg0) : Vec Ideal S8x1024 .f32) (ix2 b d) := by
    intro d
    unfold iblk
    rw [View.read_apply]
    refine (congrFun (V_main_arg0 m c) _).trans (congrArg (m ((c : Thread nD τ).loc main_arg0)) ?_)
    funext x
    fin_cases x
    · refine Fin.ext ?_; show win0_0.index t 0 * 8 + 1 * b.val = b.val; rw [a0]; omega
    · refine Fin.ext ?_; show win0_0.index t 1 * 1024 + 1 * d.val = d.val; rw [b0]; omega
  have h1 : ∀ d : Fin 1024, (iblk m c 1 t : Vec Ideal S1x1024x1024 .f32) (ix3 0 d ⟨n.val % 1024, by omega⟩)
      = (m ((c : Thread nD τ).loc main_arg1) : Vec Ideal S1024x2048 .f32) (ix2 d n) := by
    intro d
    unfold iblk
    rw [View.read_apply]
    refine Eq.trans (congrArg (V m c main_v0) (?_ : _ = ix3 0 d n)) ((congrFun (V_w m c) _).trans (weights_apply _ d n))
    funext x
    fin_cases x
    · refine Fin.ext ?_; show win0_1.index t 0 * 1 + 1 * 0 = 0; rw [a1]
    · refine Fin.ext ?_; show win0_1.index t 1 * 1024 + 1 * d.val = d.val; rw [b1]; omega
    · refine Fin.ext ?_; show win0_1.index t 2 * 1024 + 1 * (n.val % 1024) = n.val; rw [c1]; omega
  have h2 : (iblk m c 2 t : Vec Ideal S1x1x1024 .f32) (ix3 0 0 ⟨n.val % 1024, by omega⟩)
      = (m ((c : Thread nD τ).loc main_arg2) : Vec Ideal S2048 .f32) (ix1 n) := by
    unfold iblk
    rw [View.read_apply]
    refine Eq.trans (congrArg (V m c main_v2) (?_ : _ = ix3 0 0 n)) ((congrFun (V_b m c) _).trans (row_apply _ n))
    funext x
    fin_cases x
    · refine Fin.ext ?_; show win0_2.index t 0 * 1 + 1 * 0 = 0; rw [a2]
    · refine Fin.ext ?_; show win0_2.index t 1 * 1 + 1 * 0 = 0; rw [b2]
    · refine Fin.ext ?_; show win0_2.index t 2 * 1024 + 1 * (n.val % 1024) = n.val; rw [c2]; omega
  refine (congrFun (out_eq (iblk m c 0 t) (iblk m c 1 t) (iblk m c 2 t)) (ix3 0 b ⟨n.val % 1024, by omega⟩)).trans ?_
  rw [pay_apply _ _ _ b _ fun d => by rw [h0]; exact hx b d]
  unfold modulationKv
  simp only [h0, h1, h2]

end Cert.Kernel6Ideal.AdaKv

end
-- ==== Proof.AdaKvAlgebra.lean ====
/-
The claims about the conditioning products of the keys and values, from the two runs and the specification.
-/
module

public import proofs.«01_k».proof.Defs
public import proofs.«01_k».proof.Proof.AdaKvPoint
public import proofs.«01_k».proof.Proof.AdaAlgebra
public import proofs.«01_k».proof.Proof.Gen.Reference6Ideal.Run
public import Idealize.ShloMosaic.Lib.Quiescent
public import Idealize.ShloMosaic.Lib.Claim

@[expose] public section

noncomputable section

open scoped BigOperators

namespace Cert.Reference6Ideal.AdaKv

open Cert.Reference6Ideal Cert.Reference6Ideal.Gen Idealize.ShloMosaic Idealize.SL.Sem
open Cert.Spec (silu modulationKv)

variable {F : FTy → Type} [FloatOps F]

/-- An array, by shape. -/
abbrev Arr (F : FTy → Type) [FloatOps F] (s : Shape) (e : EltTy) := (⟨s, e⟩ : BufTy).Contents (Elt F)

/-- The reference's result. -/
def result (a0 : Arr F S8x1024 .f32) (a1 : Arr F S1024x2048 .f32) (a2 : Arr F S2048 .f32) : Arr F S1x8x2048 .f32 :=
  broadcastInDim S1x8x2048 ![1, 2] bcast_S8x2048_S1x8x2048_1_2 (addf (Host.dotGeneral dot_S8x1024_S1024x2048_S8x2048_1_0_0_1_n_n none
    (mulf a0 (Host.divf (broadcastInDim S8x1024 ![] bcast_S_S8x1024 (constant S_ .f32 0x3F800000#32))
      (addf (broadcastInDim S8x1024 ![] bcast_S_S8x1024 (constant S_ .f32 0x3F800000#32)) (Host.exp (Host.negf a0))))) a1)
    (broadcastInDim S8x2048 ![0, 1] bcast_S1x2048_S8x2048_0_1 (broadcastInDim S1x2048 ![1] bcast_S2048_S1x2048_1 a2)))

/-- The reference's result is the specification's. -/
theorem result_apply (a0 : Arr Ideal S8x1024 .f32) (a1 : Arr Ideal S1024x2048 .f32) (a2 : Arr Ideal S2048 .f32)
    (b : Fin 8) (n : Fin 2048) : result a0 a1 a2 (ix3 0 b n) = modulationKv a0 a1 a2 b n := by
  pointwise [result, silu, modulationKv]
  rfl

/-- The run of the reference. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Reference6Ideal.AdaKv

namespace Cert.AdaKvAlgebra

open Idealize.ShloMosaic Idealize.SL.Sem

theorem facts_pre : Cert.Pre_below_infinity_kv.Facts where
  bcast_S_S8x1024 := by decide

/-- Under the precondition no entry of the conditioning vector is plus infinity. -/
theorem vector_apply (m : (ℓ : Loc Cert.Kernel6Ideal.nD Cert.Kernel6Ideal.τ Cert.Kernel6Ideal.sig) → Buf (Elt Ideal) ℓ)
    (h : Cert.Pre_Kernel6Ideal_below_infinity_kv (hPre_below_infinity_kv := facts_pre) m) (c : Dev Cert.Kernel6Ideal.nD) (b : Fin 8) (d : Fin 1024) :
    ((m ((c.tc : Thread Cert.Kernel6Ideal.nD Cert.Kernel6Ideal.τ).loc Cert.Kernel6Ideal.main_arg0) : Vec Ideal Cert.Kernel6Ideal.S8x1024 .f32)
      (ix2 b d) : EReal) ≠ (⊤ : EReal) := by
  have e := congrFun (h c) (ix2 b d)
  revert e
  pointwise [Cert.Pre_below_infinity_kv.fn]
  exact Cert.AdaAlgebra.of_bit _

/-- Over the extended reals the kernel and the reference return the same array. -/
theorem algebraic : Cert.algebraic_Kernel6Ideal_Reference6Ideal_pre_below_infinity_kv (hKernel6Ideal := Cert.Kernel6Ideal.Gen.facts)
    (hReference6Ideal := Cert.Reference6Ideal.Gen.facts) (hPre_below_infinity_kv := facts_pre) := by
  intro m g m' g' h hagree
  refine ⟨fun c => (Cert.Kernel6Ideal.Gen.dats m 0 c).arrAt 3 Cert.Kernel6Ideal.cfg0.N, Cert.Kernel6Ideal.Value.run_blocks m g, ?_⟩
  refine (θ_run Cert.Reference6Ideal.defs _ _).mono (fun r hr c => ?_) (Cert.Reference6Ideal.AdaKv.run m' g')
  obtain ⟨h0, h1, h2⟩ := hagree c
  obtain ⟨e0, e⟩ := hr c
  refine ⟨e0.trans ?_, e⟩
  rw [h0, h1, h2]
  funext i
  rw [ValueIdx.eq_ix3 i]
  have h0 : i 0 = (0 : Fin 1) := Subsingleton.elim (α := Fin 1) _ _
  rw [h0]
  exact (Cert.Reference6Ideal.AdaKv.result_apply _ _ _ (i 1) (i 2)).trans
    (Cert.Kernel6Ideal.AdaKv.out_apply m c (vector_apply m h c) (i 1) (i 2)).symm

/-- The reference runs and leaves its arguments; it declares no semaphore. -/
theorem frame_reference : Cert.quiescent_Reference6Ideal (hReference6Ideal := Cert.Reference6Ideal.Gen.facts) := fun m g _ =>
  (θ_run Cert.Reference6Ideal.defs _ _).mono
    (fun r h => ⟨fun c => (h c).2, sem_eq_zero_of_no_sems (by decide) r.2⟩)
    (Cert.Reference6Ideal.AdaKv.run (F := Ideal) m g)

end Cert.AdaKvAlgebra

end
-- ==== Proof.lean ====
/-
The proof of `Cert.Claim`: the frames of the kernels are the generated ones, the references' are read off their runs, and
`Proof/Algebra.lean`, `Proof/KvqAlgebra.lean`, `Proof/GpAlgebra.lean`, `Proof/OutAlgebra.lean`, `Proof/AdaAlgebra.lean` and `Proof/AdaKvAlgebra.lean` prove that
kernel and reference return the same arrays over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Algebra
public import proofs.«01_k».proof.Proof.KvqAlgebra
public import proofs.«01_k».proof.Proof.GpAlgebra
public import proofs.«01_k».proof.Proof.OutAlgebra
public import proofs.«01_k».proof.Proof.AdaAlgebra
public import proofs.«01_k».proof.Proof.AdaKvAlgebra

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Algebra.facts_pre, Cert.AdaAlgebra.facts_pre, Cert.AdaKvAlgebra.facts_pre,
    fun m g _ => Cert.Kernel.Gen.frame m g, fun m g _ => Cert.KernelIdeal.Gen.frame m g, fun m g _ => Cert.KernelIdeal.Gen.frame m g,
    Cert.Algebra.frame_reference, fun m g _ => Cert.Algebra.frame_reference m g trivial,
    fun m g _ => Cert.Kernel2.Gen.frame m g, fun m g _ => Cert.Kernel2Ideal.Gen.frame m g, Cert.KvqAlgebra.frame_reference,
    fun m g _ => Cert.Kernel3.Gen.frame m g, fun m g _ => Cert.Kernel3Ideal.Gen.frame m g, Cert.GpAlgebra.frame_reference,
    fun m g _ => Cert.Kernel4.Gen.frame m g, fun m g _ => Cert.Kernel4Ideal.Gen.frame m g, Cert.OutAlgebra.frame_reference,
    fun m g _ => Cert.Kernel5.Gen.frame m g, fun m g _ => Cert.Kernel5Ideal.Gen.frame m g, fun m g _ => Cert.Kernel5Ideal.Gen.frame m g,
    Cert.AdaAlgebra.frame_reference, fun m g _ => Cert.AdaAlgebra.frame_reference m g trivial,
    fun m g _ => Cert.Kernel6.Gen.frame m g, fun m g _ => Cert.Kernel6Ideal.Gen.frame m g, fun m g _ => Cert.Kernel6Ideal.Gen.frame m g,
    Cert.AdaKvAlgebra.frame_reference, fun m g _ => Cert.AdaKvAlgebra.frame_reference m g trivial,
    trivial, Cert.Algebra.algebraic, trivial, Cert.KvqAlgebra.algebraic, trivial, Cert.GpAlgebra.algebraic,
    trivial, Cert.OutAlgebra.algebraic, trivial, Cert.AdaAlgebra.algebraic, trivial, Cert.AdaKvAlgebra.algebraic⟩

end Cert.Proof

end
